-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Codes (m : (ℓ : Loc Cert.Codes.nD Cert.Codes.τ Cert.Codes.sig) → Buf (Elt Bits) ℓ) : Prop :=
  True

def Pre_CodesIdeal (m : (ℓ : Loc Cert.CodesIdeal.nD Cert.CodesIdeal.τ Cert.CodesIdeal.sig) → Buf (Elt Ideal) ℓ) : Prop :=
  True

def Pre_CodesIdeal_folded_weight_is_finite [hPre_folded_weight_is_finite : Cert.Pre_folded_weight_is_finite.Facts] (m : (ℓ : Loc Cert.CodesIdeal.nD Cert.CodesIdeal.τ Cert.CodesIdeal.sig) → Buf (Elt Ideal) ℓ) : Prop :=
  ∀ c : Dev Cert.CodesIdeal.nD,
    (Cert.Pre_folded_weight_is_finite.fn (F := Ideal) (m ((c.tc : Thread Cert.CodesIdeal.nD Cert.CodesIdeal.τ).loc Cert.CodesIdeal.main_arg0)) (m ((c.tc : Thread Cert.CodesIdeal.nD Cert.CodesIdeal.τ).loc Cert.CodesIdeal.main_arg1)) (m ((c.tc : Thread Cert.CodesIdeal.nD Cert.CodesIdeal.τ).loc Cert.CodesIdeal.main_arg2))) = (fun _ => 1#1)

def Pre_CodesRefIdeal (m : (ℓ : Loc Cert.CodesRefIdeal.nD Cert.CodesRefIdeal.τ Cert.CodesRefIdeal.sig) → Buf (Elt Ideal) ℓ) : Prop :=
  True

def Pre_CodesRefIdeal_folded_weight_is_finite [hPre_folded_weight_is_finite : Cert.Pre_folded_weight_is_finite.Facts] (m : (ℓ : Loc Cert.CodesRefIdeal.nD Cert.CodesRefIdeal.τ Cert.CodesRefIdeal.sig) → Buf (Elt Ideal) ℓ) : Prop :=
  ∀ c : Dev Cert.CodesRefIdeal.nD,
    (Cert.Pre_folded_weight_is_finite.fn (F := Ideal) (m ((c.tc : Thread Cert.CodesRefIdeal.nD Cert.CodesRefIdeal.τ).loc Cert.CodesRefIdeal.main_arg0)) (m ((c.tc : Thread Cert.CodesRefIdeal.nD Cert.CodesRefIdeal.τ).loc Cert.CodesRefIdeal.main_arg1)) (m ((c.tc : Thread Cert.CodesRefIdeal.nD Cert.CodesRefIdeal.τ).loc Cert.CodesRefIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Codes [hCodes : Cert.Codes.Facts] : Prop :=
  ∀ (m : (ℓ : Loc Cert.Codes.nD Cert.Codes.τ Cert.Codes.sig) → Buf (Elt Bits) ℓ) (g : Dev Cert.Codes.nD → PrngReg), Pre_Codes m →
    θ_run (Cert.Codes.defs (F := Bits)) (onTc (τ := Cert.Codes.τ) (Cert.Codes.main (F := Bits))) ⟨m, fun _ => 0, g⟩ (fun r => (∀ c : Dev Cert.Codes.nD,
      r.2.mem ((c.tc : Thread Cert.Codes.nD Cert.Codes.τ).loc Cert.Codes.main_arg0) = m ((c.tc : Thread Cert.Codes.nD Cert.Codes.τ).loc Cert.Codes.main_arg0)
      ∧ r.2.mem ((c.tc : Thread Cert.Codes.nD Cert.Codes.τ).loc Cert.Codes.main_arg1) = m ((c.tc : Thread Cert.Codes.nD Cert.Codes.τ).loc Cert.Codes.main_arg1)
      ∧ r.2.mem ((c.tc : Thread Cert.Codes.nD Cert.Codes.τ).loc Cert.Codes.main_arg2) = m ((c.tc : Thread Cert.Codes.nD Cert.Codes.τ).loc Cert.Codes.main_arg2))
      ∧ r.2.sem = fun _ => 0)

def quiescent_CodesIdeal [hCodesIdeal : Cert.CodesIdeal.Facts] : Prop :=
  ∀ (m : (ℓ : Loc Cert.CodesIdeal.nD Cert.CodesIdeal.τ Cert.CodesIdeal.sig) → Buf (Elt Ideal) ℓ) (g : Dev Cert.CodesIdeal.nD → PrngReg), Pre_CodesIdeal m →
    θ_run (Cert.CodesIdeal.defs (F := Ideal)) (onTc (τ := Cert.CodesIdeal.τ) (Cert.CodesIdeal.main (F := Ideal))) ⟨m, fun _ => 0, g⟩ (fun r => (∀ c : Dev Cert.CodesIdeal.nD,
      r.2.mem ((c.tc : Thread Cert.CodesIdeal.nD Cert.CodesIdeal.τ).loc Cert.CodesIdeal.main_arg0) = m ((c.tc : Thread Cert.CodesIdeal.nD Cert.CodesIdeal.τ).loc Cert.CodesIdeal.main_arg0)
      ∧ r.2.mem ((c.tc : Thread Cert.CodesIdeal.nD Cert.CodesIdeal.τ).loc Cert.CodesIdeal.main_arg1) = m ((c.tc : Thread Cert.CodesIdeal.nD Cert.CodesIdeal.τ).loc Cert.CodesIdeal.main_arg1)
      ∧ r.2.mem ((c.tc : Thread Cert.CodesIdeal.nD Cert.CodesIdeal.τ).loc Cert.CodesIdeal.main_arg2) = m ((c.tc : Thread Cert.CodesIdeal.nD Cert.CodesIdeal.τ).loc Cert.CodesIdeal.main_arg2))
      ∧ r.2.sem = fun _ => 0)

def quiescent_CodesIdeal_pre_folded_weight_is_finite [hCodesIdeal : Cert.CodesIdeal.Facts] [hPre_folded_weight_is_finite : Cert.Pre_folded_weight_is_finite.Facts] : Prop :=
  ∀ (m : (ℓ : Loc Cert.CodesIdeal.nD Cert.CodesIdeal.τ Cert.CodesIdeal.sig) → Buf (Elt Ideal) ℓ) (g : Dev Cert.CodesIdeal.nD → PrngReg), Pre_CodesIdeal_folded_weight_is_finite m →
    θ_run (Cert.CodesIdeal.defs (F := Ideal)) (onTc (τ := Cert.CodesIdeal.τ) (Cert.CodesIdeal.main (F := Ideal))) ⟨m, fun _ => 0, g⟩ (fun r => (∀ c : Dev Cert.CodesIdeal.nD,
      r.2.mem ((c.tc : Thread Cert.CodesIdeal.nD Cert.CodesIdeal.τ).loc Cert.CodesIdeal.main_arg0) = m ((c.tc : Thread Cert.CodesIdeal.nD Cert.CodesIdeal.τ).loc Cert.CodesIdeal.main_arg0)
      ∧ r.2.mem ((c.tc : Thread Cert.CodesIdeal.nD Cert.CodesIdeal.τ).loc Cert.CodesIdeal.main_arg1) = m ((c.tc : Thread Cert.CodesIdeal.nD Cert.CodesIdeal.τ).loc Cert.CodesIdeal.main_arg1)
      ∧ r.2.mem ((c.tc : Thread Cert.CodesIdeal.nD Cert.CodesIdeal.τ).loc Cert.CodesIdeal.main_arg2) = m ((c.tc : Thread Cert.CodesIdeal.nD Cert.CodesIdeal.τ).loc Cert.CodesIdeal.main_arg2))
      ∧ r.2.sem = fun _ => 0)

def quiescent_CodesRefIdeal [hCodesRefIdeal : Cert.CodesRefIdeal.Facts] : Prop :=
  ∀ (m : (ℓ : Loc Cert.CodesRefIdeal.nD Cert.CodesRefIdeal.τ Cert.CodesRefIdeal.sig) → Buf (Elt Ideal) ℓ) (g : Dev Cert.CodesRefIdeal.nD → PrngReg), Pre_CodesRefIdeal m →
    θ_run (Cert.CodesRefIdeal.defs (F := Ideal)) (onTc (τ := Cert.CodesRefIdeal.τ) (Cert.CodesRefIdeal.main (F := Ideal))) ⟨m, fun _ => 0, g⟩ (fun r => (∀ c : Dev Cert.CodesRefIdeal.nD,
      r.2.mem ((c.tc : Thread Cert.CodesRefIdeal.nD Cert.CodesRefIdeal.τ).loc Cert.CodesRefIdeal.main_arg0) = m ((c.tc : Thread Cert.CodesRefIdeal.nD Cert.CodesRefIdeal.τ).loc Cert.CodesRefIdeal.main_arg0)
      ∧ r.2.mem ((c.tc : Thread Cert.CodesRefIdeal.nD Cert.CodesRefIdeal.τ).loc Cert.CodesRefIdeal.main_arg1) = m ((c.tc : Thread Cert.CodesRefIdeal.nD Cert.CodesRefIdeal.τ).loc Cert.CodesRefIdeal.main_arg1)
      ∧ r.2.mem ((c.tc : Thread Cert.CodesRefIdeal.nD Cert.CodesRefIdeal.τ).loc Cert.CodesRefIdeal.main_arg2) = m ((c.tc : Thread Cert.CodesRefIdeal.nD Cert.CodesRefIdeal.τ).loc Cert.CodesRefIdeal.main_arg2))
      ∧ r.2.sem = fun _ => 0)

def quiescent_CodesRefIdeal_pre_folded_weight_is_finite [hCodesRefIdeal : Cert.CodesRefIdeal.Facts] [hPre_folded_weight_is_finite : Cert.Pre_folded_weight_is_finite.Facts] : Prop :=
  ∀ (m : (ℓ : Loc Cert.CodesRefIdeal.nD Cert.CodesRefIdeal.τ Cert.CodesRefIdeal.sig) → Buf (Elt Ideal) ℓ) (g : Dev Cert.CodesRefIdeal.nD → PrngReg), Pre_CodesRefIdeal_folded_weight_is_finite m →
    θ_run (Cert.CodesRefIdeal.defs (F := Ideal)) (onTc (τ := Cert.CodesRefIdeal.τ) (Cert.CodesRefIdeal.main (F := Ideal))) ⟨m, fun _ => 0, g⟩ (fun r => (∀ c : Dev Cert.CodesRefIdeal.nD,
      r.2.mem ((c.tc : Thread Cert.CodesRefIdeal.nD Cert.CodesRefIdeal.τ).loc Cert.CodesRefIdeal.main_arg0) = m ((c.tc : Thread Cert.CodesRefIdeal.nD Cert.CodesRefIdeal.τ).loc Cert.CodesRefIdeal.main_arg0)
      ∧ r.2.mem ((c.tc : Thread Cert.CodesRefIdeal.nD Cert.CodesRefIdeal.τ).loc Cert.CodesRefIdeal.main_arg1) = m ((c.tc : Thread Cert.CodesRefIdeal.nD Cert.CodesRefIdeal.τ).loc Cert.CodesRefIdeal.main_arg1)
      ∧ r.2.mem ((c.tc : Thread Cert.CodesRefIdeal.nD Cert.CodesRefIdeal.τ).loc Cert.CodesRefIdeal.main_arg2) = m ((c.tc : Thread Cert.CodesRefIdeal.nD Cert.CodesRefIdeal.τ).loc Cert.CodesRefIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Codes_CodesIdeal : Prop :=
  True

def algebraic_CodesIdeal_CodesRefIdeal_pre_folded_weight_is_finite [hCodesIdeal : Cert.CodesIdeal.Facts] [hCodesRefIdeal : Cert.CodesRefIdeal.Facts] [hPre_folded_weight_is_finite : Cert.Pre_folded_weight_is_finite.Facts] : Prop :=
  ∀ (m : (ℓ : Loc Cert.CodesIdeal.nD Cert.CodesIdeal.τ Cert.CodesIdeal.sig) → Buf (Elt Ideal) ℓ) (g : Dev Cert.CodesIdeal.nD → PrngReg)
    (m' : (ℓ : Loc Cert.CodesRefIdeal.nD Cert.CodesRefIdeal.τ Cert.CodesRefIdeal.sig) → Buf (Elt Ideal) ℓ) (g' : Dev Cert.CodesRefIdeal.nD → PrngReg), Pre_CodesIdeal_folded_weight_is_finite m →
    (∀ c : Dev Cert.CodesIdeal.nD,
      m' ((c.tc : Thread Cert.CodesRefIdeal.nD Cert.CodesRefIdeal.τ).loc Cert.CodesRefIdeal.main_arg0) = m ((c.tc : Thread Cert.CodesIdeal.nD Cert.CodesIdeal.τ).loc Cert.CodesIdeal.main_arg0)
      ∧ m' ((c.tc : Thread Cert.CodesRefIdeal.nD Cert.CodesRefIdeal.τ).loc Cert.CodesRefIdeal.main_arg1) = m ((c.tc : Thread Cert.CodesIdeal.nD Cert.CodesIdeal.τ).loc Cert.CodesIdeal.main_arg1)
      ∧ m' ((c.tc : Thread Cert.CodesRefIdeal.nD Cert.CodesRefIdeal.τ).loc Cert.CodesRefIdeal.main_arg2) = m ((c.tc : Thread Cert.CodesIdeal.nD Cert.CodesIdeal.τ).loc Cert.CodesIdeal.main_arg2)) →
    ∃ (v0 : (c : Dev Cert.CodesIdeal.nD) → Buf (Elt Ideal) ((c.tc : Thread Cert.CodesIdeal.nD Cert.CodesIdeal.τ).loc Cert.CodesIdeal.main_v2_0)) (v1 : (c : Dev Cert.CodesIdeal.nD) → Buf (Elt Ideal) ((c.tc : Thread Cert.CodesIdeal.nD Cert.CodesIdeal.τ).loc Cert.CodesIdeal.main_v2_1)),
      θ_run (Cert.CodesIdeal.defs (F := Ideal)) (onTc (τ := Cert.CodesIdeal.τ) (Cert.CodesIdeal.main (F := Ideal))) ⟨m, fun _ => 0, g⟩ (fun r => ∀ c : Dev Cert.CodesIdeal.nD,
          r.2.mem ((c.tc : Thread Cert.CodesIdeal.nD Cert.CodesIdeal.τ).loc Cert.CodesIdeal.main_v2_0) = v0 c
          ∧ r.2.mem ((c.tc : Thread Cert.CodesIdeal.nD Cert.CodesIdeal.τ).loc Cert.CodesIdeal.main_v2_1) = v1 c
          ∧ r.2.mem ((c.tc : Thread Cert.CodesIdeal.nD Cert.CodesIdeal.τ).loc Cert.CodesIdeal.main_arg0) = m ((c.tc : Thread Cert.CodesIdeal.nD Cert.CodesIdeal.τ).loc Cert.CodesIdeal.main_arg0)
          ∧ r.2.mem ((c.tc : Thread Cert.CodesIdeal.nD Cert.CodesIdeal.τ).loc Cert.CodesIdeal.main_arg1) = m ((c.tc : Thread Cert.CodesIdeal.nD Cert.CodesIdeal.τ).loc Cert.CodesIdeal.main_arg1)
          ∧ r.2.mem ((c.tc : Thread Cert.CodesIdeal.nD Cert.CodesIdeal.τ).loc Cert.CodesIdeal.main_arg2) = m ((c.tc : Thread Cert.CodesIdeal.nD Cert.CodesIdeal.τ).loc Cert.CodesIdeal.main_arg2))
      ∧ θ_run (Cert.CodesRefIdeal.defs (F := Ideal)) (onTc (τ := Cert.CodesRefIdeal.τ) (Cert.CodesRefIdeal.main (F := Ideal))) ⟨m', fun _ => 0, g'⟩ (fun r => ∀ c : Dev Cert.CodesRefIdeal.nD,
          r.2.mem ((c.tc : Thread Cert.CodesRefIdeal.nD Cert.CodesRefIdeal.τ).loc Cert.CodesRefIdeal.main_v76) = v0 c
          ∧ r.2.mem ((c.tc : Thread Cert.CodesRefIdeal.nD Cert.CodesRefIdeal.τ).loc Cert.CodesRefIdeal.main_v77) = v1 c
          ∧ r.2.mem ((c.tc : Thread Cert.CodesRefIdeal.nD Cert.CodesRefIdeal.τ).loc Cert.CodesRefIdeal.main_arg0) = m' ((c.tc : Thread Cert.CodesRefIdeal.nD Cert.CodesRefIdeal.τ).loc Cert.CodesRefIdeal.main_arg0)
          ∧ r.2.mem ((c.tc : Thread Cert.CodesRefIdeal.nD Cert.CodesRefIdeal.τ).loc Cert.CodesRefIdeal.main_arg1) = m' ((c.tc : Thread Cert.CodesRefIdeal.nD Cert.CodesRefIdeal.τ).loc Cert.CodesRefIdeal.main_arg1)
          ∧ r.2.mem ((c.tc : Thread Cert.CodesRefIdeal.nD Cert.CodesRefIdeal.τ).loc Cert.CodesRefIdeal.main_arg2) = m' ((c.tc : Thread Cert.CodesRefIdeal.nD Cert.CodesRefIdeal.τ).loc Cert.CodesRefIdeal.main_arg2))

def Claim : Prop :=
  ∃ (hKernel : Cert.Kernel.Facts) (hKernelIdeal : Cert.KernelIdeal.Facts) (hReferenceIdeal : Cert.ReferenceIdeal.Facts) (hCodes : Cert.Codes.Facts) (hCodesIdeal : Cert.CodesIdeal.Facts) (hCodesRefIdeal : Cert.CodesRefIdeal.Facts) (hPre_folded_weight_is_finite : Cert.Pre_folded_weight_is_finite.Facts),
    quiescent_Kernel (hKernel := hKernel)
    ∧ quiescent_KernelIdeal (hKernelIdeal := hKernelIdeal)
    ∧ quiescent_ReferenceIdeal (hReferenceIdeal := hReferenceIdeal)
    ∧ quiescent_Codes (hCodes := hCodes)
    ∧ quiescent_CodesIdeal (hCodesIdeal := hCodesIdeal)
    ∧ quiescent_CodesIdeal_pre_folded_weight_is_finite (hCodesIdeal := hCodesIdeal) (hPre_folded_weight_is_finite := hPre_folded_weight_is_finite)
    ∧ quiescent_CodesRefIdeal (hCodesRefIdeal := hCodesRefIdeal)
    ∧ quiescent_CodesRefIdeal_pre_folded_weight_is_finite (hCodesRefIdeal := hCodesRefIdeal) (hPre_folded_weight_is_finite := hPre_folded_weight_is_finite)
    ∧ preserves_Kernel_KernelIdeal
    ∧ algebraic_KernelIdeal_ReferenceIdeal (hKernelIdeal := hKernelIdeal) (hReferenceIdeal := hReferenceIdeal)
    ∧ preserves_Codes_CodesIdeal
    ∧ algebraic_CodesIdeal_CodesRefIdeal_pre_folded_weight_is_finite (hCodesIdeal := hCodesIdeal) (hCodesRefIdeal := hCodesRefIdeal) (hPre_folded_weight_is_finite := hPre_folded_weight_is_finite)
-- ==== Pre_folded_weight_is_finite.lean ====
abbrev S3072x16384 : Shape := ⟨2, ![3072, 16384]⟩
abbrev S16384 : Shape := ⟨1, ![16384]⟩
abbrev S256x256 : Shape := ⟨2, ![256, 256]⟩
abbrev S64x256x1 : Shape := ⟨3, ![64, 256, 1]⟩
abbrev S1x256x256 : Shape := ⟨3, ![1, 256, 256]⟩
abbrev S64x256x256 : Shape := ⟨3, ![64, 256, 256]⟩
abbrev S_ : Shape := ⟨0, ![]⟩

class Facts : Prop where
  shapeCasts_S16384_S64x256x1 : S16384.ShapeCasts S64x256x1
  bcast_S256x256_S1x256x256_1_2 : S256x256.BroadcastsInDim S1x256x256 (![1, 2] : Fin 2 → Fin S1x256x256.rank)
  bcast_S64x256x1_S64x256x256_0_1_2 : S64x256x1.BroadcastsInDim S64x256x256 (![0, 1, 2] : Fin 3 → Fin S64x256x256.rank)
  bcast_S1x256x256_S64x256x256_0_1_2 : S1x256x256.BroadcastsInDim S64x256x256 (![0, 1, 2] : Fin 3 → Fin S64x256x256.rank)
  bcast_S_S64x256x256 : S_.BroadcastsInDim S64x256x256 (![] : Fin 0 → Fin S64x256x256.rank)

variable [Facts]

def fn {F : FTy → Type} [FloatOps F] (main_arg0 : FVec F S3072x16384 .bf16) (main_arg1 : FVec F S16384 .f32) (main_arg2 : FVec F S256x256 .f32) : IVec S64x256x256 1 :=
  let main_v0 : FVec F S64x256x1 .f32 := shapeCast S64x256x1 main_arg1 shapeCasts_S16384_S64x256x1
  let main_v1 : FVec F S1x256x256 .f32 := broadcastInDim S1x256x256 ![1, 2] bcast_S256x256_S1x256x256_1_2 main_arg2
  let main_v2 : FVec F S64x256x256 .f32 := broadcastInDim S64x256x256 ![0, 1, 2] bcast_S64x256x1_S64x256x256_0_1_2 main_v0
  let main_v3 : FVec F S64x256x256 .f32 := broadcastInDim S64x256x256 ![0, 1, 2] bcast_S1x256x256_S64x256x256_0_1_2 main_v1
  let main_v4 : FVec F S64x256x256 .f32 := mulf main_v2 main_v3
  let main_v5 : FVec F S64x256x256 .f32 := Host.absf main_v4
  let main_cst : FVec F S_ .f32 := constant S_ .f32 0x7F800000#32
  let main_v6 : FVec F S64x256x256 .f32 := broadcastInDim S64x256x256 ![] bcast_S_S64x256x256 main_cst
  let main_v7 : IVec S64x256x256 1 := cmpf .olt main_v5 main_v6
  main_v7
-- ==== Kernel.lean ====
abbrev S3072x16384 : Shape := ⟨2, ![3072, 16384]⟩
abbrev S7168x4096 : Shape := ⟨2, ![7168, 4096]⟩
abbrev S3072x1 : Shape := ⟨2, ![3072, 1]⟩
abbrev S1 : Shape := ⟨1, ![1]⟩
abbrev S3072x7168 : Shape := ⟨2, ![3072, 7168]⟩
abbrev S512x16384 : Shape := ⟨2, ![512, 16384]⟩
abbrev S256x4096 : Shape := ⟨2, ![256, 4096]⟩
abbrev S512x1 : Shape := ⟨2, ![512, 1]⟩
abbrev S512x256 : Shape := ⟨2, ![512, 256]⟩
abbrev S256x16384 : Shape := ⟨2, ![256, 16384]⟩
abbrev S32x16384 : Shape := ⟨2, ![32, 16384]⟩
abbrev S64x128 : Shape := ⟨2, ![64, 128]⟩
abbrev S64x4096 : Shape := ⟨2, ![64, 4096]⟩
abbrev S64x128x1 : Shape := ⟨3, ![64, 128, 1]⟩
abbrev S256x128 : Shape := ⟨2, ![256, 128]⟩

abbrev nBuf : Space → Nat
  | .hbm => 5
  | .vmem => 10
  | .smem => 1
  | _ => 0

abbrev bufTy : (tb : Table) → Fin (tcTables nBuf tb) → BufTy
  | .hbm, ⟨0, _⟩ => ⟨S3072x16384, .i8⟩
  | .hbm, ⟨1, _⟩ => ⟨S7168x4096, .i8⟩
  | .hbm, ⟨2, _⟩ => ⟨S3072x1, .f32⟩
  | .hbm, ⟨3, _⟩ => ⟨S1, .f32⟩
  | .hbm, ⟨4, _⟩ => ⟨S3072x7168, .bf16⟩
  | .local _ .vmem, ⟨0, _⟩ => ⟨S512x16384, .i8⟩
  | .local _ .vmem, ⟨1, _⟩ => ⟨S512x16384, .i8⟩
  | .local _ .vmem, ⟨2, _⟩ => ⟨S256x4096, .i8⟩
  | .local _ .vmem, ⟨3, _⟩ => ⟨S256x4096, .i8⟩
  | .local _ .vmem, ⟨4, _⟩ => ⟨S512x1, .f32⟩
  | .local _ .vmem, ⟨5, _⟩ => ⟨S512x1, .f32⟩
  | .local _ .vmem, ⟨6, _⟩ => ⟨S512x256, .bf16⟩
  | .local _ .vmem, ⟨7, _⟩ => ⟨S512x256, .bf16⟩
  | .local _ .vmem, ⟨8, _⟩ => ⟨S512x16384, .bf16⟩
  | .local _ .vmem, ⟨9, _⟩ => ⟨S256x16384, .bf16⟩
  | .local _ .smem, ⟨0, _⟩ => ⟨S1, .f32⟩
  | _, _ => ⟨S3072x16384, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![6, 28], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_786 : BitVec 32 := 0#32
  let c16_i32 : BitVec 32 := 16#32
  let v2651 : BitVec 32 := Scalar.addi c0_i32_786 c16_i32
  let c1_i32_787 : BitVec 32 := 1#32
  ⟨c0_i32_786, v2651, c1_i32_787⟩
def k0_mult1 (k0_t1 : Fin k0_t1_loop.trips) : BitVec 32 :=
  let c0_i32_786 : BitVec 32 := 0#32
  let c1_i32_787 : BitVec 32 := 1#32
  let arg9 : BitVec 32 := Scf.iv c0_i32_786 c1_i32_787 k0_t1
  let c32_i32_789 : BitVec 32 := 32#32
  let v2652 : BitVec 32 := Scalar.muli arg9 c32_i32_789
  v2652
def k0_off1 (k0_t1 : Fin k0_t1_loop.trips) : Fin 2 → Nat :=
  let c0_i32_786 : BitVec 32 := 0#32
  let c1_i32_787 : BitVec 32 := 1#32
  let arg9 : BitVec 32 := Scf.iv c0_i32_786 c1_i32_787 k0_t1
  let c32_i32_789 : BitVec 32 := 32#32
  let v2652 : BitVec 32 := Scalar.muli arg9 c32_i32_789
  let v2653 : BitVec 32 := v2652
  let v2654 : Index := Scalar.indexCast v2653
  let c0_790 : Index := 0#32
  ![v2654.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x16384 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S3072x16384 : Shape := ⟨2, ![3072, 16384]⟩
abbrev S7168x4096 : Shape := ⟨2, ![7168, 4096]⟩
abbrev S3072x1 : Shape := ⟨2, ![3072, 1]⟩
abbrev S1 : Shape := ⟨1, ![1]⟩
abbrev S_ : Shape := ⟨0, ![]⟩
abbrev S1x7168x4096 : Shape := ⟨3, ![1, 7168, 4096]⟩
abbrev S4x7168x4096 : Shape := ⟨3, ![4, 7168, 4096]⟩
abbrev S3072x4096x4 : Shape := ⟨3, ![3072, 4096, 4]⟩
abbrev S3072x4x4096 : Shape := ⟨3, ![3072, 4, 4096]⟩
abbrev S3072x7168 : Shape := ⟨2, ![3072, 7168]⟩

abbrev nBuf : Space → Nat
  | .hbm => 61
  | .vmem => 0
  | .smem => 0
  | _ => 0

abbrev bufTy : (tb : Table) → Fin (tcTables nBuf tb) → BufTy
  | .hbm, ⟨0, _⟩ => ⟨S3072x16384, .i8⟩
  | .hbm, ⟨1, _⟩ => ⟨S7168x4096, .i8⟩
  | .hbm, ⟨2, _⟩ => ⟨S3072x1, .f32⟩
  | .hbm, ⟨3, _⟩ => ⟨S1, .f32⟩
  | .hbm, ⟨4, _⟩ => ⟨S7168x4096, .i32⟩
  | .hbm, ⟨5, _⟩ => ⟨S_, .i32⟩
  | .hbm, ⟨6, _⟩ => ⟨S7168x4096, .i32⟩
  | .hbm, ⟨7, _⟩ => ⟨S7168x4096, .i32⟩
  | .hbm, ⟨8, _⟩ => ⟨S_, .i32⟩
  | .hbm, ⟨9, _⟩ => ⟨S7168x4096, .i32⟩
  | .hbm, ⟨10, _⟩ => ⟨S7168x4096, .i32⟩
  | .hbm, ⟨11, _⟩ => ⟨S_, .i32⟩
  | .hbm, ⟨12, _⟩ => ⟨S7168x4096, .i32⟩
  | .hbm, ⟨13, _⟩ => ⟨S7168x4096, .i32⟩
  | .hbm, ⟨14, _⟩ => ⟨S7168x4096, .bf16⟩
  | .hbm, ⟨15, _⟩ => ⟨S_, .i32⟩
  | .hbm, ⟨16, _⟩ => ⟨S7168x4096, .i32⟩
  | .hbm, ⟨17, _⟩ => ⟨S7168x4096, .i32⟩
  | .hbm, ⟨18, _⟩ => ⟨S_, .i32⟩
  | .hbm, ⟨19, _⟩ => ⟨S7168x4096, .i32⟩
  | .hbm, ⟨20, _⟩ => ⟨S7168x4096, .i32⟩
  | .hbm, ⟨21, _⟩ => ⟨S_, .i32⟩
  | .hbm, ⟨22, _⟩ => ⟨S7168x4096, .i32⟩
  | .hbm, ⟨23, _⟩ => ⟨S7168x4096, .i32⟩
  | .hbm, ⟨24, _⟩ => ⟨S7168x4096, .bf16⟩
  | .hbm, ⟨25, _⟩ => ⟨S_, .i32⟩
  | .hbm, ⟨26, _⟩ => ⟨S7168x4096, .i32⟩
  | .hbm, ⟨27, _⟩ => ⟨S7168x4096, .i32⟩
  | .hbm, ⟨28, _⟩ => ⟨S_, .i32⟩
  | .hbm, ⟨29, _⟩ => ⟨S7168x4096, .i32⟩
  | .hbm, ⟨30, _⟩ => ⟨S7168x4096, .i32⟩
  | .hbm, ⟨31, _⟩ => ⟨S_, .i32⟩
  | .hbm, ⟨32, _⟩ => ⟨S7168x4096, .i32⟩
  | .hbm, ⟨33, _⟩ => ⟨S7168x4096, .i32⟩
  | .hbm, ⟨34, _⟩ => ⟨S7168x4096, .bf16⟩
  | .hbm, ⟨35, _⟩ => ⟨S_, .i32⟩
  | .hbm, ⟨36, _⟩ => ⟨S7168x4096, .i32⟩
  | .hbm, ⟨37, _⟩ => ⟨S7168x4096, .i32⟩
  | .hbm, ⟨38, _⟩ => ⟨S_, .i32⟩
  | .hbm, ⟨39, _⟩ => ⟨S7168x4096, .i32⟩
  | .hbm, ⟨40, _⟩ => ⟨S7168x4096, .i32⟩
  | .hbm, ⟨41, _⟩ => ⟨S_, .i32⟩
  | .hbm, ⟨42, _⟩ => ⟨S7168x4096, .i32⟩
  | .hbm, ⟨43, _⟩ => ⟨S7168x4096, .i32⟩
  | .hbm, ⟨44, _⟩ => ⟨S7168x4096, .bf16⟩
  | .hbm, ⟨45, _⟩ => ⟨S1x7168x4096, .bf16⟩
  | .hbm, ⟨46, _⟩ => ⟨S1x7168x4096, .bf16⟩
  | .hbm, ⟨47, _⟩ => ⟨S1x7168x4096, .bf16⟩
  | .hbm, ⟨48, _⟩ => ⟨S1x7168x4096, .bf16⟩
  | .hbm, ⟨49, _⟩ => ⟨S4x7168x4096, .bf16⟩
  | .hbm, ⟨50, _⟩ => ⟨S3072x16384, .i32⟩
  | .hbm, ⟨51, _⟩ => ⟨S3072x16384, .bf16⟩
  | .hbm, ⟨52, _⟩ => ⟨S3072x4096x4, .bf16⟩
  | .hbm, ⟨53, _⟩ => ⟨S3072x4x4096, .bf16⟩
  | .hbm, ⟨54, _⟩ => ⟨S3072x7168, .f32⟩
  | .hbm, ⟨55, _⟩ => ⟨S3072x7168, .f32⟩
  | .hbm, ⟨56, _⟩ => ⟨S3072x7168, .f32⟩
  | .hbm, ⟨57, _⟩ => ⟨S_, .f32⟩
  | .hbm, ⟨58, _⟩ => ⟨S3072x7168, .f32⟩
  | .hbm, ⟨59, _⟩ => ⟨S3072x7168, .f32⟩
  | .hbm, ⟨60, _⟩ => ⟨S3072x7168, .bf16⟩
  | _, _ => ⟨S3072x16384, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_v9 : Ref sig .tc := ⟨.hbm, 17, rfl⟩
abbrev main_c_3 : Ref sig .tc := ⟨.hbm, 18, rfl⟩
abbrev main_v10 : Ref sig .tc := ⟨.hbm, 19, rfl⟩
abbrev main_v11 : Ref sig .tc := ⟨.hbm, 20, rfl⟩
abbrev main_c_4 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_5 : Ref sig .tc := ⟨.hbm, 25, rfl⟩
abbrev main_v15 : Ref sig .tc := ⟨.hbm, 26, rfl⟩
abbrev main_v16 : Ref sig .tc := ⟨.hbm, 27, rfl⟩
abbrev main_c_6 : Ref sig .tc := ⟨.hbm, 28, rfl⟩
abbrev main_v17 : Ref sig .tc := ⟨.hbm, 29, rfl⟩
abbrev main_v18 : Ref sig .tc := ⟨.hbm, 30, rfl⟩
abbrev main_c_7 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_8 : Ref sig .tc := ⟨.hbm, 35, rfl⟩
abbrev main_v22 : Ref sig .tc := ⟨.hbm, 36, rfl⟩
abbrev main_v23 : Ref sig .tc := ⟨.hbm, 37, rfl⟩
abbrev main_c_9 : Ref sig .tc := ⟨.hbm, 38, rfl⟩
abbrev main_v24 : Ref sig .tc := ⟨.hbm, 39, rfl⟩
abbrev main_v25 : Ref sig .tc := ⟨.hbm, 40, rfl⟩
abbrev main_c_10 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== Codes.lean ====
abbrev S3072x16384 : Shape := ⟨2, ![3072, 16384]⟩
abbrev S16384 : Shape := ⟨1, ![16384]⟩
abbrev S256x256 : Shape := ⟨2, ![256, 256]⟩
abbrev S64x1x256 : Shape := ⟨3, ![64, 1, 256]⟩
abbrev S64x768x256 : Shape := ⟨3, ![64, 768, 256]⟩
abbrev S1x1x256 : Shape := ⟨3, ![1, 1, 256]⟩
abbrev S1x768x256 : Shape := ⟨3, ![1, 768, 256]⟩
abbrev S1x256 : Shape := ⟨2, ![1, 256]⟩
abbrev S1x256x256 : Shape := ⟨3, ![1, 256, 256]⟩
abbrev S3072x1 : Shape := ⟨2, ![3072, 1]⟩
abbrev S128x16384 : Shape := ⟨2, ![128, 16384]⟩
abbrev S128x1 : Shape := ⟨2, ![128, 1]⟩
abbrev S128x128 : Shape := ⟨2, ![128, 128]⟩
abbrev S16x128 : Shape := ⟨2, ![16, 128]⟩
abbrev S16 : Shape := ⟨1, ![16]⟩
abbrev S16x1 : Shape := ⟨2, ![16, 1]⟩
abbrev S128x256 : Shape := ⟨2, ![128, 256]⟩
abbrev S128x768 : Shape := ⟨2, ![128, 768]⟩
abbrev S768x256 : Shape := ⟨2, ![768, 256]⟩
abbrev S8x128 : Shape := ⟨2, ![8, 128]⟩
abbrev S8 : Shape := ⟨1, ![8]⟩
abbrev S8x1 : Shape := ⟨2, ![8, 1]⟩
abbrev S32x128 : Shape := ⟨2, ![32, 128]⟩
abbrev S32x1 : Shape := ⟨2, ![32, 1]⟩

abbrev nBuf : Space → Nat
  | .hbm => 7
  | .vmem => 14
  | .smem => 0
  | _ => 0

abbrev bufTy : (tb : Table) → Fin (tcTables nBuf tb) → BufTy
  | .hbm, ⟨0, _⟩ => ⟨S3072x16384, .bf16⟩
  | .hbm, ⟨1, _⟩ => ⟨S16384, .f32⟩
  | .hbm, ⟨2, _⟩ => ⟨S256x256, .f32⟩
  | .hbm, ⟨3, _⟩ => ⟨S64x1x256, .f32⟩
  | .hbm, ⟨4, _⟩ => ⟨S64x768x256, .bf16⟩
  | .hbm, ⟨5, _⟩ => ⟨S3072x16384, .i8⟩
  | .hbm, ⟨6, _⟩ => ⟨S3072x1, .f32⟩
  | .local _ .vmem, ⟨0, _⟩ => ⟨S1x1x256, .f32⟩
  | .local _ .vmem, ⟨1, _⟩ => ⟨S1x1x256, .f32⟩
  | .local _ .vmem, ⟨2, _⟩ => ⟨S256x256, .f32⟩
  | .local _ .vmem, ⟨3, _⟩ => ⟨S1x768x256, .bf16⟩
  | .local _ .vmem, ⟨4, _⟩ => ⟨S1x768x256, .bf16⟩
  | .local _ .vmem, ⟨5, _⟩ => ⟨S128x16384, .bf16⟩
  | .local _ .vmem, ⟨6, _⟩ => ⟨S128x16384, .bf16⟩
  | .local _ .vmem, ⟨7, _⟩ => ⟨S64x768x256, .bf16⟩
  | .local _ .vmem, ⟨8, _⟩ => ⟨S128x16384, .i8⟩
  | .local _ .vmem, ⟨9, _⟩ => ⟨S128x16384, .i8⟩
  | .local _ .vmem, ⟨10, _⟩ => ⟨S128x1, .f32⟩
  | .local _ .vmem, ⟨11, _⟩ => ⟨S128x1, .f32⟩
  | .local _ .vmem, ⟨12, _⟩ => ⟨S128x16384, .f32⟩
  | .local _ .vmem, ⟨13, _⟩ => ⟨S128x128, .f32⟩
  | _, _ => ⟨S3072x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc1_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x768x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![24], ![false]⟩

@[reducible] def k1_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k1_mult1 (k1_t1 : Fin k1_t1_loop.trips) : BitVec 32 :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  v4
def k1_off1 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v7 : Index := Scalar.indexCast v5
  let c0 : Index := 0#32
  ![v7.toNat, 0]
def k1_off2 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v12 : Index := Scalar.indexCast v5
  let c128 : Index := 128#32
  ![v12.toNat, 128]
def k1_off3 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v17 : Index := Scalar.indexCast v5
  let c256 : Index := 256#32
  ![v17.toNat, 256]
def k1_off4 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v22 : Index := Scalar.indexCast v5
  let c384 : Index := 384#32
  ![v22.toNat, 384]
def k1_off5 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v27 : Index := Scalar.indexCast v5
  let c512 : Index := 512#32
  ![v27.toNat, 512]
def k1_off6 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v32 : Index := Scalar.indexCast v5
  let c640 : Index := 640#32
  ![v32.toNat, 640]
def k1_off7 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v37 : Index := Scalar.indexCast v5
  let c768 : Index := 768#32
  ![v37.toNat, 768]
def k1_off8 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v42 : Index := Scalar.indexCast v5
  let c896 : Index := 896#32
  ![v42.toNat, 896]
def k1_off9 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v47 : Index := Scalar.indexCast v5
  let c1024 : Index := 1024#32
  ![v47.toNat, 1024]
def k1_off10 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v52 : Index := Scalar.indexCast v5
  let c1152 : Index := 1152#32
  ![v52.toNat, 1152]
def k1_off11 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v57 : Index := Scalar.indexCast v5
  let c1280 : Index := 1280#32
  ![v57.toNat, 1280]
def k1_off12 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v62 : Index := Scalar.indexCast v5
  let c1408 : Index := 1408#32
  ![v62.toNat, 1408]
def k1_off13 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v67 : Index := Scalar.indexCast v5
  let c1536 : Index := 1536#32
  ![v67.toNat, 1536]
def k1_off14 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v72 : Index := Scalar.indexCast v5
  let c1664 : Index := 1664#32
  ![v72.toNat, 1664]
def k1_off15 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v77 : Index := Scalar.indexCast v5
  let c1792 : Index := 1792#32
  ![v77.toNat, 1792]
def k1_off16 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v82 : Index := Scalar.indexCast v5
  let c1920 : Index := 1920#32
  ![v82.toNat, 1920]
def k1_off17 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v87 : Index := Scalar.indexCast v5
  let c2048 : Index := 2048#32
  ![v87.toNat, 2048]
def k1_off18 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v92 : Index := Scalar.indexCast v5
  let c2176 : Index := 2176#32
  ![v92.toNat, 2176]
def k1_off19 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v97 : Index := Scalar.indexCast v5
  let c2304 : Index := 2304#32
  ![v97.toNat, 2304]
def k1_off20 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v102 : Index := Scalar.indexCast v5
  let c2432 : Index := 2432#32
  ![v102.toNat, 2432]
def k1_off21 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v107 : Index := Scalar.indexCast v5
  let c2560 : Index := 2560#32
  ![v107.toNat, 2560]
def k1_off22 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v112 : Index := Scalar.indexCast v5
  let c2688 : Index := 2688#32
  ![v112.toNat, 2688]
def k1_off23 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v117 : Index := Scalar.indexCast v5
  let c2816 : Index := 2816#32
  ![v117.toNat, 2816]
def k1_off24 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v122 : Index := Scalar.indexCast v5
  let c2944 : Index := 2944#32
  ![v122.toNat, 2944]
def k1_off25 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v127 : Index := Scalar.indexCast v5
  let c3072 : Index := 3072#32
  ![v127.toNat, 3072]
def k1_off26 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v132 : Index := Scalar.indexCast v5
  let c3200 : Index := 3200#32
  ![v132.toNat, 3200]
def k1_off27 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v137 : Index := Scalar.indexCast v5
  let c3328 : Index := 3328#32
  ![v137.toNat, 3328]
def k1_off28 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v142 : Index := Scalar.indexCast v5
  let c3456 : Index := 3456#32
  ![v142.toNat, 3456]
def k1_off29 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v147 : Index := Scalar.indexCast v5
  let c3584 : Index := 3584#32
  ![v147.toNat, 3584]
def k1_off30 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v152 : Index := Scalar.indexCast v5
  let c3712 : Index := 3712#32
  ![v152.toNat, 3712]
def k1_off31 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v157 : Index := Scalar.indexCast v5
  let c3840 : Index := 3840#32
  ![v157.toNat, 3840]
def k1_off32 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v162 : Index := Scalar.indexCast v5
  let c3968 : Index := 3968#32
  ![v162.toNat, 3968]
def k1_off33 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v167 : Index := Scalar.indexCast v5
  let c4096 : Index := 4096#32
  ![v167.toNat, 4096]
def k1_off34 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v172 : Index := Scalar.indexCast v5
  let c4224 : Index := 4224#32
  ![v172.toNat, 4224]
def k1_off35 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v177 : Index := Scalar.indexCast v5
  let c4352 : Index := 4352#32
  ![v177.toNat, 4352]
def k1_off36 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v182 : Index := Scalar.indexCast v5
  let c4480 : Index := 4480#32
  ![v182.toNat, 4480]
def k1_off37 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v187 : Index := Scalar.indexCast v5
  let c4608 : Index := 4608#32
  ![v187.toNat, 4608]
def k1_off38 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v192 : Index := Scalar.indexCast v5
  let c4736 : Index := 4736#32
  ![v192.toNat, 4736]
def k1_off39 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v197 : Index := Scalar.indexCast v5
  let c4864 : Index := 4864#32
  ![v197.toNat, 4864]
def k1_off40 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v202 : Index := Scalar.indexCast v5
  let c4992 : Index := 4992#32
  ![v202.toNat, 4992]
def k1_off41 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v207 : Index := Scalar.indexCast v5
  let c5120 : Index := 5120#32
  ![v207.toNat, 5120]
def k1_off42 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v212 : Index := Scalar.indexCast v5
  let c5248 : Index := 5248#32
  ![v212.toNat, 5248]
def k1_off43 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v217 : Index := Scalar.indexCast v5
  let c5376 : Index := 5376#32
  ![v217.toNat, 5376]
def k1_off44 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v222 : Index := Scalar.indexCast v5
  let c5504 : Index := 5504#32
  ![v222.toNat, 5504]
def k1_off45 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v227 : Index := Scalar.indexCast v5
  let c5632 : Index := 5632#32
  ![v227.toNat, 5632]
def k1_off46 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v232 : Index := Scalar.indexCast v5
  let c5760 : Index := 5760#32
  ![v232.toNat, 5760]
def k1_off47 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v237 : Index := Scalar.indexCast v5
  let c5888 : Index := 5888#32
  ![v237.toNat, 5888]
def k1_off48 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v242 : Index := Scalar.indexCast v5
  let c6016 : Index := 6016#32
  ![v242.toNat, 6016]
def k1_off49 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v247 : Index := Scalar.indexCast v5
  let c6144 : Index := 6144#32
  ![v247.toNat, 6144]
def k1_off50 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v252 : Index := Scalar.indexCast v5
  let c6272 : Index := 6272#32
  ![v252.toNat, 6272]
def k1_off51 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v257 : Index := Scalar.indexCast v5
  let c6400 : Index := 6400#32
  ![v257.toNat, 6400]
def k1_off52 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v262 : Index := Scalar.indexCast v5
  let c6528 : Index := 6528#32
  ![v262.toNat, 6528]
def k1_off53 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v267 : Index := Scalar.indexCast v5
  let c6656 : Index := 6656#32
  ![v267.toNat, 6656]
def k1_off54 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v272 : Index := Scalar.indexCast v5
  let c6784 : Index := 6784#32
  ![v272.toNat, 6784]
def k1_off55 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v277 : Index := Scalar.indexCast v5
  let c6912 : Index := 6912#32
  ![v277.toNat, 6912]
def k1_off56 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v282 : Index := Scalar.indexCast v5
  let c7040 : Index := 7040#32
  ![v282.toNat, 7040]
def k1_off57 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v287 : Index := Scalar.indexCast v5
  let c7168 : Index := 7168#32
  ![v287.toNat, 7168]
def k1_off58 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v292 : Index := Scalar.indexCast v5
  let c7296 : Index := 7296#32
  ![v292.toNat, 7296]
def k1_off59 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v297 : Index := Scalar.indexCast v5
  let c7424 : Index := 7424#32
  ![v297.toNat, 7424]
def k1_off60 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v302 : Index := Scalar.indexCast v5
  let c7552 : Index := 7552#32
  ![v302.toNat, 7552]
def k1_off61 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v307 : Index := Scalar.indexCast v5
  let c7680 : Index := 7680#32
  ![v307.toNat, 7680]
def k1_off62 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v312 : Index := Scalar.indexCast v5
  let c7808 : Index := 7808#32
  ![v312.toNat, 7808]
def k1_off63 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v317 : Index := Scalar.indexCast v5
  let c7936 : Index := 7936#32
  ![v317.toNat, 7936]
def k1_off64 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v322 : Index := Scalar.indexCast v5
  let c8064 : Index := 8064#32
  ![v322.toNat, 8064]
def k1_off65 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v327 : Index := Scalar.indexCast v5
  let c8192 : Index := 8192#32
  ![v327.toNat, 8192]
def k1_off66 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v332 : Index := Scalar.indexCast v5
  let c8320 : Index := 8320#32
  ![v332.toNat, 8320]
def k1_off67 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v337 : Index := Scalar.indexCast v5
  let c8448 : Index := 8448#32
  ![v337.toNat, 8448]
def k1_off68 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v342 : Index := Scalar.indexCast v5
  let c8576 : Index := 8576#32
  ![v342.toNat, 8576]
def k1_off69 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v347 : Index := Scalar.indexCast v5
  let c8704 : Index := 8704#32
  ![v347.toNat, 8704]
def k1_off70 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v352 : Index := Scalar.indexCast v5
  let c8832 : Index := 8832#32
  ![v352.toNat, 8832]
def k1_off71 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v357 : Index := Scalar.indexCast v5
  let c8960 : Index := 8960#32
  ![v357.toNat, 8960]
def k1_off72 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v362 : Index := Scalar.indexCast v5
  let c9088 : Index := 9088#32
  ![v362.toNat, 9088]
def k1_off73 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v367 : Index := Scalar.indexCast v5
  let c9216 : Index := 9216#32
  ![v367.toNat, 9216]
def k1_off74 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v372 : Index := Scalar.indexCast v5
  let c9344 : Index := 9344#32
  ![v372.toNat, 9344]
def k1_off75 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v377 : Index := Scalar.indexCast v5
  let c9472 : Index := 9472#32
  ![v377.toNat, 9472]
def k1_off76 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v382 : Index := Scalar.indexCast v5
  let c9600 : Index := 9600#32
  ![v382.toNat, 9600]
def k1_off77 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v387 : Index := Scalar.indexCast v5
  let c9728 : Index := 9728#32
  ![v387.toNat, 9728]
def k1_off78 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v392 : Index := Scalar.indexCast v5
  let c9856 : Index := 9856#32
  ![v392.toNat, 9856]
def k1_off79 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v397 : Index := Scalar.indexCast v5
  let c9984 : Index := 9984#32
  ![v397.toNat, 9984]
def k1_off80 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v402 : Index := Scalar.indexCast v5
  let c10112 : Index := 10112#32
  ![v402.toNat, 10112]
def k1_off81 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v407 : Index := Scalar.indexCast v5
  let c10240 : Index := 10240#32
  ![v407.toNat, 10240]
def k1_off82 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v412 : Index := Scalar.indexCast v5
  let c10368 : Index := 10368#32
  ![v412.toNat, 10368]
def k1_off83 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v417 : Index := Scalar.indexCast v5
  let c10496 : Index := 10496#32
  ![v417.toNat, 10496]
def k1_off84 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v422 : Index := Scalar.indexCast v5
  let c10624 : Index := 10624#32
  ![v422.toNat, 10624]
def k1_off85 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v427 : Index := Scalar.indexCast v5
  let c10752 : Index := 10752#32
  ![v427.toNat, 10752]
def k1_off86 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v432 : Index := Scalar.indexCast v5
  let c10880 : Index := 10880#32
  ![v432.toNat, 10880]
def k1_off87 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v437 : Index := Scalar.indexCast v5
  let c11008 : Index := 11008#32
  ![v437.toNat, 11008]
def k1_off88 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v442 : Index := Scalar.indexCast v5
  let c11136 : Index := 11136#32
  ![v442.toNat, 11136]
def k1_off89 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v447 : Index := Scalar.indexCast v5
  let c11264 : Index := 11264#32
  ![v447.toNat, 11264]
def k1_off90 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v452 : Index := Scalar.indexCast v5
  let c11392 : Index := 11392#32
  ![v452.toNat, 11392]
def k1_off91 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v457 : Index := Scalar.indexCast v5
  let c11520 : Index := 11520#32
  ![v457.toNat, 11520]
def k1_off92 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v462 : Index := Scalar.indexCast v5
  let c11648 : Index := 11648#32
  ![v462.toNat, 11648]
def k1_off93 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v467 : Index := Scalar.indexCast v5
  let c11776 : Index := 11776#32
  ![v467.toNat, 11776]
def k1_off94 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v472 : Index := Scalar.indexCast v5
  let c11904 : Index := 11904#32
  ![v472.toNat, 11904]
def k1_off95 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v477 : Index := Scalar.indexCast v5
  let c12032 : Index := 12032#32
  ![v477.toNat, 12032]
def k1_off96 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v482 : Index := Scalar.indexCast v5
  let c12160 : Index := 12160#32
  ![v482.toNat, 12160]
def k1_off97 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v487 : Index := Scalar.indexCast v5
  let c12288 : Index := 12288#32
  ![v487.toNat, 12288]
def k1_off98 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v492 : Index := Scalar.indexCast v5
  let c12416 : Index := 12416#32
  ![v492.toNat, 12416]
def k1_off99 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v497 : Index := Scalar.indexCast v5
  let c12544 : Index := 12544#32
  ![v497.toNat, 12544]
def k1_off100 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v502 : Index := Scalar.indexCast v5
  let c12672 : Index := 12672#32
  ![v502.toNat, 12672]
def k1_off101 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v507 : Index := Scalar.indexCast v5
  let c12800 : Index := 12800#32
  ![v507.toNat, 12800]
def k1_off102 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v512 : Index := Scalar.indexCast v5
  let c12928 : Index := 12928#32
  ![v512.toNat, 12928]
def k1_off103 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v517 : Index := Scalar.indexCast v5
  let c13056 : Index := 13056#32
  ![v517.toNat, 13056]
def k1_off104 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v522 : Index := Scalar.indexCast v5
  let c13184 : Index := 13184#32
  ![v522.toNat, 13184]
def k1_off105 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v527 : Index := Scalar.indexCast v5
  let c13312 : Index := 13312#32
  ![v527.toNat, 13312]
def k1_off106 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v532 : Index := Scalar.indexCast v5
  let c13440 : Index := 13440#32
  ![v532.toNat, 13440]
def k1_off107 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v537 : Index := Scalar.indexCast v5
  let c13568 : Index := 13568#32
  ![v537.toNat, 13568]
def k1_off108 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v542 : Index := Scalar.indexCast v5
  let c13696 : Index := 13696#32
  ![v542.toNat, 13696]
def k1_off109 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v547 : Index := Scalar.indexCast v5
  let c13824 : Index := 13824#32
  ![v547.toNat, 13824]
def k1_off110 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v552 : Index := Scalar.indexCast v5
  let c13952 : Index := 13952#32
  ![v552.toNat, 13952]
def k1_off111 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v557 : Index := Scalar.indexCast v5
  let c14080 : Index := 14080#32
  ![v557.toNat, 14080]
def k1_off112 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v562 : Index := Scalar.indexCast v5
  let c14208 : Index := 14208#32
  ![v562.toNat, 14208]
def k1_off113 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v567 : Index := Scalar.indexCast v5
  let c14336 : Index := 14336#32
  ![v567.toNat, 14336]
def k1_off114 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v572 : Index := Scalar.indexCast v5
  let c14464 : Index := 14464#32
  ![v572.toNat, 14464]
def k1_off115 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v577 : Index := Scalar.indexCast v5
  let c14592 : Index := 14592#32
  ![v577.toNat, 14592]
def k1_off116 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v582 : Index := Scalar.indexCast v5
  let c14720 : Index := 14720#32
  ![v582.toNat, 14720]
def k1_off117 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v587 : Index := Scalar.indexCast v5
  let c14848 : Index := 14848#32
  ![v587.toNat, 14848]
def k1_off118 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v592 : Index := Scalar.indexCast v5
  let c14976 : Index := 14976#32
  ![v592.toNat, 14976]
def k1_off119 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v597 : Index := Scalar.indexCast v5
  let c15104 : Index := 15104#32
  ![v597.toNat, 15104]
def k1_off120 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v602 : Index := Scalar.indexCast v5
  let c15232 : Index := 15232#32
  ![v602.toNat, 15232]
def k1_off121 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v607 : Index := Scalar.indexCast v5
  let c15360 : Index := 15360#32
  ![v607.toNat, 15360]
def k1_off122 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v612 : Index := Scalar.indexCast v5
  let c15488 : Index := 15488#32
  ![v612.toNat, 15488]
def k1_off123 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v617 : Index := Scalar.indexCast v5
  let c15616 : Index := 15616#32
  ![v617.toNat, 15616]
def k1_off124 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v622 : Index := Scalar.indexCast v5
  let c15744 : Index := 15744#32
  ![v622.toNat, 15744]
def k1_off125 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v627 : Index := Scalar.indexCast v5
  let c15872 : Index := 15872#32
  ![v627.toNat, 15872]
def k1_off126 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v632 : Index := Scalar.indexCast v5
  let c16000 : Index := 16000#32
  ![v632.toNat, 16000]
def k1_off127 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v637 : Index := Scalar.indexCast v5
  let c16128 : Index := 16128#32
  ![v637.toNat, 16128]
def k1_off128 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v642 : Index := Scalar.indexCast v5
  let c16256 : Index := 16256#32
  ![v642.toNat, 16256]
def k1_off129 (k1_t1 : Fin k1_t1_loop.trips) : Fin 2 → Nat :=
  let c0_i32 : BitVec 32 := 0#32
  let c1_i32 : BitVec 32 := 1#32
  let arg7 : BitVec 32 := Scf.iv c0_i32 c1_i32 k1_t1
  let c16_i32_10 : BitVec 32 := 16#32
  let v4 : BitVec 32 := Scalar.muli arg7 c16_i32_10
  let v5 : BitVec 32 := v4
  let v658 : Index := Scalar.indexCast v5
  let c0_15 : Index := 0#32
  ![v658.toNat, 0]
@[reducible] def k1_t2_loop : Scf.Loop 32 :=
  let c0_i32_1 : BitVec 32 := 0#32
  let c64_i32 : BitVec 32 := 64#32
  let v1 : BitVec 32 := Scalar.addi c0_i32_1 c64_i32
  let c1_i32_2 : BitVec 32 := 1#32
  ⟨c0_i32_1, v1, c1_i32_2⟩
def k1_mult2 (k1_t2 : Fin k1_t2_loop.trips) : BitVec 32 :=
  let c0_i32_1 : BitVec 32 := 0#32
  let c1_i32_2 : BitVec 32 := 1#32
  let arg7 : BitVec 32 := Scf.iv c0_i32_1 c1_i32_2 k1_t2
  let c256_i32 : BitVec 32 := 256#32
  let v4 : BitVec 32 := Scalar.muli arg7 c256_i32
  v4
def k1_off130 (k1_t2 : Fin k1_t2_loop.trips) : Fin 2 → Nat :=
  let c0 : Index := 0#32
  let c0_i32_1 : BitVec 32 := 0#32
  let c1_i32_2 : BitVec 32 := 1#32
  let arg7 : BitVec 32 := Scf.iv c0_i32_1 c1_i32_2 k1_t2
  let c256_i32 : BitVec 32 := 256#32
  let v4 : BitVec 32 := Scalar.muli arg7 c256_i32
  let v5 : BitVec 32 := v4
  let v6 : Index := Scalar.indexCast v5
  ![0, v6.toNat]
def k1_off131 (k1_t2 : Fin k1_t2_loop.trips) : Fin 3 → Nat :=
  let c0_i32_1 : BitVec 32 := 0#32
  let c1_i32_2 : BitVec 32 := 1#32
  let arg7 : BitVec 32 := Scf.iv c0_i32_1 c1_i32_2 k1_t2
  let v9 : Index := Scalar.indexCast arg7
  let c0_10 : Index := 0#32
  let c0_11 : Index := 0#32
  ![v9.toNat, 0, 0]
@[reducible] def k1_t3_loop : Scf.Loop 32 :=
  let c0_i32_4 : BitVec 32 := 0#32
  let c16_i32 : BitVec 32 := 16#32
  let v2 : BitVec 32 := Scalar.addi c0_i32_4 c16_i32
  let c1_i32_5 : BitVec 32 := 1#32
  ⟨c0_i32_4, v2, c1_i32_5⟩
def k1_mult3 (k1_t3 : Fin k1_t3_loop.trips) : BitVec 32 :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  v4
def k1_off132 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v6 : Index := Scalar.indexCast v5
  let c0 : Index := 0#32
  ![v6.toNat, 0]
def k1_off133 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v8 : Index := Scalar.indexCast v5
  let c256 : Index := 256#32
  ![v8.toNat, 256]
def k1_off134 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v10 : Index := Scalar.indexCast v5
  let c512 : Index := 512#32
  ![v10.toNat, 512]
def k1_off135 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v12 : Index := Scalar.indexCast v5
  let c768 : Index := 768#32
  ![v12.toNat, 768]
def k1_off136 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v14 : Index := Scalar.indexCast v5
  let c1024 : Index := 1024#32
  ![v14.toNat, 1024]
def k1_off137 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v16 : Index := Scalar.indexCast v5
  let c1280 : Index := 1280#32
  ![v16.toNat, 1280]
def k1_off138 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v18 : Index := Scalar.indexCast v5
  let c1536 : Index := 1536#32
  ![v18.toNat, 1536]
def k1_off139 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v20 : Index := Scalar.indexCast v5
  let c1792 : Index := 1792#32
  ![v20.toNat, 1792]
def k1_off140 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v78 : Index := Scalar.indexCast v5
  let c128 : Index := 128#32
  ![v78.toNat, 128]
def k1_off141 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v80 : Index := Scalar.indexCast v5
  let c384 : Index := 384#32
  ![v80.toNat, 384]
def k1_off142 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v82 : Index := Scalar.indexCast v5
  let c640 : Index := 640#32
  ![v82.toNat, 640]
def k1_off143 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v84 : Index := Scalar.indexCast v5
  let c896 : Index := 896#32
  ![v84.toNat, 896]
def k1_off144 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v86 : Index := Scalar.indexCast v5
  let c1152 : Index := 1152#32
  ![v86.toNat, 1152]
def k1_off145 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v88 : Index := Scalar.indexCast v5
  let c1408 : Index := 1408#32
  ![v88.toNat, 1408]
def k1_off146 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v90 : Index := Scalar.indexCast v5
  let c1664 : Index := 1664#32
  ![v90.toNat, 1664]
def k1_off147 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v92 : Index := Scalar.indexCast v5
  let c1920 : Index := 1920#32
  ![v92.toNat, 1920]
def k1_off148 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v150 : Index := Scalar.indexCast v5
  let c2048 : Index := 2048#32
  ![v150.toNat, 2048]
def k1_off149 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v152 : Index := Scalar.indexCast v5
  let c2304 : Index := 2304#32
  ![v152.toNat, 2304]
def k1_off150 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v154 : Index := Scalar.indexCast v5
  let c2560 : Index := 2560#32
  ![v154.toNat, 2560]
def k1_off151 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v156 : Index := Scalar.indexCast v5
  let c2816 : Index := 2816#32
  ![v156.toNat, 2816]
def k1_off152 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v158 : Index := Scalar.indexCast v5
  let c3072 : Index := 3072#32
  ![v158.toNat, 3072]
def k1_off153 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v160 : Index := Scalar.indexCast v5
  let c3328 : Index := 3328#32
  ![v160.toNat, 3328]
def k1_off154 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v162 : Index := Scalar.indexCast v5
  let c3584 : Index := 3584#32
  ![v162.toNat, 3584]
def k1_off155 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v164 : Index := Scalar.indexCast v5
  let c3840 : Index := 3840#32
  ![v164.toNat, 3840]
def k1_off156 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v222 : Index := Scalar.indexCast v5
  let c2176 : Index := 2176#32
  ![v222.toNat, 2176]
def k1_off157 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v224 : Index := Scalar.indexCast v5
  let c2432 : Index := 2432#32
  ![v224.toNat, 2432]
def k1_off158 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v226 : Index := Scalar.indexCast v5
  let c2688 : Index := 2688#32
  ![v226.toNat, 2688]
def k1_off159 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v228 : Index := Scalar.indexCast v5
  let c2944 : Index := 2944#32
  ![v228.toNat, 2944]
def k1_off160 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v230 : Index := Scalar.indexCast v5
  let c3200 : Index := 3200#32
  ![v230.toNat, 3200]
def k1_off161 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v232 : Index := Scalar.indexCast v5
  let c3456 : Index := 3456#32
  ![v232.toNat, 3456]
def k1_off162 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v234 : Index := Scalar.indexCast v5
  let c3712 : Index := 3712#32
  ![v234.toNat, 3712]
def k1_off163 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v236 : Index := Scalar.indexCast v5
  let c3968 : Index := 3968#32
  ![v236.toNat, 3968]
def k1_off164 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v294 : Index := Scalar.indexCast v5
  let c4096 : Index := 4096#32
  ![v294.toNat, 4096]
def k1_off165 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v296 : Index := Scalar.indexCast v5
  let c4352 : Index := 4352#32
  ![v296.toNat, 4352]
def k1_off166 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v298 : Index := Scalar.indexCast v5
  let c4608 : Index := 4608#32
  ![v298.toNat, 4608]
def k1_off167 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v300 : Index := Scalar.indexCast v5
  let c4864 : Index := 4864#32
  ![v300.toNat, 4864]
def k1_off168 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v302 : Index := Scalar.indexCast v5
  let c5120 : Index := 5120#32
  ![v302.toNat, 5120]
def k1_off169 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v304 : Index := Scalar.indexCast v5
  let c5376 : Index := 5376#32
  ![v304.toNat, 5376]
def k1_off170 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v306 : Index := Scalar.indexCast v5
  let c5632 : Index := 5632#32
  ![v306.toNat, 5632]
def k1_off171 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v308 : Index := Scalar.indexCast v5
  let c5888 : Index := 5888#32
  ![v308.toNat, 5888]
def k1_off172 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v366 : Index := Scalar.indexCast v5
  let c4224 : Index := 4224#32
  ![v366.toNat, 4224]
def k1_off173 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v368 : Index := Scalar.indexCast v5
  let c4480 : Index := 4480#32
  ![v368.toNat, 4480]
def k1_off174 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v370 : Index := Scalar.indexCast v5
  let c4736 : Index := 4736#32
  ![v370.toNat, 4736]
def k1_off175 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v372 : Index := Scalar.indexCast v5
  let c4992 : Index := 4992#32
  ![v372.toNat, 4992]
def k1_off176 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v374 : Index := Scalar.indexCast v5
  let c5248 : Index := 5248#32
  ![v374.toNat, 5248]
def k1_off177 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v376 : Index := Scalar.indexCast v5
  let c5504 : Index := 5504#32
  ![v376.toNat, 5504]
def k1_off178 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v378 : Index := Scalar.indexCast v5
  let c5760 : Index := 5760#32
  ![v378.toNat, 5760]
def k1_off179 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v380 : Index := Scalar.indexCast v5
  let c6016 : Index := 6016#32
  ![v380.toNat, 6016]
def k1_off180 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v438 : Index := Scalar.indexCast v5
  let c6144 : Index := 6144#32
  ![v438.toNat, 6144]
def k1_off181 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v440 : Index := Scalar.indexCast v5
  let c6400 : Index := 6400#32
  ![v440.toNat, 6400]
def k1_off182 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v442 : Index := Scalar.indexCast v5
  let c6656 : Index := 6656#32
  ![v442.toNat, 6656]
def k1_off183 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v444 : Index := Scalar.indexCast v5
  let c6912 : Index := 6912#32
  ![v444.toNat, 6912]
def k1_off184 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v446 : Index := Scalar.indexCast v5
  let c7168 : Index := 7168#32
  ![v446.toNat, 7168]
def k1_off185 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v448 : Index := Scalar.indexCast v5
  let c7424 : Index := 7424#32
  ![v448.toNat, 7424]
def k1_off186 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v450 : Index := Scalar.indexCast v5
  let c7680 : Index := 7680#32
  ![v450.toNat, 7680]
def k1_off187 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v452 : Index := Scalar.indexCast v5
  let c7936 : Index := 7936#32
  ![v452.toNat, 7936]
def k1_off188 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v510 : Index := Scalar.indexCast v5
  let c6272 : Index := 6272#32
  ![v510.toNat, 6272]
def k1_off189 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v512 : Index := Scalar.indexCast v5
  let c6528 : Index := 6528#32
  ![v512.toNat, 6528]
def k1_off190 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v514 : Index := Scalar.indexCast v5
  let c6784 : Index := 6784#32
  ![v514.toNat, 6784]
def k1_off191 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v516 : Index := Scalar.indexCast v5
  let c7040 : Index := 7040#32
  ![v516.toNat, 7040]
def k1_off192 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v518 : Index := Scalar.indexCast v5
  let c7296 : Index := 7296#32
  ![v518.toNat, 7296]
def k1_off193 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v520 : Index := Scalar.indexCast v5
  let c7552 : Index := 7552#32
  ![v520.toNat, 7552]
def k1_off194 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v522 : Index := Scalar.indexCast v5
  let c7808 : Index := 7808#32
  ![v522.toNat, 7808]
def k1_off195 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v524 : Index := Scalar.indexCast v5
  let c8064 : Index := 8064#32
  ![v524.toNat, 8064]
def k1_off196 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v582 : Index := Scalar.indexCast v5
  let c8192 : Index := 8192#32
  ![v582.toNat, 8192]
def k1_off197 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v584 : Index := Scalar.indexCast v5
  let c8448 : Index := 8448#32
  ![v584.toNat, 8448]
def k1_off198 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v586 : Index := Scalar.indexCast v5
  let c8704 : Index := 8704#32
  ![v586.toNat, 8704]
def k1_off199 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v588 : Index := Scalar.indexCast v5
  let c8960 : Index := 8960#32
  ![v588.toNat, 8960]
def k1_off200 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v590 : Index := Scalar.indexCast v5
  let c9216 : Index := 9216#32
  ![v590.toNat, 9216]
def k1_off201 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v592 : Index := Scalar.indexCast v5
  let c9472 : Index := 9472#32
  ![v592.toNat, 9472]
def k1_off202 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v594 : Index := Scalar.indexCast v5
  let c9728 : Index := 9728#32
  ![v594.toNat, 9728]
def k1_off203 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v596 : Index := Scalar.indexCast v5
  let c9984 : Index := 9984#32
  ![v596.toNat, 9984]
def k1_off204 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v654 : Index := Scalar.indexCast v5
  let c8320 : Index := 8320#32
  ![v654.toNat, 8320]
def k1_off205 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v656 : Index := Scalar.indexCast v5
  let c8576 : Index := 8576#32
  ![v656.toNat, 8576]
def k1_off206 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v658 : Index := Scalar.indexCast v5
  let c8832 : Index := 8832#32
  ![v658.toNat, 8832]
def k1_off207 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v660 : Index := Scalar.indexCast v5
  let c9088 : Index := 9088#32
  ![v660.toNat, 9088]
def k1_off208 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v662 : Index := Scalar.indexCast v5
  let c9344 : Index := 9344#32
  ![v662.toNat, 9344]
def k1_off209 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v664 : Index := Scalar.indexCast v5
  let c9600 : Index := 9600#32
  ![v664.toNat, 9600]
def k1_off210 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v666 : Index := Scalar.indexCast v5
  let c9856 : Index := 9856#32
  ![v666.toNat, 9856]
def k1_off211 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v668 : Index := Scalar.indexCast v5
  let c10112 : Index := 10112#32
  ![v668.toNat, 10112]
def k1_off212 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v726 : Index := Scalar.indexCast v5
  let c10240 : Index := 10240#32
  ![v726.toNat, 10240]
def k1_off213 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v728 : Index := Scalar.indexCast v5
  let c10496 : Index := 10496#32
  ![v728.toNat, 10496]
def k1_off214 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v730 : Index := Scalar.indexCast v5
  let c10752 : Index := 10752#32
  ![v730.toNat, 10752]
def k1_off215 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v732 : Index := Scalar.indexCast v5
  let c11008 : Index := 11008#32
  ![v732.toNat, 11008]
def k1_off216 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v734 : Index := Scalar.indexCast v5
  let c11264 : Index := 11264#32
  ![v734.toNat, 11264]
def k1_off217 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v736 : Index := Scalar.indexCast v5
  let c11520 : Index := 11520#32
  ![v736.toNat, 11520]
def k1_off218 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v738 : Index := Scalar.indexCast v5
  let c11776 : Index := 11776#32
  ![v738.toNat, 11776]
def k1_off219 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v740 : Index := Scalar.indexCast v5
  let c12032 : Index := 12032#32
  ![v740.toNat, 12032]
def k1_off220 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v798 : Index := Scalar.indexCast v5
  let c10368 : Index := 10368#32
  ![v798.toNat, 10368]
def k1_off221 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v800 : Index := Scalar.indexCast v5
  let c10624 : Index := 10624#32
  ![v800.toNat, 10624]
def k1_off222 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v802 : Index := Scalar.indexCast v5
  let c10880 : Index := 10880#32
  ![v802.toNat, 10880]
def k1_off223 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v804 : Index := Scalar.indexCast v5
  let c11136 : Index := 11136#32
  ![v804.toNat, 11136]
def k1_off224 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v806 : Index := Scalar.indexCast v5
  let c11392 : Index := 11392#32
  ![v806.toNat, 11392]
def k1_off225 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v808 : Index := Scalar.indexCast v5
  let c11648 : Index := 11648#32
  ![v808.toNat, 11648]
def k1_off226 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v810 : Index := Scalar.indexCast v5
  let c11904 : Index := 11904#32
  ![v810.toNat, 11904]
def k1_off227 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v812 : Index := Scalar.indexCast v5
  let c12160 : Index := 12160#32
  ![v812.toNat, 12160]
def k1_off228 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v870 : Index := Scalar.indexCast v5
  let c12288 : Index := 12288#32
  ![v870.toNat, 12288]
def k1_off229 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v872 : Index := Scalar.indexCast v5
  let c12544 : Index := 12544#32
  ![v872.toNat, 12544]
def k1_off230 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v874 : Index := Scalar.indexCast v5
  let c12800 : Index := 12800#32
  ![v874.toNat, 12800]
def k1_off231 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v876 : Index := Scalar.indexCast v5
  let c13056 : Index := 13056#32
  ![v876.toNat, 13056]
def k1_off232 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v878 : Index := Scalar.indexCast v5
  let c13312 : Index := 13312#32
  ![v878.toNat, 13312]
def k1_off233 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v880 : Index := Scalar.indexCast v5
  let c13568 : Index := 13568#32
  ![v880.toNat, 13568]
def k1_off234 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v882 : Index := Scalar.indexCast v5
  let c13824 : Index := 13824#32
  ![v882.toNat, 13824]
def k1_off235 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v884 : Index := Scalar.indexCast v5
  let c14080 : Index := 14080#32
  ![v884.toNat, 14080]
def k1_off236 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v942 : Index := Scalar.indexCast v5
  let c12416 : Index := 12416#32
  ![v942.toNat, 12416]
def k1_off237 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v944 : Index := Scalar.indexCast v5
  let c12672 : Index := 12672#32
  ![v944.toNat, 12672]
def k1_off238 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v946 : Index := Scalar.indexCast v5
  let c12928 : Index := 12928#32
  ![v946.toNat, 12928]
def k1_off239 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v948 : Index := Scalar.indexCast v5
  let c13184 : Index := 13184#32
  ![v948.toNat, 13184]
def k1_off240 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v950 : Index := Scalar.indexCast v5
  let c13440 : Index := 13440#32
  ![v950.toNat, 13440]
def k1_off241 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v952 : Index := Scalar.indexCast v5
  let c13696 : Index := 13696#32
  ![v952.toNat, 13696]
def k1_off242 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v954 : Index := Scalar.indexCast v5
  let c13952 : Index := 13952#32
  ![v954.toNat, 13952]
def k1_off243 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v956 : Index := Scalar.indexCast v5
  let c14208 : Index := 14208#32
  ![v956.toNat, 14208]
def k1_off244 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v1014 : Index := Scalar.indexCast v5
  let c14336 : Index := 14336#32
  ![v1014.toNat, 14336]
def k1_off245 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v1016 : Index := Scalar.indexCast v5
  let c14592 : Index := 14592#32
  ![v1016.toNat, 14592]
def k1_off246 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v1018 : Index := Scalar.indexCast v5
  let c14848 : Index := 14848#32
  ![v1018.toNat, 14848]
def k1_off247 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v1020 : Index := Scalar.indexCast v5
  let c15104 : Index := 15104#32
  ![v1020.toNat, 15104]
def k1_off248 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v1022 : Index := Scalar.indexCast v5
  let c15360 : Index := 15360#32
  ![v1022.toNat, 15360]
def k1_off249 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v1024 : Index := Scalar.indexCast v5
  let c15616 : Index := 15616#32
  ![v1024.toNat, 15616]
def k1_off250 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v1026 : Index := Scalar.indexCast v5
  let c15872 : Index := 15872#32
  ![v1026.toNat, 15872]
def k1_off251 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v1028 : Index := Scalar.indexCast v5
  let c16128 : Index := 16128#32
  ![v1028.toNat, 16128]
def k1_off252 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v1086 : Index := Scalar.indexCast v5
  let c14464 : Index := 14464#32
  ![v1086.toNat, 14464]
def k1_off253 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v1088 : Index := Scalar.indexCast v5
  let c14720 : Index := 14720#32
  ![v1088.toNat, 14720]
def k1_off254 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v1090 : Index := Scalar.indexCast v5
  let c14976 : Index := 14976#32
  ![v1090.toNat, 14976]
def k1_off255 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v1092 : Index := Scalar.indexCast v5
  let c15232 : Index := 15232#32
  ![v1092.toNat, 15232]
def k1_off256 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v1094 : Index := Scalar.indexCast v5
  let c15488 : Index := 15488#32
  ![v1094.toNat, 15488]
def k1_off257 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v1096 : Index := Scalar.indexCast v5
  let c15744 : Index := 15744#32
  ![v1096.toNat, 15744]
def k1_off258 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v1098 : Index := Scalar.indexCast v5
  let c16000 : Index := 16000#32
  ![v1098.toNat, 16000]
def k1_off259 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v1100 : Index := Scalar.indexCast v5
  let c16256 : Index := 16256#32
  ![v1100.toNat, 16256]
def k1_off260 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v2569 : Index := Scalar.indexCast v5
  let c0_396 : Index := 0#32
  ![v2569.toNat, 0]
def k1_off261 (k1_t3 : Fin k1_t3_loop.trips) : Fin 2 → Nat :=
  let c0_i32_4 : BitVec 32 := 0#32
  let c1_i32_5 : BitVec 32 := 1#32
  let arg7 : BitVec 32 := Scf.iv c0_i32_4 c1_i32_5 k1_t3
  let c8_i32_10 : BitVec 32 := 8#32
  let v4 : BitVec 32 := Scalar.muli arg7 c8_i32_10
  let v5 : BitVec 32 := v4
  let v2578 : Index := Scalar.indexCast v5
  let c0_400 : Index := 0#32
  ![v2578.toNat, 0]
@[reducible] def k1_t4_loop : Scf.Loop 32 :=
  let c0_i32_7 : BitVec 32 := 0#32
  let c4_i32 : BitVec 32 := 4#32
  let v3 : BitVec 32 := Scalar.addi c0_i32_7 c4_i32
  let c1_i32_8 : BitVec 32 := 1#32
  ⟨c0_i32_7, v3, c1_i32_8⟩
def k1_mult4 (k1_t4 : Fin k1_t4_loop.trips) : BitVec 32 :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  v4
def k1_off262 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v6 : Index := Scalar.indexCast v5
  let c0 : Index := 0#32
  ![v6.toNat, 0]
def k1_off263 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v8 : Index := Scalar.indexCast v5
  let c0_10 : Index := 0#32
  ![v8.toNat, 0]
def k1_off264 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v13 : Index := Scalar.indexCast v5
  let c0_11 : Index := 0#32
  ![v13.toNat, 0]
def k1_off265 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v25 : Index := Scalar.indexCast v5
  let c128 : Index := 128#32
  ![v25.toNat, 128]
def k1_off266 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v37 : Index := Scalar.indexCast v5
  let c256 : Index := 256#32
  ![v37.toNat, 256]
def k1_off267 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v49 : Index := Scalar.indexCast v5
  let c384 : Index := 384#32
  ![v49.toNat, 384]
def k1_off268 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v61 : Index := Scalar.indexCast v5
  let c512 : Index := 512#32
  ![v61.toNat, 512]
def k1_off269 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v73 : Index := Scalar.indexCast v5
  let c640 : Index := 640#32
  ![v73.toNat, 640]
def k1_off270 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v85 : Index := Scalar.indexCast v5
  let c768 : Index := 768#32
  ![v85.toNat, 768]
def k1_off271 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v97 : Index := Scalar.indexCast v5
  let c896 : Index := 896#32
  ![v97.toNat, 896]
def k1_off272 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v109 : Index := Scalar.indexCast v5
  let c1024 : Index := 1024#32
  ![v109.toNat, 1024]
def k1_off273 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v121 : Index := Scalar.indexCast v5
  let c1152 : Index := 1152#32
  ![v121.toNat, 1152]
def k1_off274 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v133 : Index := Scalar.indexCast v5
  let c1280 : Index := 1280#32
  ![v133.toNat, 1280]
def k1_off275 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v145 : Index := Scalar.indexCast v5
  let c1408 : Index := 1408#32
  ![v145.toNat, 1408]
def k1_off276 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v157 : Index := Scalar.indexCast v5
  let c1536 : Index := 1536#32
  ![v157.toNat, 1536]
def k1_off277 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v169 : Index := Scalar.indexCast v5
  let c1664 : Index := 1664#32
  ![v169.toNat, 1664]
def k1_off278 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v181 : Index := Scalar.indexCast v5
  let c1792 : Index := 1792#32
  ![v181.toNat, 1792]
def k1_off279 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v193 : Index := Scalar.indexCast v5
  let c1920 : Index := 1920#32
  ![v193.toNat, 1920]
def k1_off280 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v205 : Index := Scalar.indexCast v5
  let c2048 : Index := 2048#32
  ![v205.toNat, 2048]
def k1_off281 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v217 : Index := Scalar.indexCast v5
  let c2176 : Index := 2176#32
  ![v217.toNat, 2176]
def k1_off282 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v229 : Index := Scalar.indexCast v5
  let c2304 : Index := 2304#32
  ![v229.toNat, 2304]
def k1_off283 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v241 : Index := Scalar.indexCast v5
  let c2432 : Index := 2432#32
  ![v241.toNat, 2432]
def k1_off284 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v253 : Index := Scalar.indexCast v5
  let c2560 : Index := 2560#32
  ![v253.toNat, 2560]
def k1_off285 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v265 : Index := Scalar.indexCast v5
  let c2688 : Index := 2688#32
  ![v265.toNat, 2688]
def k1_off286 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v277 : Index := Scalar.indexCast v5
  let c2816 : Index := 2816#32
  ![v277.toNat, 2816]
def k1_off287 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v289 : Index := Scalar.indexCast v5
  let c2944 : Index := 2944#32
  ![v289.toNat, 2944]
def k1_off288 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v301 : Index := Scalar.indexCast v5
  let c3072 : Index := 3072#32
  ![v301.toNat, 3072]
def k1_off289 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v313 : Index := Scalar.indexCast v5
  let c3200 : Index := 3200#32
  ![v313.toNat, 3200]
def k1_off290 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v325 : Index := Scalar.indexCast v5
  let c3328 : Index := 3328#32
  ![v325.toNat, 3328]
def k1_off291 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v337 : Index := Scalar.indexCast v5
  let c3456 : Index := 3456#32
  ![v337.toNat, 3456]
def k1_off292 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v349 : Index := Scalar.indexCast v5
  let c3584 : Index := 3584#32
  ![v349.toNat, 3584]
def k1_off293 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v361 : Index := Scalar.indexCast v5
  let c3712 : Index := 3712#32
  ![v361.toNat, 3712]
def k1_off294 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v373 : Index := Scalar.indexCast v5
  let c3840 : Index := 3840#32
  ![v373.toNat, 3840]
def k1_off295 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v385 : Index := Scalar.indexCast v5
  let c3968 : Index := 3968#32
  ![v385.toNat, 3968]
def k1_off296 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v397 : Index := Scalar.indexCast v5
  let c4096 : Index := 4096#32
  ![v397.toNat, 4096]
def k1_off297 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v409 : Index := Scalar.indexCast v5
  let c4224 : Index := 4224#32
  ![v409.toNat, 4224]
def k1_off298 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v421 : Index := Scalar.indexCast v5
  let c4352 : Index := 4352#32
  ![v421.toNat, 4352]
def k1_off299 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v433 : Index := Scalar.indexCast v5
  let c4480 : Index := 4480#32
  ![v433.toNat, 4480]
def k1_off300 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v445 : Index := Scalar.indexCast v5
  let c4608 : Index := 4608#32
  ![v445.toNat, 4608]
def k1_off301 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v457 : Index := Scalar.indexCast v5
  let c4736 : Index := 4736#32
  ![v457.toNat, 4736]
def k1_off302 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v469 : Index := Scalar.indexCast v5
  let c4864 : Index := 4864#32
  ![v469.toNat, 4864]
def k1_off303 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v481 : Index := Scalar.indexCast v5
  let c4992 : Index := 4992#32
  ![v481.toNat, 4992]
def k1_off304 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v493 : Index := Scalar.indexCast v5
  let c5120 : Index := 5120#32
  ![v493.toNat, 5120]
def k1_off305 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v505 : Index := Scalar.indexCast v5
  let c5248 : Index := 5248#32
  ![v505.toNat, 5248]
def k1_off306 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v517 : Index := Scalar.indexCast v5
  let c5376 : Index := 5376#32
  ![v517.toNat, 5376]
def k1_off307 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v529 : Index := Scalar.indexCast v5
  let c5504 : Index := 5504#32
  ![v529.toNat, 5504]
def k1_off308 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v541 : Index := Scalar.indexCast v5
  let c5632 : Index := 5632#32
  ![v541.toNat, 5632]
def k1_off309 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v553 : Index := Scalar.indexCast v5
  let c5760 : Index := 5760#32
  ![v553.toNat, 5760]
def k1_off310 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v565 : Index := Scalar.indexCast v5
  let c5888 : Index := 5888#32
  ![v565.toNat, 5888]
def k1_off311 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v577 : Index := Scalar.indexCast v5
  let c6016 : Index := 6016#32
  ![v577.toNat, 6016]
def k1_off312 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v589 : Index := Scalar.indexCast v5
  let c6144 : Index := 6144#32
  ![v589.toNat, 6144]
def k1_off313 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v601 : Index := Scalar.indexCast v5
  let c6272 : Index := 6272#32
  ![v601.toNat, 6272]
def k1_off314 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v613 : Index := Scalar.indexCast v5
  let c6400 : Index := 6400#32
  ![v613.toNat, 6400]
def k1_off315 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v625 : Index := Scalar.indexCast v5
  let c6528 : Index := 6528#32
  ![v625.toNat, 6528]
def k1_off316 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v637 : Index := Scalar.indexCast v5
  let c6656 : Index := 6656#32
  ![v637.toNat, 6656]
def k1_off317 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v649 : Index := Scalar.indexCast v5
  let c6784 : Index := 6784#32
  ![v649.toNat, 6784]
def k1_off318 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v661 : Index := Scalar.indexCast v5
  let c6912 : Index := 6912#32
  ![v661.toNat, 6912]
def k1_off319 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v673 : Index := Scalar.indexCast v5
  let c7040 : Index := 7040#32
  ![v673.toNat, 7040]
def k1_off320 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v685 : Index := Scalar.indexCast v5
  let c7168 : Index := 7168#32
  ![v685.toNat, 7168]
def k1_off321 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v697 : Index := Scalar.indexCast v5
  let c7296 : Index := 7296#32
  ![v697.toNat, 7296]
def k1_off322 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v709 : Index := Scalar.indexCast v5
  let c7424 : Index := 7424#32
  ![v709.toNat, 7424]
def k1_off323 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v721 : Index := Scalar.indexCast v5
  let c7552 : Index := 7552#32
  ![v721.toNat, 7552]
def k1_off324 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v733 : Index := Scalar.indexCast v5
  let c7680 : Index := 7680#32
  ![v733.toNat, 7680]
def k1_off325 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v745 : Index := Scalar.indexCast v5
  let c7808 : Index := 7808#32
  ![v745.toNat, 7808]
def k1_off326 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v757 : Index := Scalar.indexCast v5
  let c7936 : Index := 7936#32
  ![v757.toNat, 7936]
def k1_off327 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v769 : Index := Scalar.indexCast v5
  let c8064 : Index := 8064#32
  ![v769.toNat, 8064]
def k1_off328 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v781 : Index := Scalar.indexCast v5
  let c8192 : Index := 8192#32
  ![v781.toNat, 8192]
def k1_off329 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v793 : Index := Scalar.indexCast v5
  let c8320 : Index := 8320#32
  ![v793.toNat, 8320]
def k1_off330 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v805 : Index := Scalar.indexCast v5
  let c8448 : Index := 8448#32
  ![v805.toNat, 8448]
def k1_off331 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v817 : Index := Scalar.indexCast v5
  let c8576 : Index := 8576#32
  ![v817.toNat, 8576]
def k1_off332 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v829 : Index := Scalar.indexCast v5
  let c8704 : Index := 8704#32
  ![v829.toNat, 8704]
def k1_off333 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v841 : Index := Scalar.indexCast v5
  let c8832 : Index := 8832#32
  ![v841.toNat, 8832]
def k1_off334 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v853 : Index := Scalar.indexCast v5
  let c8960 : Index := 8960#32
  ![v853.toNat, 8960]
def k1_off335 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v865 : Index := Scalar.indexCast v5
  let c9088 : Index := 9088#32
  ![v865.toNat, 9088]
def k1_off336 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v877 : Index := Scalar.indexCast v5
  let c9216 : Index := 9216#32
  ![v877.toNat, 9216]
def k1_off337 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v889 : Index := Scalar.indexCast v5
  let c9344 : Index := 9344#32
  ![v889.toNat, 9344]
def k1_off338 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v901 : Index := Scalar.indexCast v5
  let c9472 : Index := 9472#32
  ![v901.toNat, 9472]
def k1_off339 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v913 : Index := Scalar.indexCast v5
  let c9600 : Index := 9600#32
  ![v913.toNat, 9600]
def k1_off340 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v925 : Index := Scalar.indexCast v5
  let c9728 : Index := 9728#32
  ![v925.toNat, 9728]
def k1_off341 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v937 : Index := Scalar.indexCast v5
  let c9856 : Index := 9856#32
  ![v937.toNat, 9856]
def k1_off342 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v949 : Index := Scalar.indexCast v5
  let c9984 : Index := 9984#32
  ![v949.toNat, 9984]
def k1_off343 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v961 : Index := Scalar.indexCast v5
  let c10112 : Index := 10112#32
  ![v961.toNat, 10112]
def k1_off344 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v973 : Index := Scalar.indexCast v5
  let c10240 : Index := 10240#32
  ![v973.toNat, 10240]
def k1_off345 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v985 : Index := Scalar.indexCast v5
  let c10368 : Index := 10368#32
  ![v985.toNat, 10368]
def k1_off346 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v997 : Index := Scalar.indexCast v5
  let c10496 : Index := 10496#32
  ![v997.toNat, 10496]
def k1_off347 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v1009 : Index := Scalar.indexCast v5
  let c10624 : Index := 10624#32
  ![v1009.toNat, 10624]
def k1_off348 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v1021 : Index := Scalar.indexCast v5
  let c10752 : Index := 10752#32
  ![v1021.toNat, 10752]
def k1_off349 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v1033 : Index := Scalar.indexCast v5
  let c10880 : Index := 10880#32
  ![v1033.toNat, 10880]
def k1_off350 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v1045 : Index := Scalar.indexCast v5
  let c11008 : Index := 11008#32
  ![v1045.toNat, 11008]
def k1_off351 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v1057 : Index := Scalar.indexCast v5
  let c11136 : Index := 11136#32
  ![v1057.toNat, 11136]
def k1_off352 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v1069 : Index := Scalar.indexCast v5
  let c11264 : Index := 11264#32
  ![v1069.toNat, 11264]
def k1_off353 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v1081 : Index := Scalar.indexCast v5
  let c11392 : Index := 11392#32
  ![v1081.toNat, 11392]
def k1_off354 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v1093 : Index := Scalar.indexCast v5
  let c11520 : Index := 11520#32
  ![v1093.toNat, 11520]
def k1_off355 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v1105 : Index := Scalar.indexCast v5
  let c11648 : Index := 11648#32
  ![v1105.toNat, 11648]
def k1_off356 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v1117 : Index := Scalar.indexCast v5
  let c11776 : Index := 11776#32
  ![v1117.toNat, 11776]
def k1_off357 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v1129 : Index := Scalar.indexCast v5
  let c11904 : Index := 11904#32
  ![v1129.toNat, 11904]
def k1_off358 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v1141 : Index := Scalar.indexCast v5
  let c12032 : Index := 12032#32
  ![v1141.toNat, 12032]
def k1_off359 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v1153 : Index := Scalar.indexCast v5
  let c12160 : Index := 12160#32
  ![v1153.toNat, 12160]
def k1_off360 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v1165 : Index := Scalar.indexCast v5
  let c12288 : Index := 12288#32
  ![v1165.toNat, 12288]
def k1_off361 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v1177 : Index := Scalar.indexCast v5
  let c12416 : Index := 12416#32
  ![v1177.toNat, 12416]
def k1_off362 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v1189 : Index := Scalar.indexCast v5
  let c12544 : Index := 12544#32
  ![v1189.toNat, 12544]
def k1_off363 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v1201 : Index := Scalar.indexCast v5
  let c12672 : Index := 12672#32
  ![v1201.toNat, 12672]
def k1_off364 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v1213 : Index := Scalar.indexCast v5
  let c12800 : Index := 12800#32
  ![v1213.toNat, 12800]
def k1_off365 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v1225 : Index := Scalar.indexCast v5
  let c12928 : Index := 12928#32
  ![v1225.toNat, 12928]
def k1_off366 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v1237 : Index := Scalar.indexCast v5
  let c13056 : Index := 13056#32
  ![v1237.toNat, 13056]
def k1_off367 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v1249 : Index := Scalar.indexCast v5
  let c13184 : Index := 13184#32
  ![v1249.toNat, 13184]
def k1_off368 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v1261 : Index := Scalar.indexCast v5
  let c13312 : Index := 13312#32
  ![v1261.toNat, 13312]
def k1_off369 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v1273 : Index := Scalar.indexCast v5
  let c13440 : Index := 13440#32
  ![v1273.toNat, 13440]
def k1_off370 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v1285 : Index := Scalar.indexCast v5
  let c13568 : Index := 13568#32
  ![v1285.toNat, 13568]
def k1_off371 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v1297 : Index := Scalar.indexCast v5
  let c13696 : Index := 13696#32
  ![v1297.toNat, 13696]
def k1_off372 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v1309 : Index := Scalar.indexCast v5
  let c13824 : Index := 13824#32
  ![v1309.toNat, 13824]
def k1_off373 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v1321 : Index := Scalar.indexCast v5
  let c13952 : Index := 13952#32
  ![v1321.toNat, 13952]
def k1_off374 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v1333 : Index := Scalar.indexCast v5
  let c14080 : Index := 14080#32
  ![v1333.toNat, 14080]
def k1_off375 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v1345 : Index := Scalar.indexCast v5
  let c14208 : Index := 14208#32
  ![v1345.toNat, 14208]
def k1_off376 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v1357 : Index := Scalar.indexCast v5
  let c14336 : Index := 14336#32
  ![v1357.toNat, 14336]
def k1_off377 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v1369 : Index := Scalar.indexCast v5
  let c14464 : Index := 14464#32
  ![v1369.toNat, 14464]
def k1_off378 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v1381 : Index := Scalar.indexCast v5
  let c14592 : Index := 14592#32
  ![v1381.toNat, 14592]
def k1_off379 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v1393 : Index := Scalar.indexCast v5
  let c14720 : Index := 14720#32
  ![v1393.toNat, 14720]
def k1_off380 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v1405 : Index := Scalar.indexCast v5
  let c14848 : Index := 14848#32
  ![v1405.toNat, 14848]
def k1_off381 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v1417 : Index := Scalar.indexCast v5
  let c14976 : Index := 14976#32
  ![v1417.toNat, 14976]
def k1_off382 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v1429 : Index := Scalar.indexCast v5
  let c15104 : Index := 15104#32
  ![v1429.toNat, 15104]
def k1_off383 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v1441 : Index := Scalar.indexCast v5
  let c15232 : Index := 15232#32
  ![v1441.toNat, 15232]
def k1_off384 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v1453 : Index := Scalar.indexCast v5
  let c15360 : Index := 15360#32
  ![v1453.toNat, 15360]
def k1_off385 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v1465 : Index := Scalar.indexCast v5
  let c15488 : Index := 15488#32
  ![v1465.toNat, 15488]
def k1_off386 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v1477 : Index := Scalar.indexCast v5
  let c15616 : Index := 15616#32
  ![v1477.toNat, 15616]
def k1_off387 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v1489 : Index := Scalar.indexCast v5
  let c15744 : Index := 15744#32
  ![v1489.toNat, 15744]
def k1_off388 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v1501 : Index := Scalar.indexCast v5
  let c15872 : Index := 15872#32
  ![v1501.toNat, 15872]
def k1_off389 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v1513 : Index := Scalar.indexCast v5
  let c16000 : Index := 16000#32
  ![v1513.toNat, 16000]
def k1_off390 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v1525 : Index := Scalar.indexCast v5
  let c16128 : Index := 16128#32
  ![v1525.toNat, 16128]
def k1_off391 (k1_t4 : Fin k1_t4_loop.trips) : Fin 2 → Nat :=
  let c0_i32_7 : BitVec 32 := 0#32
  let c1_i32_8 : BitVec 32 := 1#32
  let arg7 : BitVec 32 := Scf.iv c0_i32_7 c1_i32_8 k1_t4
  let c32_i32 : BitVec 32 := 32#32
  let v4 : BitVec 32 := Scalar.muli arg7 c32_i32
  let v5 : BitVec 32 := v4
  let v1537 : Index := Scalar.indexCast v5
  let c16256 : Index := 16256#32
  ![v1537.toNat, 16256]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x16384 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x768x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x16384 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== CodesRefIdeal.lean ====
abbrev S3072x16384 : Shape := ⟨2, ![3072, 16384]⟩
abbrev S16384 : Shape := ⟨1, ![16384]⟩
abbrev S256x256 : Shape := ⟨2, ![256, 256]⟩
abbrev S_ : Shape := ⟨0, ![]⟩
abbrev S3072 : Shape := ⟨1, ![3072]⟩
abbrev S3072x1 : Shape := ⟨2, ![3072, 1]⟩
abbrev S1x16384 : Shape := ⟨2, ![1, 16384]⟩
abbrev S3072x64x256 : Shape := ⟨3, ![3072, 64, 256]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S3072x256x64 : Shape := ⟨3, ![3072, 256, 64]⟩

abbrev nBuf : Space → Nat
  | .hbm => 112
  | .vmem => 0
  | .smem => 0
  | _ => 0

abbrev bufTy : (tb : Table) → Fin (tcTables nBuf tb) → BufTy
  | .hbm, ⟨0, _⟩ => ⟨S3072x16384, .bf16⟩
  | .hbm, ⟨1, _⟩ => ⟨S16384, .f32⟩
  | .hbm, ⟨2, _⟩ => ⟨S256x256, .f32⟩
  | .hbm, ⟨3, _⟩ => ⟨S3072x16384, .f32⟩
  | .hbm, ⟨4, _⟩ => ⟨S3072x16384, .f32⟩
  | .hbm, ⟨5, _⟩ => ⟨S_, .f32⟩
  | .hbm, ⟨6, _⟩ => ⟨S3072, .f32⟩
  | .hbm, ⟨7, _⟩ => ⟨S3072x1, .f32⟩
  | .hbm, ⟨8, _⟩ => ⟨S_, .f32⟩
  | .hbm, ⟨9, _⟩ => ⟨S3072x1, .f32⟩
  | .hbm, ⟨10, _⟩ => ⟨S3072x1, .f32⟩
  | .hbm, ⟨11, _⟩ => ⟨S_, .f32⟩
  | .hbm, ⟨12, _⟩ => ⟨S3072x1, .f32⟩
  | .hbm, ⟨13, _⟩ => ⟨S3072x1, .f32⟩
  | .hbm, ⟨14, _⟩ => ⟨S3072x1, .f32⟩
  | .hbm, ⟨15, _⟩ => ⟨S3072x16384, .f32⟩
  | .hbm, ⟨16, _⟩ => ⟨S3072x16384, .f32⟩
  | .hbm, ⟨17, _⟩ => ⟨S1x16384, .f32⟩
  | .hbm, ⟨18, _⟩ => ⟨S3072x16384, .f32⟩
  | .hbm, ⟨19, _⟩ => ⟨S3072x16384, .f32⟩
  | .hbm, ⟨20, _⟩ => ⟨S3072x64x256, .f32⟩
  | .hbm, ⟨21, _⟩ => ⟨S3072x64x256, .f32⟩
  | .hbm, ⟨22, _⟩ => ⟨S64, .i32⟩
  | .hbm, ⟨23, _⟩ => ⟨S64x1, .i32⟩
  | .hbm, ⟨24, _⟩ => ⟨S1x64, .i32⟩
  | .hbm, ⟨25, _⟩ => ⟨S64x64, .i32⟩
  | .hbm, ⟨26, _⟩ => ⟨S64x64, .i32⟩
  | .hbm, ⟨27, _⟩ => ⟨S64x64, .i32⟩
  | .hbm, ⟨28, _⟩ => ⟨S_, .i32⟩
  | .hbm, ⟨29, _⟩ => ⟨S64x64, .i32⟩
  | .hbm, ⟨30, _⟩ => ⟨S_, .i32⟩
  | .hbm, ⟨31, _⟩ => ⟨S64x64, .i32⟩
  | .hbm, ⟨32, _⟩ => ⟨S64x64, .i32⟩
  | .hbm, ⟨33, _⟩ => ⟨S64x64, .i32⟩
  | .hbm, ⟨34, _⟩ => ⟨S_, .i32⟩
  | .hbm, ⟨35, _⟩ => ⟨S64x64, .i32⟩
  | .hbm, ⟨36, _⟩ => ⟨S64x64, .i32⟩
  | .hbm, ⟨37, _⟩ => ⟨S_, .i32⟩
  | .hbm, ⟨38, _⟩ => ⟨S64x64, .i32⟩
  | .hbm, ⟨39, _⟩ => ⟨S64x64, .i32⟩
  | .hbm, ⟨40, _⟩ => ⟨S64x64, .i32⟩
  | .hbm, ⟨41, _⟩ => ⟨S_, .i32⟩
  | .hbm, ⟨42, _⟩ => ⟨S64x64, .i32⟩
  | .hbm, ⟨43, _⟩ => ⟨S64x64, .i32⟩
  | .hbm, ⟨44, _⟩ => ⟨S_, .i32⟩
  | .hbm, ⟨45, _⟩ => ⟨S64x64, .i32⟩
  | .hbm, ⟨46, _⟩ => ⟨S64x64, .i32⟩
  | .hbm, ⟨47, _⟩ => ⟨S64x64, .i32⟩
  | .hbm, ⟨48, _⟩ => ⟨S_, .i32⟩
  | .hbm, ⟨49, _⟩ => ⟨S64x64, .i32⟩
  | .hbm, ⟨50, _⟩ => ⟨S64x64, .i32⟩
  | .hbm, ⟨51, _⟩ => ⟨S_, .i32⟩
  | .hbm, ⟨52, _⟩ => ⟨S64x64, .i32⟩
  | .hbm, ⟨53, _⟩ => ⟨S64x64, .i32⟩
  | .hbm, ⟨54, _⟩ => ⟨S64x64, .i32⟩
  | .hbm, ⟨55, _⟩ => ⟨S_, .i32⟩
  | .hbm, ⟨56, _⟩ => ⟨S64x64, .i32⟩
  | .hbm, ⟨57, _⟩ => ⟨S64x64, .i32⟩
  | .hbm, ⟨58, _⟩ => ⟨S_, .i32⟩
  | .hbm, ⟨59, _⟩ => ⟨S64x64, .i32⟩
  | .hbm, ⟨60, _⟩ => ⟨S64x64, .i32⟩
  | .hbm, ⟨61, _⟩ => ⟨S64x64, .i32⟩
  | .hbm, ⟨62, _⟩ => ⟨S_, .i32⟩
  | .hbm, ⟨63, _⟩ => ⟨S64x64, .i32⟩
  | .hbm, ⟨64, _⟩ => ⟨S64x64, .i32⟩
  | .hbm, ⟨65, _⟩ => ⟨S_, .i32⟩
  | .hbm, ⟨66, _⟩ => ⟨S64x64, .i32⟩
  | .hbm, ⟨67, _⟩ => ⟨S64x64, .i32⟩
  | .hbm, ⟨68, _⟩ => ⟨S64x64, .i32⟩
  | .hbm, ⟨69, _⟩ => ⟨S_, .i32⟩
  | .hbm, ⟨70, _⟩ => ⟨S64x64, .i32⟩
  | .hbm, ⟨71, _⟩ => ⟨S64x64, .i32⟩
  | .hbm, ⟨72, _⟩ => ⟨S_, .i32⟩
  | .hbm, ⟨73, _⟩ => ⟨S64x64, .i32⟩
  | .hbm, ⟨74, _⟩ => ⟨S64x64, .i32⟩
  | .hbm, ⟨75, _⟩ => ⟨S_, .i32⟩
  | .hbm, ⟨76, _⟩ => ⟨S64x64, .i32⟩
  | .hbm, ⟨77, _⟩ => ⟨S64x64, .i32⟩
  | .hbm, ⟨78, _⟩ => ⟨S64x64, .f32⟩
  | .hbm, ⟨79, _⟩ => ⟨S3072x256x64, .f32⟩
  | .hbm, ⟨80, _⟩ => ⟨S3072x64x256, .f32⟩
  | .hbm, ⟨81, _⟩ => ⟨S3072x16384, .f32⟩
  | .hbm, ⟨82, _⟩ => ⟨S_, .f32⟩
  | .hbm, ⟨83, _⟩ => ⟨S3072x16384, .f32⟩
  | .hbm, ⟨84, _⟩ => ⟨S3072x16384, .f32⟩
  | .hbm, ⟨85, _⟩ => ⟨S3072x16384, .f32⟩
  | .hbm, ⟨86, _⟩ => ⟨S_, .f32⟩
  | .hbm, ⟨87, _⟩ => ⟨S3072, .f32⟩
  | .hbm, ⟨88, _⟩ => ⟨S_, .f32⟩
  | .hbm, ⟨89, _⟩ => ⟨S3072, .f32⟩
  | .hbm, ⟨90, _⟩ => ⟨S3072, .i1⟩
  | .hbm, ⟨91, _⟩ => ⟨S_, .f32⟩
  | .hbm, ⟨92, _⟩ => ⟨S3072, .f32⟩
  | .hbm, ⟨93, _⟩ => ⟨S3072, .f32⟩
  | .hbm, ⟨94, _⟩ => ⟨S_, .f32⟩
  | .hbm, ⟨95, _⟩ => ⟨S3072, .f32⟩
  | .hbm, ⟨96, _⟩ => ⟨S3072, .f32⟩
  | .hbm, ⟨97, _⟩ => ⟨S3072x1, .f32⟩
  | .hbm, ⟨98, _⟩ => ⟨S3072x16384, .f32⟩
  | .hbm, ⟨99, _⟩ => ⟨S3072x16384, .f32⟩
  | .hbm, ⟨100, _⟩ => ⟨S3072x16384, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S3072x16384, .f32⟩
  | .hbm, ⟨105, _⟩ => ⟨S3072x16384, .f32⟩
  | .hbm, ⟨106, _⟩ => ⟨S_, .f32⟩
  | .hbm, ⟨107, _⟩ => ⟨S3072x16384, .f32⟩
  | .hbm, ⟨108, _⟩ => ⟨S3072x16384, .f32⟩
  | .hbm, ⟨109, _⟩ => ⟨S3072x16384, .i32⟩
  | .hbm, ⟨110, _⟩ => ⟨S3072x16384, .i8⟩
  | .hbm, ⟨111, _⟩ => ⟨S3072x1, .f32⟩
  | _, _ => ⟨S3072x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c : Ref sig .tc := ⟨.hbm, 28, rfl⟩
abbrev main_v22 : Ref sig .tc := ⟨.hbm, 29, rfl⟩
abbrev main_c_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_3 : Ref sig .tc := ⟨.hbm, 34, rfl⟩
abbrev main_v26 : Ref sig .tc := ⟨.hbm, 35, rfl⟩
abbrev main_v27 : Ref sig .tc := ⟨.hbm, 36, rfl⟩
abbrev main_c_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_5 : Ref sig .tc := ⟨.hbm, 41, rfl⟩
abbrev main_v31 : Ref sig .tc := ⟨.hbm, 42, rfl⟩
abbrev main_v32 : Ref sig .tc := ⟨.hbm, 43, rfl⟩
abbrev main_c_6 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_7 : Ref sig .tc := ⟨.hbm, 48, rfl⟩
abbrev main_v36 : Ref sig .tc := ⟨.hbm, 49, rfl⟩
abbrev main_v37 : Ref sig .tc := ⟨.hbm, 50, rfl⟩
abbrev main_c_8 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_9 : Ref sig .tc := ⟨.hbm, 55, rfl⟩
abbrev main_v41 : Ref sig .tc := ⟨.hbm, 56, rfl⟩
abbrev main_v42 : Ref sig .tc := ⟨.hbm, 57, rfl⟩
abbrev main_c_10 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_11 : Ref sig .tc := ⟨.hbm, 62, rfl⟩
abbrev main_v46 : Ref sig .tc := ⟨.hbm, 63, rfl⟩
abbrev main_v47 : Ref sig .tc := ⟨.hbm, 64, rfl⟩
abbrev main_c_12 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_c_13 : Ref sig .tc := ⟨.hbm, 69, rfl⟩
abbrev main_v51 : Ref sig .tc := ⟨.hbm, 70, rfl⟩
abbrev main_v52 : Ref sig .tc := ⟨.hbm, 71, rfl⟩
abbrev main_c_14 : Ref sig .tc := ⟨.hbm, 72, rfl⟩
abbrev main_v53 : Ref sig .tc := ⟨.hbm, 73, rfl⟩
abbrev main_v54 : Ref sig .tc := ⟨.hbm, 74, rfl⟩
abbrev main_c_15 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_16 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_17 : Ref sig .tc := ⟨.hbm, 86, rfl⟩
abbrev main_v64 : Ref sig .tc := ⟨.hbm, 87, rfl⟩
abbrev main_cst_18 : Ref sig .tc := ⟨.hbm, 88, rfl⟩
abbrev main_v65 : Ref sig .tc := ⟨.hbm, 89, rfl⟩
abbrev main_v66 : Ref sig .tc := ⟨.hbm, 90, rfl⟩
abbrev main_cst_19 : Ref sig .tc := ⟨.hbm, 91, rfl⟩
abbrev main_v67 : Ref sig .tc := ⟨.hbm, 92, rfl⟩
abbrev main_v68 : Ref sig .tc := ⟨.hbm, 93, rfl⟩
abbrev main_cst_20 : Ref sig .tc := ⟨.hbm, 94, rfl⟩
abbrev main_call0_v0 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_21 : Ref sig .tc := ⟨.hbm, 101, rfl⟩
abbrev main_cst_22 : Ref sig .tc := ⟨.hbm, 102, rfl⟩
abbrev main_call2_v0 : Ref sig .tc := ⟨.hbm, 103, rfl⟩
abbrev main_call2_v1 : Ref sig .tc := ⟨.hbm, 104, rfl⟩
abbrev main_call2_v2 : Ref sig .tc := ⟨.hbm, 105, rfl⟩
abbrev main_call2_v3 : Ref sig .tc := ⟨.hbm, 106, rfl⟩
abbrev main_call2_v4 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩

abbrev nD : Nat := 1
abbrev τ : Topo := Topo.v7x

variable {F : FTy → Type} [FloatOps F]
-- ==== Proof.Bits.TransformLoop.lean ====
/- The row loop of the transform by an invariant of its own.  A trip of the loop reads the rows it works on and the row factors,
   and never the scales it stores: its stores are a function of the rows alone.  So the stores of the loop are stated here over
   the rows' contents alone, whatever the scales' buffer held before. -/
module

public import proofs.«01_k».proof.Proof.Gen.Codes.Loops
public import Idealize.ShloMosaic.Lib.Pipeline.FrameBody

@[expose] public section

set_option maxRecDepth 16384
set_option maxHeartbeats 4000000

noncomputable section

namespace Cert.Codes.Hand

open Cert.Codes Cert.Codes.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The stores of trip `k`, as a function of the rows' contents. -/
def rowTrip (𝒱 : Variants) (c : Dev nD) (bd : Option 𝒱.V) (i : grid1.Coords) (arg1 : Memref sig .tc .vmem S128x16384 .bf16) (harg1 : arg1.IsWhole) (arg2 : Memref sig .tc .vmem S64x768x256 .bf16) (harg2 : arg2.IsWhole) (arg3 : Memref sig .tc .vmem S128x16384 .i8) (harg3 : arg3.IsWhole) (arg4 : Memref sig .tc .vmem S128x1 .f32) (harg4 : arg4.IsWhole) (arg5 : Memref sig .tc .vmem S128x16384 .f32) (harg5 : arg5.IsWhole) (arg6 : Memref sig .tc .vmem S128x128 .f32) (harg6 : arg6.IsWhole) (X_arg6 : BufTy.Contents (Elt F) arg6.view.ty) (k : Fin k1_t3_loop.trips) (f_arg5 : BufTy.Contents (Elt F) arg5.view.ty) : List (View.Piece (Elt F) S128x1 .f32) × List (View.Piece (Elt F) S128x16384 .f32) :=
  tripL_k1_t3 (F := F) 𝒱 c bd i arg1 harg1 arg2 harg2 arg3 harg3 arg4 harg4 arg5 harg5 arg6 harg6 X_arg6 k arg4.view.junk f_arg5

/-- A trip's stores do not depend on what the scales' buffer holds. -/
theorem rowTrip_eq (𝒱 : Variants) (c : Dev nD) (bd : Option 𝒱.V) (i : grid1.Coords) (arg1 : Memref sig .tc .vmem S128x16384 .bf16) (harg1 : arg1.IsWhole) (arg2 : Memref sig .tc .vmem S64x768x256 .bf16) (harg2 : arg2.IsWhole) (arg3 : Memref sig .tc .vmem S128x16384 .i8) (harg3 : arg3.IsWhole) (arg4 : Memref sig .tc .vmem S128x1 .f32) (harg4 : arg4.IsWhole) (arg5 : Memref sig .tc .vmem S128x16384 .f32) (harg5 : arg5.IsWhole) (arg6 : Memref sig .tc .vmem S128x128 .f32) (harg6 : arg6.IsWhole) (X_arg6 : BufTy.Contents (Elt F) arg6.view.ty) (k : Fin k1_t3_loop.trips) (f_arg4 : BufTy.Contents (Elt F) arg4.view.ty) (f_arg5 : BufTy.Contents (Elt F) arg5.view.ty) :
    tripL_k1_t3 (F := F) 𝒱 c bd i arg1 harg1 arg2 harg2 arg3 harg3 arg4 harg4 arg5 harg5 arg6 harg6 X_arg6 k f_arg4 f_arg5 = rowTrip 𝒱 c bd i arg1 harg1 arg2 harg2 arg3 harg3 arg4 harg4 arg5 harg5 arg6 harg6 X_arg6 k f_arg5 := by
  unfold rowTrip tripL_k1_t3 trip_k1_t3
  rfl

/-- The stores of the trips before `k`, the last first. -/
def rowStores (𝒱 : Variants) (c : Dev nD) (bd : Option 𝒱.V) (i : grid1.Coords) (arg1 : Memref sig .tc .vmem S128x16384 .bf16) (harg1 : arg1.IsWhole) (arg2 : Memref sig .tc .vmem S64x768x256 .bf16) (harg2 : arg2.IsWhole) (arg3 : Memref sig .tc .vmem S128x16384 .i8) (harg3 : arg3.IsWhole) (arg4 : Memref sig .tc .vmem S128x1 .f32) (harg4 : arg4.IsWhole) (arg5 : Memref sig .tc .vmem S128x16384 .f32) (harg5 : arg5.IsWhole) (arg6 : Memref sig .tc .vmem S128x128 .f32) (harg6 : arg6.IsWhole) (X_arg6 : BufTy.Contents (Elt F) arg6.view.ty) (G_arg5 : BufTy.Contents (Elt F) arg5.view.ty) : ℕ → List (View.Piece (Elt F) S128x1 .f32) × List (View.Piece (Elt F) S128x16384 .f32)
  | 0 => ([], [])
  | k + 1 =>
    if h : k < k1_t3_loop.trips then
      ((rowTrip (F := F) 𝒱 c bd i arg1 harg1 arg2 harg2 arg3 harg3 arg4 harg4 arg5 harg5 arg6 harg6 X_arg6 ⟨k, h⟩ (arg5.view.writes (Elt F) G_arg5 (rowStores 𝒱 c bd i arg1 harg1 arg2 harg2 arg3 harg3 arg4 harg4 arg5 harg5 arg6 harg6 X_arg6 G_arg5 k).2)).1
          ++ (rowStores 𝒱 c bd i arg1 harg1 arg2 harg2 arg3 harg3 arg4 harg4 arg5 harg5 arg6 harg6 X_arg6 G_arg5 k).1,
        (rowTrip (F := F) 𝒱 c bd i arg1 harg1 arg2 harg2 arg3 harg3 arg4 harg4 arg5 harg5 arg6 harg6 X_arg6 ⟨k, h⟩ (arg5.view.writes (Elt F) G_arg5 (rowStores 𝒱 c bd i arg1 harg1 arg2 harg2 arg3 harg3 arg4 harg4 arg5 harg5 arg6 harg6 X_arg6 G_arg5 k).2)).2
          ++ (rowStores 𝒱 c bd i arg1 harg1 arg2 harg2 arg3 harg3 arg4 harg4 arg5 harg5 arg6 harg6 X_arg6 G_arg5 k).2)
    else rowStores 𝒱 c bd i arg1 harg1 arg2 harg2 arg3 harg3 arg4 harg4 arg5 harg5 arg6 harg6 X_arg6 G_arg5 k

theorem rowStores_succ (𝒱 : Variants) (c : Dev nD) (bd : Option 𝒱.V) (i : grid1.Coords) (arg1 : Memref sig .tc .vmem S128x16384 .bf16) (harg1 : arg1.IsWhole) (arg2 : Memref sig .tc .vmem S64x768x256 .bf16) (harg2 : arg2.IsWhole) (arg3 : Memref sig .tc .vmem S128x16384 .i8) (harg3 : arg3.IsWhole) (arg4 : Memref sig .tc .vmem S128x1 .f32) (harg4 : arg4.IsWhole) (arg5 : Memref sig .tc .vmem S128x16384 .f32) (harg5 : arg5.IsWhole) (arg6 : Memref sig .tc .vmem S128x128 .f32) (harg6 : arg6.IsWhole) (X_arg6 : BufTy.Contents (Elt F) arg6.view.ty) (G_arg5 : BufTy.Contents (Elt F) arg5.view.ty) (k : Fin k1_t3_loop.trips) :
    rowStores (F := F) 𝒱 c bd i arg1 harg1 arg2 harg2 arg3 harg3 arg4 harg4 arg5 harg5 arg6 harg6 X_arg6 G_arg5 (k.val + 1)
      = ((rowTrip (F := F) 𝒱 c bd i arg1 harg1 arg2 harg2 arg3 harg3 arg4 harg4 arg5 harg5 arg6 harg6 X_arg6 k (arg5.view.writes (Elt F) G_arg5 (rowStores 𝒱 c bd i arg1 harg1 arg2 harg2 arg3 harg3 arg4 harg4 arg5 harg5 arg6 harg6 X_arg6 G_arg5 k.val).2)).1
          ++ (rowStores 𝒱 c bd i arg1 harg1 arg2 harg2 arg3 harg3 arg4 harg4 arg5 harg5 arg6 harg6 X_arg6 G_arg5 k.val).1,
        (rowTrip (F := F) 𝒱 c bd i arg1 harg1 arg2 harg2 arg3 harg3 arg4 harg4 arg5 harg5 arg6 harg6 X_arg6 k (arg5.view.writes (Elt F) G_arg5 (rowStores 𝒱 c bd i arg1 harg1 arg2 harg2 arg3 harg3 arg4 harg4 arg5 harg5 arg6 harg6 X_arg6 G_arg5 k.val).2)).2
          ++ (rowStores 𝒱 c bd i arg1 harg1 arg2 harg2 arg3 harg3 arg4 harg4 arg5 harg5 arg6 harg6 X_arg6 G_arg5 k.val).2) := by
  rw [rowStores.eq_2]; exact dif_pos k.isLt

/-- Before trip `k` the scales' buffer and the rows' buffer hold the stores of the trips before over what they held. -/
abbrev rowInv (𝒱 : Variants) (c : Dev nD) (bd : Option 𝒱.V) (i : grid1.Coords) (arg1 : Memref sig .tc .vmem S128x16384 .bf16) (harg1 : arg1.IsWhole) (arg2 : Memref sig .tc .vmem S64x768x256 .bf16) (harg2 : arg2.IsWhole) (arg3 : Memref sig .tc .vmem S128x16384 .i8) (harg3 : arg3.IsWhole) (arg4 : Memref sig .tc .vmem S128x1 .f32) (harg4 : arg4.IsWhole) (arg5 : Memref sig .tc .vmem S128x16384 .f32) (harg5 : arg5.IsWhole) (arg6 : Memref sig .tc .vmem S128x128 .f32) (harg6 : arg6.IsWhole) (X_arg6 : BufTy.Contents (Elt F) arg6.view.ty) (G_arg4 : BufTy.Contents (Elt F) arg4.view.ty) (G_arg5 : BufTy.Contents (Elt F) arg5.view.ty) (k : ℕ) (_u : PUnit) : sProp 𝕄G :=
  iprop((arg6.view.loc (c : Thread nD τ) ↦[arg6.view.set]{fullShare} X_arg6) ∗ (∃ f, (arg4.view.loc (c : Thread nD τ) ↦[arg4.view.set]{fullShare} f) ∗ ⌜f = arg4.view.writes (Elt F) G_arg4 (rowStores (F := F) 𝒱 c bd i arg1 harg1 arg2 harg2 arg3 harg3 arg4 harg4 arg5 harg5 arg6 harg6 X_arg6 G_arg5 k).1⌝) ∗ (∃ f, (arg5.view.loc (c : Thread nD τ) ↦[arg5.view.set]{fullShare} f) ∗ ⌜f = arg5.view.writes (Elt F) G_arg5 (rowStores (F := F) 𝒱 c bd i arg1 harg1 arg2 harg2 arg3 harg3 arg4 harg4 arg5 harg5 arg6 harg6 X_arg6 G_arg5 k).2⌝))

set_option warn.classDefReducibility false in
/-- The loop by that invariant. -/
@[sl_loop] def rowLoop (𝒱 : Variants) (c : Dev nD) (bd : Option 𝒱.V) (E : Set ℕ) (i : grid1.Coords) (arg1 : Memref sig .tc .vmem S128x16384 .bf16) (harg1 : arg1.IsWhole) (arg2 : Memref sig .tc .vmem S64x768x256 .bf16) (harg2 : arg2.IsWhole) (arg3 : Memref sig .tc .vmem S128x16384 .i8) (harg3 : arg3.IsWhole) (arg4 : Memref sig .tc .vmem S128x1 .f32) (harg4 : arg4.IsWhole) (arg5 : Memref sig .tc .vmem S128x16384 .f32) (harg5 : arg5.IsWhole) (arg6 : Memref sig .tc .vmem S128x128 .f32) (harg6 : arg6.IsWhole) (X_arg6 : BufTy.Contents (Elt F) arg6.view.ty) (G_arg4 : BufTy.Contents (Elt F) arg4.view.ty) (G_arg5 : BufTy.Contents (Elt F) arg5.view.ty) :
    Idealize.ShloMosaic.LoopInv (M := MT nD τ sig Unit (Elt F) ℕ (UR sig nD τ) ℕ) Idealize.ShloMosaic.frame (wpE defs₀ 𝒱 (c : Thread nD τ) bd) E
      k1_t3_loop.lb k1_t3_loop.ub k1_t3_loop.st k1_t3_ok () (k1_t3_body (F := F) i arg1 harg1 arg2 harg2 arg3 harg3 arg4 harg4 arg5 harg5 arg6 harg6) where
  inv := rowInv (F := F) 𝒱 c bd i arg1 harg1 arg2 harg2 arg3 harg3 arg4 harg4 arg5 harg5 arg6 harg6 X_arg6 G_arg4 G_arg5
  step k acc := by
    iintro ⟨HR_arg6, ⟨%f_arg4, HW_arg4, %h_arg4⟩, ⟨%f_arg5, HW_arg5, %h_arg5⟩⟩
    iapply (wp_wand_r Idealize.ShloMosaic.frame (wpE (defs₀ (F := F)) 𝒱 (c : Thread nD τ) bd) E)
    isplitl [HR_arg6 HW_arg4 HW_arg5]
    · iapply ((trip_k1_t3 (F := F) 𝒱 c bd i arg1 harg1 arg2 harg2 arg3 harg3 arg4 harg4 arg5 harg5 arg6 harg6 X_arg6 k).2.2 E f_arg4 f_arg5)
      isplitl [HR_arg6]; · iexact HR_arg6
      isplitl [HW_arg4]; · iexact HW_arg4
      iexact HW_arg5
    · iintro %_ ⟨HR_arg6, HW_arg4, HW_arg5⟩
      isplitl [HR_arg6]; · iexact HR_arg6
      have e1 := congrArg Prod.fst (rowTrip_eq (F := F) 𝒱 c bd i arg1 harg1 arg2 harg2 arg3 harg3 arg4 harg4 arg5 harg5 arg6 harg6 X_arg6 k f_arg4 f_arg5)
      have e2 := congrArg Prod.snd (rowTrip_eq (F := F) 𝒱 c bd i arg1 harg1 arg2 harg2 arg3 harg3 arg4 harg4 arg5 harg5 arg6 harg6 X_arg6 k f_arg4 f_arg5)
      dsimp only [tripL_k1_t3] at e1 e2
      rw [rowStores_succ]
      isplitl [HW_arg4]
      · iexists _; isplitl [HW_arg4]; · iexact HW_arg4
        ipureintro; rw [e1, h_arg4, h_arg5, ← View.writes_append]
      · iexists _; isplitl [HW_arg5]; · iexact HW_arg5
        ipureintro; rw [e2, h_arg5, ← View.writes_append]

end Cert.Codes.Hand
-- ==== Proof.Bits.TransformRun.lean ====
/- One block of the transform, run: the four loops' stores one after the other.  Each buffer is covered by the first loop that
   stores to it, so what it held before the block does not matter; here is what each holds after each loop, and the run. -/
module

public import proofs.«01_k».proof.Proof.Gen.Codes.Launch
public import proofs.«01_k».proof.Proof.Bits.TransformLoop
public import Idealize.ShloMosaic.Lib.Pipeline.ReadBack
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Codes.Hand

open Cert.Codes Cert.Codes.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Stores that cover a whole buffer leave the contents that reads back as what they hold, whatever the buffer held. -/
theorem writes_eq_unread {s : Shape} {e : EltTy} {sp : Space} (r : Memref sig .tc sp s e) (hr : r.IsWhole) (f : BufTy.Contents (Elt F) r.view.ty)
    (L : List (View.Piece (Elt F) s e)) (h : ∀ y, ∃ p ∈ L, y ∈ p.1.set) : r.view.writes (Elt F) f L = hr.unread (View.canon L) :=
  hr.eq_unread (View.read_writes_eq_canon r.view f L h)

/-- The row factors' stores. -/
abbrev facL (c : Dev nD) (i : grid1.Coords) (arg1 : Memref sig .tc .vmem S128x16384 .bf16) (harg1 : arg1.IsWhole) (arg2 : Memref sig .tc .vmem S64x768x256 .bf16) (harg2 : arg2.IsWhole) (arg3 : Memref sig .tc .vmem S128x16384 .i8) (harg3 : arg3.IsWhole) (arg4 : Memref sig .tc .vmem S128x1 .f32) (harg4 : arg4.IsWhole) (arg5 : Memref sig .tc .vmem S128x16384 .f32) (harg5 : arg5.IsWhole) (arg6 : Memref sig .tc .vmem S128x128 .f32) (harg6 : arg6.IsWhole)
    (x0 : Vec F S128x16384 .bf16) : List (View.Piece (Elt F) S128x128 .f32) :=
  pb_k1_t1 Variants.none c none i arg1 harg1 arg2 harg2 arg3 harg3 arg4 harg4 arg5 harg5 arg6 harg6 (harg1.unread x0) (Scf.trips k1_t1_loop.lb k1_t1_loop.ub k1_t1_loop.st)

/-- The products' stores. -/
abbrev prodL (c : Dev nD) (i : grid1.Coords) (arg1 : Memref sig .tc .vmem S128x16384 .bf16) (harg1 : arg1.IsWhole) (arg2 : Memref sig .tc .vmem S64x768x256 .bf16) (harg2 : arg2.IsWhole) (arg3 : Memref sig .tc .vmem S128x16384 .i8) (harg3 : arg3.IsWhole) (arg4 : Memref sig .tc .vmem S128x1 .f32) (harg4 : arg4.IsWhole) (arg5 : Memref sig .tc .vmem S128x16384 .f32) (harg5 : arg5.IsWhole) (arg6 : Memref sig .tc .vmem S128x128 .f32) (harg6 : arg6.IsWhole)
    (x0 : Vec F S128x16384 .bf16) (x1 : Vec F S64x768x256 .bf16) : List (View.Piece (Elt F) S128x16384 .f32) :=
  pb_k1_t2 Variants.none c none i arg1 harg1 arg2 harg2 arg3 harg3 arg4 harg4 arg5 harg5 arg6 harg6 (harg1.unread x0) (harg2.unread x1) (Scf.trips k1_t2_loop.lb k1_t2_loop.ub k1_t2_loop.st)

theorem facL_cover (c : Dev nD) (i : grid1.Coords) (arg1 : Memref sig .tc .vmem S128x16384 .bf16) (harg1 : arg1.IsWhole) (arg2 : Memref sig .tc .vmem S64x768x256 .bf16) (harg2 : arg2.IsWhole) (arg3 : Memref sig .tc .vmem S128x16384 .i8) (harg3 : arg3.IsWhole) (arg4 : Memref sig .tc .vmem S128x1 .f32) (harg4 : arg4.IsWhole) (arg5 : Memref sig .tc .vmem S128x16384 .f32) (harg5 : arg5.IsWhole) (arg6 : Memref sig .tc .vmem S128x128 .f32) (harg6 : arg6.IsWhole)
    (x0 : Vec F S128x16384 .bf16) (y : S128x128.Idx) : ∃ p ∈ facL c i arg1 harg1 arg2 harg2 arg3 harg3 arg4 harg4 arg5 harg5 arg6 harg6 x0, y ∈ p.1.set :=
  View.cover_of_tiledL (facL c i arg1 harg1 arg2 harg2 arg3 harg3 arg4 harg4 arg5 harg5 arg6 harg6 x0) S16x128.size (by sl_kernel_rfl) y

theorem prodL_cover (c : Dev nD) (i : grid1.Coords) (arg1 : Memref sig .tc .vmem S128x16384 .bf16) (harg1 : arg1.IsWhole) (arg2 : Memref sig .tc .vmem S64x768x256 .bf16) (harg2 : arg2.IsWhole) (arg3 : Memref sig .tc .vmem S128x16384 .i8) (harg3 : arg3.IsWhole) (arg4 : Memref sig .tc .vmem S128x1 .f32) (harg4 : arg4.IsWhole) (arg5 : Memref sig .tc .vmem S128x16384 .f32) (harg5 : arg5.IsWhole) (arg6 : Memref sig .tc .vmem S128x128 .f32) (harg6 : arg6.IsWhole)
    (x0 : Vec F S128x16384 .bf16) (x1 : Vec F S64x768x256 .bf16) (y : S128x16384.Idx) : ∃ p ∈ prodL c i arg1 harg1 arg2 harg2 arg3 harg3 arg4 harg4 arg5 harg5 arg6 harg6 x0 x1, y ∈ p.1.set :=
  View.cover_of_tiledL (prodL c i arg1 harg1 arg2 harg2 arg3 harg3 arg4 harg4 arg5 harg5 arg6 harg6 x0 x1) S128x256.size (by sl_kernel_rfl) y

/-- What the row factors' buffer holds after the first loop. -/
def facC (c : Dev nD) (i : grid1.Coords) (arg1 : Memref sig .tc .vmem S128x16384 .bf16) (harg1 : arg1.IsWhole) (arg2 : Memref sig .tc .vmem S64x768x256 .bf16) (harg2 : arg2.IsWhole) (arg3 : Memref sig .tc .vmem S128x16384 .i8) (harg3 : arg3.IsWhole) (arg4 : Memref sig .tc .vmem S128x1 .f32) (harg4 : arg4.IsWhole) (arg5 : Memref sig .tc .vmem S128x16384 .f32) (harg5 : arg5.IsWhole) (arg6 : Memref sig .tc .vmem S128x128 .f32) (harg6 : arg6.IsWhole)
    (x0 : Vec F S128x16384 .bf16) : BufTy.Contents (Elt F) arg6.view.ty := harg6.unread (View.canon (facL c i arg1 harg1 arg2 harg2 arg3 harg3 arg4 harg4 arg5 harg5 arg6 harg6 x0))

/-- What the rows' buffer holds after the second loop. -/
def prodC (c : Dev nD) (i : grid1.Coords) (arg1 : Memref sig .tc .vmem S128x16384 .bf16) (harg1 : arg1.IsWhole) (arg2 : Memref sig .tc .vmem S64x768x256 .bf16) (harg2 : arg2.IsWhole) (arg3 : Memref sig .tc .vmem S128x16384 .i8) (harg3 : arg3.IsWhole) (arg4 : Memref sig .tc .vmem S128x1 .f32) (harg4 : arg4.IsWhole) (arg5 : Memref sig .tc .vmem S128x16384 .f32) (harg5 : arg5.IsWhole) (arg6 : Memref sig .tc .vmem S128x128 .f32) (harg6 : arg6.IsWhole)
    (x0 : Vec F S128x16384 .bf16) (x1 : Vec F S64x768x256 .bf16) : BufTy.Contents (Elt F) arg5.view.ty := harg5.unread (View.canon (prodL c i arg1 harg1 arg2 harg2 arg3 harg3 arg4 harg4 arg5 harg5 arg6 harg6 x0 x1))

/-- The third loop's stores to the scales and to the rows. -/
abbrev rowL (c : Dev nD) (i : grid1.Coords) (arg1 : Memref sig .tc .vmem S128x16384 .bf16) (harg1 : arg1.IsWhole) (arg2 : Memref sig .tc .vmem S64x768x256 .bf16) (harg2 : arg2.IsWhole) (arg3 : Memref sig .tc .vmem S128x16384 .i8) (harg3 : arg3.IsWhole) (arg4 : Memref sig .tc .vmem S128x1 .f32) (harg4 : arg4.IsWhole) (arg5 : Memref sig .tc .vmem S128x16384 .f32) (harg5 : arg5.IsWhole) (arg6 : Memref sig .tc .vmem S128x128 .f32) (harg6 : arg6.IsWhole)
    (x0 : Vec F S128x16384 .bf16) (x1 : Vec F S64x768x256 .bf16) : List (View.Piece (Elt F) S128x1 .f32) × List (View.Piece (Elt F) S128x16384 .f32) :=
  rowStores Variants.none c none i arg1 harg1 arg2 harg2 arg3 harg3 arg4 harg4 arg5 harg5 arg6 harg6 (facC c i arg1 harg1 arg2 harg2 arg3 harg3 arg4 harg4 arg5 harg5 arg6 harg6 x0) (prodC c i arg1 harg1 arg2 harg2 arg3 harg3 arg4 harg4 arg5 harg5 arg6 harg6 x0 x1) (Scf.trips k1_t3_loop.lb k1_t3_loop.ub k1_t3_loop.st)

theorem rowL_cover (c : Dev nD) (i : grid1.Coords) (arg1 : Memref sig .tc .vmem S128x16384 .bf16) (harg1 : arg1.IsWhole) (arg2 : Memref sig .tc .vmem S64x768x256 .bf16) (harg2 : arg2.IsWhole) (arg3 : Memref sig .tc .vmem S128x16384 .i8) (harg3 : arg3.IsWhole) (arg4 : Memref sig .tc .vmem S128x1 .f32) (harg4 : arg4.IsWhole) (arg5 : Memref sig .tc .vmem S128x16384 .f32) (harg5 : arg5.IsWhole) (arg6 : Memref sig .tc .vmem S128x128 .f32) (harg6 : arg6.IsWhole)
    (x0 : Vec F S128x16384 .bf16) (x1 : Vec F S64x768x256 .bf16) (y : S128x1.Idx) : ∃ p ∈ (rowL c i arg1 harg1 arg2 harg2 arg3 harg3 arg4 harg4 arg5 harg5 arg6 harg6 x0 x1).1, y ∈ p.1.set :=
  View.cover_of_tiledL (rowL c i arg1 harg1 arg2 harg2 arg3 harg3 arg4 harg4 arg5 harg5 arg6 harg6 x0 x1).1 S8x1.size (by sl_kernel_rfl) y

/-- What the rows' buffer holds after the third loop. -/
def rowsC (c : Dev nD) (i : grid1.Coords) (arg1 : Memref sig .tc .vmem S128x16384 .bf16) (harg1 : arg1.IsWhole) (arg2 : Memref sig .tc .vmem S64x768x256 .bf16) (harg2 : arg2.IsWhole) (arg3 : Memref sig .tc .vmem S128x16384 .i8) (harg3 : arg3.IsWhole) (arg4 : Memref sig .tc .vmem S128x1 .f32) (harg4 : arg4.IsWhole) (arg5 : Memref sig .tc .vmem S128x16384 .f32) (harg5 : arg5.IsWhole) (arg6 : Memref sig .tc .vmem S128x128 .f32) (harg6 : arg6.IsWhole)
    (x0 : Vec F S128x16384 .bf16) (x1 : Vec F S64x768x256 .bf16) : BufTy.Contents (Elt F) arg5.view.ty := arg5.view.writes (Elt F) (prodC c i arg1 harg1 arg2 harg2 arg3 harg3 arg4 harg4 arg5 harg5 arg6 harg6 x0 x1) (rowL c i arg1 harg1 arg2 harg2 arg3 harg3 arg4 harg4 arg5 harg5 arg6 harg6 x0 x1).2

/-- What the scales' buffer holds after the third loop. -/
def scalesC (c : Dev nD) (i : grid1.Coords) (arg1 : Memref sig .tc .vmem S128x16384 .bf16) (harg1 : arg1.IsWhole) (arg2 : Memref sig .tc .vmem S64x768x256 .bf16) (harg2 : arg2.IsWhole) (arg3 : Memref sig .tc .vmem S128x16384 .i8) (harg3 : arg3.IsWhole) (arg4 : Memref sig .tc .vmem S128x1 .f32) (harg4 : arg4.IsWhole) (arg5 : Memref sig .tc .vmem S128x16384 .f32) (harg5 : arg5.IsWhole) (arg6 : Memref sig .tc .vmem S128x128 .f32) (harg6 : arg6.IsWhole)
    (x0 : Vec F S128x16384 .bf16) (x1 : Vec F S64x768x256 .bf16) : BufTy.Contents (Elt F) arg4.view.ty := harg4.unread (View.canon (rowL c i arg1 harg1 arg2 harg2 arg3 harg3 arg4 harg4 arg5 harg5 arg6 harg6 x0 x1).1)

/-- The codes' stores. -/
abbrev codeL (c : Dev nD) (i : grid1.Coords) (arg1 : Memref sig .tc .vmem S128x16384 .bf16) (harg1 : arg1.IsWhole) (arg2 : Memref sig .tc .vmem S64x768x256 .bf16) (harg2 : arg2.IsWhole) (arg3 : Memref sig .tc .vmem S128x16384 .i8) (harg3 : arg3.IsWhole) (arg4 : Memref sig .tc .vmem S128x1 .f32) (harg4 : arg4.IsWhole) (arg5 : Memref sig .tc .vmem S128x16384 .f32) (harg5 : arg5.IsWhole) (arg6 : Memref sig .tc .vmem S128x128 .f32) (harg6 : arg6.IsWhole)
    (x0 : Vec F S128x16384 .bf16) (x1 : Vec F S64x768x256 .bf16) : List (View.Piece (Elt F) S128x16384 .i8) :=
  pb_k1_t4 Variants.none c none i arg1 harg1 arg2 harg2 arg3 harg3 arg4 harg4 arg5 harg5 arg6 harg6 (scalesC c i arg1 harg1 arg2 harg2 arg3 harg3 arg4 harg4 arg5 harg5 arg6 harg6 x0 x1) (rowsC c i arg1 harg1 arg2 harg2 arg3 harg3 arg4 harg4 arg5 harg5 arg6 harg6 x0 x1) (facC c i arg1 harg1 arg2 harg2 arg3 harg3 arg4 harg4 arg5 harg5 arg6 harg6 x0) (Scf.trips k1_t4_loop.lb k1_t4_loop.ub k1_t4_loop.st)

theorem codeL_cover (c : Dev nD) (i : grid1.Coords) (arg1 : Memref sig .tc .vmem S128x16384 .bf16) (harg1 : arg1.IsWhole) (arg2 : Memref sig .tc .vmem S64x768x256 .bf16) (harg2 : arg2.IsWhole) (arg3 : Memref sig .tc .vmem S128x16384 .i8) (harg3 : arg3.IsWhole) (arg4 : Memref sig .tc .vmem S128x1 .f32) (harg4 : arg4.IsWhole) (arg5 : Memref sig .tc .vmem S128x16384 .f32) (harg5 : arg5.IsWhole) (arg6 : Memref sig .tc .vmem S128x128 .f32) (harg6 : arg6.IsWhole)
    (x0 : Vec F S128x16384 .bf16) (x1 : Vec F S64x768x256 .bf16) (y : S128x16384.Idx) : ∃ p ∈ codeL c i arg1 harg1 arg2 harg2 arg3 harg3 arg4 harg4 arg5 harg5 arg6 harg6 x0 x1, y ∈ p.1.set :=
  View.cover_of_tiledL (codeL c i arg1 harg1 arg2 harg2 arg3 harg3 arg4 harg4 arg5 harg5 arg6 harg6 x0 x1) S32x128.size (by sl_kernel_rfl) y

set_option maxHeartbeats 4000000 in
/-- The block's run: on whole buffers, the inputs' at their contents, it ends with the scales' stores in the scales' buffer
    and the codes' stores in the codes' buffer. -/
theorem blockRun (c : Dev nD) (i : grid1.Coords) (arg1 : Memref sig .tc .vmem S128x16384 .bf16) (harg1 : arg1.IsWhole) (arg2 : Memref sig .tc .vmem S64x768x256 .bf16) (harg2 : arg2.IsWhole) (arg3 : Memref sig .tc .vmem S128x16384 .i8) (harg3 : arg3.IsWhole) (arg4 : Memref sig .tc .vmem S128x1 .f32) (harg4 : arg4.IsWhole) (arg5 : Memref sig .tc .vmem S128x16384 .f32) (harg5 : arg5.IsWhole) (arg6 : Memref sig .tc .vmem S128x128 .f32) (harg6 : arg6.IsWhole)
    (x0 : Vec F S128x16384 .bf16) (x1 : Vec F S64x768x256 .bf16)
    (E : Set ℕ) (K : PUnit → sProp 𝕄) :
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f (codeL c i arg1 harg1 arg2 harg2 arg3 harg3 arg4 harg4 arg5 harg5 arg6 harg6 x0 x1)) ∗ (∃ f, arg4.view.loc (c : Thread nD τ) ↦[arg4.view.set]{fullShare} arg4.view.writes (Elt F) f (rowL c i arg1 harg1 arg2 harg2 arg3 harg3 arg4 harg4 arg5 harg5 arg6 harg6 x0 x1).1) ∗ (∃ d, owns (c : Thread nD τ) arg5 fullShare d) ∗ (∃ d, owns (c : Thread nD τ) arg6 fullShare d)) -∗ K ⟨⟩))
          ⊢ wp frame (wpE (defs₀ (F := F)) Variants.none c none) E (cc1_transform i arg1 harg1 arg2 harg2 arg3 harg3 arg4 harg4 arg5 harg5 arg6 harg6) K := by
    simp only [cc1_transform_eq_skeleton]; unfold cc1_transform_skel
    unfold owns
    iintro ⟨⟨%f0, %hf0, H0⟩, ⟨%f1, %hf1, H1⟩, ⟨%d2, %f2, -, H2⟩, ⟨%d3, %f3, -, H3⟩, ⟨%ds0, %fs0, -, HS0⟩, ⟨%ds1, %fs1, -, HS1⟩, Hk⟩
    obtain rfl := harg1.eq_unread hf0; obtain rfl := harg2.eq_unread hf1
    sl_exec
    have e1 := writes_eq_unread arg6 harg6 fs1 (facL c i arg1 harg1 arg2 harg2 arg3 harg3 arg4 harg4 arg5 harg5 arg6 harg6 x0) (facL_cover c i arg1 harg1 arg2 harg2 arg3 harg3 arg4 harg4 arg5 harg5 arg6 harg6 x0)
    have e2 := writes_eq_unread arg5 harg5 fs0 (prodL c i arg1 harg1 arg2 harg2 arg3 harg3 arg4 harg4 arg5 harg5 arg6 harg6 x0 x1) (prodL_cover c i arg1 harg1 arg2 harg2 arg3 harg3 arg4 harg4 arg5 harg5 arg6 harg6 x0 x1)
    rw [View.writes_append, e1, e2]
    rw [show harg6.unread (View.canon (facL c i arg1 harg1 arg2 harg2 arg3 harg3 arg4 harg4 arg5 harg5 arg6 harg6 x0)) = facC c i arg1 harg1 arg2 harg2 arg3 harg3 arg4 harg4 arg5 harg5 arg6 harg6 x0 from rfl, show harg5.unread (View.canon (prodL c i arg1 harg1 arg2 harg2 arg3 harg3 arg4 harg4 arg5 harg5 arg6 harg6 x0 x1)) = prodC c i arg1 harg1 arg2 harg2 arg3 harg3 arg4 harg4 arg5 harg5 arg6 harg6 x0 x1 from rfl]
    have e3 := writes_eq_unread arg4 harg4 f3 (rowL c i arg1 harg1 arg2 harg2 arg3 harg3 arg4 harg4 arg5 harg5 arg6 harg6 x0 x1).1 (rowL_cover c i arg1 harg1 arg2 harg2 arg3 harg3 arg4 harg4 arg5 harg5 arg6 harg6 x0 x1)
    have e4 : arg5.view.writes (Elt F) (prodC c i arg1 harg1 arg2 harg2 arg3 harg3 arg4 harg4 arg5 harg5 arg6 harg6 x0 x1) (rowL c i arg1 harg1 arg2 harg2 arg3 harg3 arg4 harg4 arg5 harg5 arg6 harg6 x0 x1).2 = rowsC c i arg1 harg1 arg2 harg2 arg3 harg3 arg4 harg4 arg5 harg5 arg6 harg6 x0 x1 := rfl
    have e5 : harg4.unread (View.canon (rowL c i arg1 harg1 arg2 harg2 arg3 harg3 arg4 harg4 arg5 harg5 arg6 harg6 x0 x1).1) = scalesC c i arg1 harg1 arg2 harg2 arg3 harg3 arg4 harg4 arg5 harg5 arg6 harg6 x0 x1 := rfl
    rw [e4]
    generalize hz : arg3.view.writes (Elt F) f2 _ = z
    rw [e3, e5] at hz
    subst hz
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists f2; iexact H2
    isplitl [H3]; · iexists f3; iexact H3
    isplitl [HS0]
    · iexists _, _; isplitr; swap; · iexact HS0
      ipureintro; rfl
    iexists _, _; isplitr; swap; · iexact HS1
    ipureintro; rfl

end Cert.Codes.Hand
-- ==== Proof.Bits.CodesFrame.lean ====
/- The frame certificate of the two calls: each region's blocks, what its body leaves, its proof data and its body obligation;
   then the run of the whole program, with every buffer's final contents, and that it leaves its arguments as they were. -/
module

public import proofs.«01_k».proof.Proof.Gen.Codes.Launch
public import proofs.«01_k».proof.Proof.Gen.Codes.Skeleton
public import proofs.«01_k».proof.Proof.Gen.Codes.Points
public import Idealize.ShloMosaic.Lib.Pipeline.FrameBody
public import proofs.«01_k».proof.Proof.Gen.Codes.Loops
public import proofs.«01_k».proof.Proof.Bits.TransformRun
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Codes.Hand

open Cert.Codes Cert.Codes.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_gain_hadamard` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1x1x256 := Rect.unit (s := S1x1x256) ![0, 0, 0] S1x1x256.size inb_S1x1x256_S1x1x256_0_0_0
abbrev r0_1 : Rect S256x256 := Rect.unit (s := S256x256) ![0, 0] S256x256.size inb_S256x256_S256x256_0_0
abbrev r0_2 : Rect S1x768x256 := Rect.unit (s := S1x768x256) ![0, 0, 0] S1x256x256.size inb_S1x768x256_S1x256x256_0_0_0
abbrev r0_3 : Rect S1x768x256 := Rect.unit (s := S1x768x256) ![0, 256, 0] S1x256x256.size inb_S1x768x256_S1x256x256_0_256_0
abbrev r0_4 : Rect S1x768x256 := Rect.unit (s := S1x768x256) ![0, 512, 0] S1x256x256.size inb_S1x768x256_S1x256x256_0_512_0

/-! ## What the body leaves in each output window's buffer -/

/-- Window 2's staging buffer after the body, from the input windows' blocks: its 3 stores as pieces, LAST
    FIRST (Lib/Pipeline/FrameBody.lean `View.canon`; the payloads are the skeleton's). -/
def out0_2 (x0 : Vec F S1x1x256 .f32) (x1 : Vec F S256x256 .f32) : Vec F S1x768x256 .bf16 :=
  View.canon [⟨r0_4, k0_pay7 (View.ld x0 r0_0) (View.ld x1 r0_1)⟩,
    ⟨r0_3, k0_pay6 (View.ld x0 r0_0) (View.ld x1 r0_1)⟩,
    ⟨r0_2, k0_pay3 (View.ld x0 r0_0) (View.ld x1 r0_1)⟩]

/-- Its stores tile the buffer (checked by evaluation), so they cover it. -/
theorem cover0_2 (p0 : Vec F S1x256x256 .bf16) (p1 : Vec F S1x256x256 .bf16) (p2 : Vec F S1x256x256 .bf16) (y : S1x768x256.Idx) :
    ∃ pc ∈ ([⟨r0_4, p0⟩, ⟨r0_3, p1⟩, ⟨r0_2, p2⟩] : List (View.Piece (Elt F) S1x768x256 .bf16)), y ∈ pc.1.set :=
  View.cover_of_tiled [⟨r0_4, p0⟩, ⟨r0_3, p1⟩, ⟨r0_2, p2⟩] S1x256x256.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S1x1x256 .f32) (harg1 : arg1.IsWhole) (arg2 : Memref sig .tc .vmem S256x256 .f32) (harg2 : arg2.IsWhole) (arg3 : Memref sig .tc .vmem S1x768x256 .bf16) (harg3 : arg3.IsWhole)
    (x0 : Vec F S1x1x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_gain_hadamard i arg1 harg1 arg2 harg2 arg3 harg3) K := by
  simp only [cc0_gain_hadamard_eq_skeleton]; unfold cc0_gain_hadamard_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _ _ _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1_transform` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 2, through which its contents are stated (`View.read_writes_of_cover`: the
    choice does not matter). -/
abbrev VO1_2 : View sig .tc .vmem S128x16384 .i8 := (Memref.whole cc1_stg2_0 : Memref sig .tc .vmem S128x16384 .i8).view
/-- One staging buffer of output window 3, through which its contents are stated (`View.read_writes_of_cover`: the
    choice does not matter). -/
abbrev VO1_3 : View sig .tc .vmem S128x1 .f32 := (Memref.whole cc1_stg3_0 : Memref sig .tc .vmem S128x1 .f32).view
/-- Each window's current staging memref at point `t`, spelled as the pipeline passes it (`bodyAt1`), and its wholeness. -/
abbrev ms1_0 (t : Fin cfg1.N) : Memref sig .tc .vmem S128x16384 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x768x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x16384 .i8 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x1 .f32 := win1_3.stage (cfg1.slots t 3)
abbrev hs1_3 (t : Fin cfg1.N) : (ms1_3 t).IsWhole := hstage1_3 ((cfg1.slots t 3).cast nbuf1_3)
/-- The scratch operands: whole scoped buffers of the kernel's own, passed beside the windows. -/
abbrev scM1_0 : Memref sig .tc .vmem S128x16384 .f32 := Memref.whole cc1_scratch0
abbrev scM1_1 : Memref sig .tc .vmem S128x128 .f32 := Memref.whole cc1_scratch1

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

/-- What the run leaves in output 2's staging buffer: its pieces read back over junk. -/
def out1_A_2 (c : Dev nD) (i : grid1.Coords) (arg1 : Memref sig .tc .vmem S128x16384 .bf16) (harg1 : arg1.IsWhole) (arg2 : Memref sig .tc .vmem S64x768x256 .bf16) (harg2 : arg2.IsWhole) (arg3 : Memref sig .tc .vmem S128x16384 .i8) (harg3 : arg3.IsWhole) (arg4 : Memref sig .tc .vmem S128x1 .f32) (harg4 : arg4.IsWhole) (arg5 : Memref sig .tc .vmem S128x16384 .f32) (harg5 : arg5.IsWhole) (arg6 : Memref sig .tc .vmem S128x128 .f32) (harg6 : arg6.IsWhole)
    (x0 : Vec F S128x16384 .bf16) (x1 : Vec F S64x768x256 .bf16) : Vec F S128x16384 .i8 :=
  VO1_2.read (Elt F) (VO1_2.writes (Elt F) VO1_2.junk (codeL c i arg1 harg1 arg2 harg2 arg3 harg3 arg4 harg4 arg5 harg5 arg6 harg6 x0 x1))

/-- What the run leaves in output 3's staging buffer: its pieces read back over junk. -/
def out1_A_3 (c : Dev nD) (i : grid1.Coords) (arg1 : Memref sig .tc .vmem S128x16384 .bf16) (harg1 : arg1.IsWhole) (arg2 : Memref sig .tc .vmem S64x768x256 .bf16) (harg2 : arg2.IsWhole) (arg3 : Memref sig .tc .vmem S128x16384 .i8) (harg3 : arg3.IsWhole) (arg4 : Memref sig .tc .vmem S128x1 .f32) (harg4 : arg4.IsWhole) (arg5 : Memref sig .tc .vmem S128x16384 .f32) (harg5 : arg5.IsWhole) (arg6 : Memref sig .tc .vmem S128x128 .f32) (harg6 : arg6.IsWhole)
    (x0 : Vec F S128x16384 .bf16) (x1 : Vec F S64x768x256 .bf16) : Vec F S128x1 .f32 :=
  VO1_3.read (Elt F) (VO1_3.writes (Elt F) VO1_3.junk (rowL c i arg1 harg1 arg2 harg2 arg3 harg3 arg4 harg4 arg5 harg5 arg6 harg6 x0 x1).1)

/-! ## What the outputs hold after each point -/

/-- What the outputs' staging buffers hold after the body at point `t` (as a tuple, in window order): the run's contents at
    the point's memrefs and input blocks. -/
def outsAt1 (c : Dev nD) (t : Fin cfg1.N) : Vec F S128x16384 .i8 × Vec F S128x1 .f32 :=
  (out1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) (iblk1 V c 0 t) (iblk1 V c 1 t), out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (iblk1 V c 0 t) (iblk1 V c 1 t))

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t).1
    | ⟨3, _⟩ => (outsAt1 V c t).2
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t).1 := by dsimp only [dat1]
theorem after1_3 (c : Dev nD) (t : Fin cfg1.N) : (dat1 V c).after 3 t = (outsAt1 V c t).2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

/-- The body at any point: the inputs' memrefs hold their blocks (`before1_W`); so the
    run applies; the invariant hands the body its scratch buffers at some contents (and the generator register) and takes them back at some contents (`PhiA_eq`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  rw [show (dat1 V c).Φ t.castSucc = Pipeline.ΦA spec1 c from rfl, PhiA1_eq]
  unfold outsAt1
  unfold out1_A_2 out1_A_3; (try dsimp only)
  iintro ⟨⟨⟨HR0, HR1, HR2, HR3, HR4, HS0, HS1⟩, Hg⟩, Ho, ⟨%d0, H0⟩, ⟨%d1, H1⟩, ⟨%d2, H2⟩, ⟨%d3, H3⟩⟩
  iapply (blockRun c (grid1.coords t) _ _ _ _ _ _ _ _ _ _ _ _ (iblk1 V c 0 t) (iblk1 V c 1 t) Set.univ _)
  isplitl [H0]; · iexact H0
  isplitl [H1]; · iexact H1
  isplitl [H2]; · iexists _; iexact H2
  isplitl [H3]; · iexists _; iexact H3
  isplitl [HS0]; · iexact HS0
  isplitl [HS1]; · iexact HS1
  iintro ⟨H0, H1, ⟨%e2, H2⟩, ⟨%e3, H3⟩, HS0, HS1⟩
  isplitl [HR0 HR1 HR2 HR3 HR4 HS0 HS1 Hg]
  · isplitl [HR0 HR1 HR2 HR3 HR4 HS0 HS1]
    · isplitl [HR0]
      · iexact HR0
      isplitl [HR1]
      · iexact HR1
      isplitl [HR2]
      · iexact HR2
      isplitl [HR3]
      · iexact HR3
      isplitl [HR4]
      · iexact HR4
      isplitl [HS0]
      · iexact HS0
      iexact HS1
    iexact Hg
  isplitl [Ho]; · iexact Ho
  isplitl [H0]; · iexact H0
  isplitl [H1]; · iexact H1
  isplitl [H2]
  · unfold owns; iexists _; isplitr
    swap; · iexact H2
    ipureintro; exact View.read_writes_of_cover _ _ _ _ _ (codeL_cover c _ _ _ _ _ _ _ _ _ _ _ _ _ _ _)
  unfold owns; iexists _; isplitr
  swap; · iexact H3
  ipureintro; exact View.read_writes_of_cover _ _ _ _ _ (rowL_cover c _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: no host stretch writes one and no region may change one (a region reads it
    through an input window or bypasses it) -/

theorem W3_main_arg0 (c : Dev nD) : W3 m ρ c (Proc.devRef .tc main_arg0) = m ((c : Thread nD τ).loc main_arg0) :=
  W3_args m ρ c main_arg0 (by decide)
theorem W3_main_arg1 (c : Dev nD) : W3 m ρ c (Proc.devRef .tc main_arg1) = m ((c : Thread nD τ).loc main_arg1) :=
  W3_args m ρ c main_arg1 (by decide)
theorem W3_main_arg2 (c : Dev nD) : W3 m ρ c (Proc.devRef .tc main_arg2) = m ((c : Thread nD τ).loc main_arg2) :=
  W3_args m ρ c main_arg2 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W3`, the generator register at some state. -/
abbrev Tₙ (c : Dev nD) : sProp 𝕄 := iprop(StableHlo.held (c : Thread nD τ) (Pipeline.ucRefs τ sig) (W3 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 3 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: from any memory with zero counters @main on the TensorCores terminates, with every unscoped buffer at the last
    boundary's contents `W3` and every semaphore counter of the machine at zero: the launch over the segments, the last thread
    state read against the final state. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W3 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨h, funext fun g => hz g (.inr (no_unscoped g.2))⟩)

/-- THE FRAME, at any `F`: the run ends with the arguments unchanged and every counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
      ⟨(h.1 c _ (mem_uc main_arg0 (by decide))).trans (W3_main_arg0 m ρ c),
       (h.1 c _ (mem_uc main_arg1 (by decide))).trans (W3_main_arg1 m ρ c),
       (h.1 c _ (mem_uc main_arg2 (by decide))).trans (W3_main_arg2 m ρ c)⟩, h.2⟩) (run_all m ρ)

end Cert.Codes.Hand

end
-- ==== Proof.TransformLoop.lean ====
/- The row loop of the transform by an invariant of its own.  A trip of the loop reads the rows it works on and the row factors,
   and never the scales it stores: its stores are a function of the rows alone.  So the stores of the loop are stated here over
   the rows' contents alone, whatever the scales' buffer held before. -/
module

public import proofs.«01_k».proof.Proof.Gen.CodesIdeal.Loops
public import Idealize.ShloMosaic.Lib.Pipeline.FrameBody

@[expose] public section

set_option maxRecDepth 16384
set_option maxHeartbeats 4000000

noncomputable section

namespace Cert.CodesIdeal.Hand

open Cert.CodesIdeal Cert.CodesIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The stores of trip `k`, as a function of the rows' contents. -/
def rowTrip (𝒱 : Variants) (c : Dev nD) (bd : Option 𝒱.V) (i : grid1.Coords) (arg1 : Memref sig .tc .vmem S128x16384 .bf16) (harg1 : arg1.IsWhole) (arg2 : Memref sig .tc .vmem S64x768x256 .bf16) (harg2 : arg2.IsWhole) (arg3 : Memref sig .tc .vmem S128x16384 .i8) (harg3 : arg3.IsWhole) (arg4 : Memref sig .tc .vmem S128x1 .f32) (harg4 : arg4.IsWhole) (arg5 : Memref sig .tc .vmem S128x16384 .f32) (harg5 : arg5.IsWhole) (arg6 : Memref sig .tc .vmem S128x128 .f32) (harg6 : arg6.IsWhole) (X_arg6 : BufTy.Contents (Elt F) arg6.view.ty) (k : Fin k1_t3_loop.trips) (f_arg5 : BufTy.Contents (Elt F) arg5.view.ty) : List (View.Piece (Elt F) S128x1 .f32) × List (View.Piece (Elt F) S128x16384 .f32) :=
  tripL_k1_t3 (F := F) 𝒱 c bd i arg1 harg1 arg2 harg2 arg3 harg3 arg4 harg4 arg5 harg5 arg6 harg6 X_arg6 k arg4.view.junk f_arg5

/-- A trip's stores do not depend on what the scales' buffer holds. -/
theorem rowTrip_eq (𝒱 : Variants) (c : Dev nD) (bd : Option 𝒱.V) (i : grid1.Coords) (arg1 : Memref sig .tc .vmem S128x16384 .bf16) (harg1 : arg1.IsWhole) (arg2 : Memref sig .tc .vmem S64x768x256 .bf16) (harg2 : arg2.IsWhole) (arg3 : Memref sig .tc .vmem S128x16384 .i8) (harg3 : arg3.IsWhole) (arg4 : Memref sig .tc .vmem S128x1 .f32) (harg4 : arg4.IsWhole) (arg5 : Memref sig .tc .vmem S128x16384 .f32) (harg5 : arg5.IsWhole) (arg6 : Memref sig .tc .vmem S128x128 .f32) (harg6 : arg6.IsWhole) (X_arg6 : BufTy.Contents (Elt F) arg6.view.ty) (k : Fin k1_t3_loop.trips) (f_arg4 : BufTy.Contents (Elt F) arg4.view.ty) (f_arg5 : BufTy.Contents (Elt F) arg5.view.ty) :
    tripL_k1_t3 (F := F) 𝒱 c bd i arg1 harg1 arg2 harg2 arg3 harg3 arg4 harg4 arg5 harg5 arg6 harg6 X_arg6 k f_arg4 f_arg5 = rowTrip 𝒱 c bd i arg1 harg1 arg2 harg2 arg3 harg3 arg4 harg4 arg5 harg5 arg6 harg6 X_arg6 k f_arg5 := by
  unfold rowTrip tripL_k1_t3 trip_k1_t3
  rfl

/-- The stores of the trips before `k`, the last first. -/
def rowStores (𝒱 : Variants) (c : Dev nD) (bd : Option 𝒱.V) (i : grid1.Coords) (arg1 : Memref sig .tc .vmem S128x16384 .bf16) (harg1 : arg1.IsWhole) (arg2 : Memref sig .tc .vmem S64x768x256 .bf16) (harg2 : arg2.IsWhole) (arg3 : Memref sig .tc .vmem S128x16384 .i8) (harg3 : arg3.IsWhole) (arg4 : Memref sig .tc .vmem S128x1 .f32) (harg4 : arg4.IsWhole) (arg5 : Memref sig .tc .vmem S128x16384 .f32) (harg5 : arg5.IsWhole) (arg6 : Memref sig .tc .vmem S128x128 .f32) (harg6 : arg6.IsWhole) (X_arg6 : BufTy.Contents (Elt F) arg6.view.ty) (G_arg5 : BufTy.Contents (Elt F) arg5.view.ty) : ℕ → List (View.Piece (Elt F) S128x1 .f32) × List (View.Piece (Elt F) S128x16384 .f32)
  | 0 => ([], [])
  | k + 1 =>
    if h : k < k1_t3_loop.trips then
      ((rowTrip (F := F) 𝒱 c bd i arg1 harg1 arg2 harg2 arg3 harg3 arg4 harg4 arg5 harg5 arg6 harg6 X_arg6 ⟨k, h⟩ (arg5.view.writes (Elt F) G_arg5 (rowStores 𝒱 c bd i arg1 harg1 arg2 harg2 arg3 harg3 arg4 harg4 arg5 harg5 arg6 harg6 X_arg6 G_arg5 k).2)).1
          ++ (rowStores 𝒱 c bd i arg1 harg1 arg2 harg2 arg3 harg3 arg4 harg4 arg5 harg5 arg6 harg6 X_arg6 G_arg5 k).1,
        (rowTrip (F := F) 𝒱 c bd i arg1 harg1 arg2 harg2 arg3 harg3 arg4 harg4 arg5 harg5 arg6 harg6 X_arg6 ⟨k, h⟩ (arg5.view.writes (Elt F) G_arg5 (rowStores 𝒱 c bd i arg1 harg1 arg2 harg2 arg3 harg3 arg4 harg4 arg5 harg5 arg6 harg6 X_arg6 G_arg5 k).2)).2
          ++ (rowStores 𝒱 c bd i arg1 harg1 arg2 harg2 arg3 harg3 arg4 harg4 arg5 harg5 arg6 harg6 X_arg6 G_arg5 k).2)
    else rowStores 𝒱 c bd i arg1 harg1 arg2 harg2 arg3 harg3 arg4 harg4 arg5 harg5 arg6 harg6 X_arg6 G_arg5 k

theorem rowStores_succ (𝒱 : Variants) (c : Dev nD) (bd : Option 𝒱.V) (i : grid1.Coords) (arg1 : Memref sig .tc .vmem S128x16384 .bf16) (harg1 : arg1.IsWhole) (arg2 : Memref sig .tc .vmem S64x768x256 .bf16) (harg2 : arg2.IsWhole) (arg3 : Memref sig .tc .vmem S128x16384 .i8) (harg3 : arg3.IsWhole) (arg4 : Memref sig .tc .vmem S128x1 .f32) (harg4 : arg4.IsWhole) (arg5 : Memref sig .tc .vmem S128x16384 .f32) (harg5 : arg5.IsWhole) (arg6 : Memref sig .tc .vmem S128x128 .f32) (harg6 : arg6.IsWhole) (X_arg6 : BufTy.Contents (Elt F) arg6.view.ty) (G_arg5 : BufTy.Contents (Elt F) arg5.view.ty) (k : Fin k1_t3_loop.trips) :
    rowStores (F := F) 𝒱 c bd i arg1 harg1 arg2 harg2 arg3 harg3 arg4 harg4 arg5 harg5 arg6 harg6 X_arg6 G_arg5 (k.val + 1)
      = ((rowTrip (F := F) 𝒱 c bd i arg1 harg1 arg2 harg2 arg3 harg3 arg4 harg4 arg5 harg5 arg6 harg6 X_arg6 k (arg5.view.writes (Elt F) G_arg5 (rowStores 𝒱 c bd i arg1 harg1 arg2 harg2 arg3 harg3 arg4 harg4 arg5 harg5 arg6 harg6 X_arg6 G_arg5 k.val).2)).1
          ++ (rowStores 𝒱 c bd i arg1 harg1 arg2 harg2 arg3 harg3 arg4 harg4 arg5 harg5 arg6 harg6 X_arg6 G_arg5 k.val).1,
        (rowTrip (F := F) 𝒱 c bd i arg1 harg1 arg2 harg2 arg3 harg3 arg4 harg4 arg5 harg5 arg6 harg6 X_arg6 k (arg5.view.writes (Elt F) G_arg5 (rowStores 𝒱 c bd i arg1 harg1 arg2 harg2 arg3 harg3 arg4 harg4 arg5 harg5 arg6 harg6 X_arg6 G_arg5 k.val).2)).2
          ++ (rowStores 𝒱 c bd i arg1 harg1 arg2 harg2 arg3 harg3 arg4 harg4 arg5 harg5 arg6 harg6 X_arg6 G_arg5 k.val).2) := by
  rw [rowStores.eq_2]; exact dif_pos k.isLt

/-- Before trip `k` the scales' buffer and the rows' buffer hold the stores of the trips before over what they held. -/
abbrev rowInv (𝒱 : Variants) (c : Dev nD) (bd : Option 𝒱.V) (i : grid1.Coords) (arg1 : Memref sig .tc .vmem S128x16384 .bf16) (harg1 : arg1.IsWhole) (arg2 : Memref sig .tc .vmem S64x768x256 .bf16) (harg2 : arg2.IsWhole) (arg3 : Memref sig .tc .vmem S128x16384 .i8) (harg3 : arg3.IsWhole) (arg4 : Memref sig .tc .vmem S128x1 .f32) (harg4 : arg4.IsWhole) (arg5 : Memref sig .tc .vmem S128x16384 .f32) (harg5 : arg5.IsWhole) (arg6 : Memref sig .tc .vmem S128x128 .f32) (harg6 : arg6.IsWhole) (X_arg6 : BufTy.Contents (Elt F) arg6.view.ty) (G_arg4 : BufTy.Contents (Elt F) arg4.view.ty) (G_arg5 : BufTy.Contents (Elt F) arg5.view.ty) (k : ℕ) (_u : PUnit) : sProp 𝕄G :=
  iprop((arg6.view.loc (c : Thread nD τ) ↦[arg6.view.set]{fullShare} X_arg6) ∗ (∃ f, (arg4.view.loc (c : Thread nD τ) ↦[arg4.view.set]{fullShare} f) ∗ ⌜f = arg4.view.writes (Elt F) G_arg4 (rowStores (F := F) 𝒱 c bd i arg1 harg1 arg2 harg2 arg3 harg3 arg4 harg4 arg5 harg5 arg6 harg6 X_arg6 G_arg5 k).1⌝) ∗ (∃ f, (arg5.view.loc (c : Thread nD τ) ↦[arg5.view.set]{fullShare} f) ∗ ⌜f = arg5.view.writes (Elt F) G_arg5 (rowStores (F := F) 𝒱 c bd i arg1 harg1 arg2 harg2 arg3 harg3 arg4 harg4 arg5 harg5 arg6 harg6 X_arg6 G_arg5 k).2⌝))

set_option warn.classDefReducibility false in
/-- The loop by that invariant. -/
@[sl_loop] def rowLoop (𝒱 : Variants) (c : Dev nD) (bd : Option 𝒱.V) (E : Set ℕ) (i : grid1.Coords) (arg1 : Memref sig .tc .vmem S128x16384 .bf16) (harg1 : arg1.IsWhole) (arg2 : Memref sig .tc .vmem S64x768x256 .bf16) (harg2 : arg2.IsWhole) (arg3 : Memref sig .tc .vmem S128x16384 .i8) (harg3 : arg3.IsWhole) (arg4 : Memref sig .tc .vmem S128x1 .f32) (harg4 : arg4.IsWhole) (arg5 : Memref sig .tc .vmem S128x16384 .f32) (harg5 : arg5.IsWhole) (arg6 : Memref sig .tc .vmem S128x128 .f32) (harg6 : arg6.IsWhole) (X_arg6 : BufTy.Contents (Elt F) arg6.view.ty) (G_arg4 : BufTy.Contents (Elt F) arg4.view.ty) (G_arg5 : BufTy.Contents (Elt F) arg5.view.ty) :
    Idealize.ShloMosaic.LoopInv (M := MT nD τ sig Unit (Elt F) ℕ (UR sig nD τ) ℕ) Idealize.ShloMosaic.frame (wpE defs₀ 𝒱 (c : Thread nD τ) bd) E
      k1_t3_loop.lb k1_t3_loop.ub k1_t3_loop.st k1_t3_ok () (k1_t3_body (F := F) i arg1 harg1 arg2 harg2 arg3 harg3 arg4 harg4 arg5 harg5 arg6 harg6) where
  inv := rowInv (F := F) 𝒱 c bd i arg1 harg1 arg2 harg2 arg3 harg3 arg4 harg4 arg5 harg5 arg6 harg6 X_arg6 G_arg4 G_arg5
  step k acc := by
    iintro ⟨HR_arg6, ⟨%f_arg4, HW_arg4, %h_arg4⟩, ⟨%f_arg5, HW_arg5, %h_arg5⟩⟩
    iapply (wp_wand_r Idealize.ShloMosaic.frame (wpE (defs₀ (F := F)) 𝒱 (c : Thread nD τ) bd) E)
    isplitl [HR_arg6 HW_arg4 HW_arg5]
    · iapply ((trip_k1_t3 (F := F) 𝒱 c bd i arg1 harg1 arg2 harg2 arg3 harg3 arg4 harg4 arg5 harg5 arg6 harg6 X_arg6 k).2.2 E f_arg4 f_arg5)
      isplitl [HR_arg6]; · iexact HR_arg6
      isplitl [HW_arg4]; · iexact HW_arg4
      iexact HW_arg5
    · iintro %_ ⟨HR_arg6, HW_arg4, HW_arg5⟩
      isplitl [HR_arg6]; · iexact HR_arg6
      have e1 := congrArg Prod.fst (rowTrip_eq (F := F) 𝒱 c bd i arg1 harg1 arg2 harg2 arg3 harg3 arg4 harg4 arg5 harg5 arg6 harg6 X_arg6 k f_arg4 f_arg5)
      have e2 := congrArg Prod.snd (rowTrip_eq (F := F) 𝒱 c bd i arg1 harg1 arg2 harg2 arg3 harg3 arg4 harg4 arg5 harg5 arg6 harg6 X_arg6 k f_arg4 f_arg5)
      dsimp only [tripL_k1_t3] at e1 e2
      rw [rowStores_succ]
      isplitl [HW_arg4]
      · iexists _; isplitl [HW_arg4]; · iexact HW_arg4
        ipureintro; rw [e1, h_arg4, h_arg5, ← View.writes_append]
      · iexists _; isplitl [HW_arg5]; · iexact HW_arg5
        ipureintro; rw [e2, h_arg5, ← View.writes_append]

end Cert.CodesIdeal.Hand
-- ==== Proof.TransformRun.lean ====
/- One block of the transform, run: the four loops' stores one after the other.  Each buffer is covered by the first loop that
   stores to it, so what it held before the block does not matter; here is what each holds after each loop, and the run. -/
module

public import proofs.«01_k».proof.Proof.Gen.CodesIdeal.Launch
public import proofs.«01_k».proof.Proof.TransformLoop
public import Idealize.ShloMosaic.Lib.Pipeline.ReadBack
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.CodesIdeal.Hand

open Cert.CodesIdeal Cert.CodesIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Stores that cover a whole buffer leave the contents that reads back as what they hold, whatever the buffer held. -/
theorem writes_eq_unread {s : Shape} {e : EltTy} {sp : Space} (r : Memref sig .tc sp s e) (hr : r.IsWhole) (f : BufTy.Contents (Elt F) r.view.ty)
    (L : List (View.Piece (Elt F) s e)) (h : ∀ y, ∃ p ∈ L, y ∈ p.1.set) : r.view.writes (Elt F) f L = hr.unread (View.canon L) :=
  hr.eq_unread (View.read_writes_eq_canon r.view f L h)

/-- The row factors' stores. -/
abbrev facL (c : Dev nD) (i : grid1.Coords) (arg1 : Memref sig .tc .vmem S128x16384 .bf16) (harg1 : arg1.IsWhole) (arg2 : Memref sig .tc .vmem S64x768x256 .bf16) (harg2 : arg2.IsWhole) (arg3 : Memref sig .tc .vmem S128x16384 .i8) (harg3 : arg3.IsWhole) (arg4 : Memref sig .tc .vmem S128x1 .f32) (harg4 : arg4.IsWhole) (arg5 : Memref sig .tc .vmem S128x16384 .f32) (harg5 : arg5.IsWhole) (arg6 : Memref sig .tc .vmem S128x128 .f32) (harg6 : arg6.IsWhole)
    (x0 : Vec F S128x16384 .bf16) : List (View.Piece (Elt F) S128x128 .f32) :=
  pb_k1_t1 Variants.none c none i arg1 harg1 arg2 harg2 arg3 harg3 arg4 harg4 arg5 harg5 arg6 harg6 (harg1.unread x0) (Scf.trips k1_t1_loop.lb k1_t1_loop.ub k1_t1_loop.st)

/-- The products' stores. -/
abbrev prodL (c : Dev nD) (i : grid1.Coords) (arg1 : Memref sig .tc .vmem S128x16384 .bf16) (harg1 : arg1.IsWhole) (arg2 : Memref sig .tc .vmem S64x768x256 .bf16) (harg2 : arg2.IsWhole) (arg3 : Memref sig .tc .vmem S128x16384 .i8) (harg3 : arg3.IsWhole) (arg4 : Memref sig .tc .vmem S128x1 .f32) (harg4 : arg4.IsWhole) (arg5 : Memref sig .tc .vmem S128x16384 .f32) (harg5 : arg5.IsWhole) (arg6 : Memref sig .tc .vmem S128x128 .f32) (harg6 : arg6.IsWhole)
    (x0 : Vec F S128x16384 .bf16) (x1 : Vec F S64x768x256 .bf16) : List (View.Piece (Elt F) S128x16384 .f32) :=
  pb_k1_t2 Variants.none c none i arg1 harg1 arg2 harg2 arg3 harg3 arg4 harg4 arg5 harg5 arg6 harg6 (harg1.unread x0) (harg2.unread x1) (Scf.trips k1_t2_loop.lb k1_t2_loop.ub k1_t2_loop.st)

theorem facL_cover (c : Dev nD) (i : grid1.Coords) (arg1 : Memref sig .tc .vmem S128x16384 .bf16) (harg1 : arg1.IsWhole) (arg2 : Memref sig .tc .vmem S64x768x256 .bf16) (harg2 : arg2.IsWhole) (arg3 : Memref sig .tc .vmem S128x16384 .i8) (harg3 : arg3.IsWhole) (arg4 : Memref sig .tc .vmem S128x1 .f32) (harg4 : arg4.IsWhole) (arg5 : Memref sig .tc .vmem S128x16384 .f32) (harg5 : arg5.IsWhole) (arg6 : Memref sig .tc .vmem S128x128 .f32) (harg6 : arg6.IsWhole)
    (x0 : Vec F S128x16384 .bf16) (y : S128x128.Idx) : ∃ p ∈ facL c i arg1 harg1 arg2 harg2 arg3 harg3 arg4 harg4 arg5 harg5 arg6 harg6 x0, y ∈ p.1.set :=
  View.cover_of_tiledL (facL c i arg1 harg1 arg2 harg2 arg3 harg3 arg4 harg4 arg5 harg5 arg6 harg6 x0) S16x128.size (by sl_kernel_rfl) y

theorem prodL_cover (c : Dev nD) (i : grid1.Coords) (arg1 : Memref sig .tc .vmem S128x16384 .bf16) (harg1 : arg1.IsWhole) (arg2 : Memref sig .tc .vmem S64x768x256 .bf16) (harg2 : arg2.IsWhole) (arg3 : Memref sig .tc .vmem S128x16384 .i8) (harg3 : arg3.IsWhole) (arg4 : Memref sig .tc .vmem S128x1 .f32) (harg4 : arg4.IsWhole) (arg5 : Memref sig .tc .vmem S128x16384 .f32) (harg5 : arg5.IsWhole) (arg6 : Memref sig .tc .vmem S128x128 .f32) (harg6 : arg6.IsWhole)
    (x0 : Vec F S128x16384 .bf16) (x1 : Vec F S64x768x256 .bf16) (y : S128x16384.Idx) : ∃ p ∈ prodL c i arg1 harg1 arg2 harg2 arg3 harg3 arg4 harg4 arg5 harg5 arg6 harg6 x0 x1, y ∈ p.1.set :=
  View.cover_of_tiledL (prodL c i arg1 harg1 arg2 harg2 arg3 harg3 arg4 harg4 arg5 harg5 arg6 harg6 x0 x1) S128x256.size (by sl_kernel_rfl) y

/-- What the row factors' buffer holds after the first loop. -/
def facC (c : Dev nD) (i : grid1.Coords) (arg1 : Memref sig .tc .vmem S128x16384 .bf16) (harg1 : arg1.IsWhole) (arg2 : Memref sig .tc .vmem S64x768x256 .bf16) (harg2 : arg2.IsWhole) (arg3 : Memref sig .tc .vmem S128x16384 .i8) (harg3 : arg3.IsWhole) (arg4 : Memref sig .tc .vmem S128x1 .f32) (harg4 : arg4.IsWhole) (arg5 : Memref sig .tc .vmem S128x16384 .f32) (harg5 : arg5.IsWhole) (arg6 : Memref sig .tc .vmem S128x128 .f32) (harg6 : arg6.IsWhole)
    (x0 : Vec F S128x16384 .bf16) : BufTy.Contents (Elt F) arg6.view.ty := harg6.unread (View.canon (facL c i arg1 harg1 arg2 harg2 arg3 harg3 arg4 harg4 arg5 harg5 arg6 harg6 x0))

/-- What the rows' buffer holds after the second loop. -/
def prodC (c : Dev nD) (i : grid1.Coords) (arg1 : Memref sig .tc .vmem S128x16384 .bf16) (harg1 : arg1.IsWhole) (arg2 : Memref sig .tc .vmem S64x768x256 .bf16) (harg2 : arg2.IsWhole) (arg3 : Memref sig .tc .vmem S128x16384 .i8) (harg3 : arg3.IsWhole) (arg4 : Memref sig .tc .vmem S128x1 .f32) (harg4 : arg4.IsWhole) (arg5 : Memref sig .tc .vmem S128x16384 .f32) (harg5 : arg5.IsWhole) (arg6 : Memref sig .tc .vmem S128x128 .f32) (harg6 : arg6.IsWhole)
    (x0 : Vec F S128x16384 .bf16) (x1 : Vec F S64x768x256 .bf16) : BufTy.Contents (Elt F) arg5.view.ty := harg5.unread (View.canon (prodL c i arg1 harg1 arg2 harg2 arg3 harg3 arg4 harg4 arg5 harg5 arg6 harg6 x0 x1))

/-- The third loop's stores to the scales and to the rows. -/
abbrev rowL (c : Dev nD) (i : grid1.Coords) (arg1 : Memref sig .tc .vmem S128x16384 .bf16) (harg1 : arg1.IsWhole) (arg2 : Memref sig .tc .vmem S64x768x256 .bf16) (harg2 : arg2.IsWhole) (arg3 : Memref sig .tc .vmem S128x16384 .i8) (harg3 : arg3.IsWhole) (arg4 : Memref sig .tc .vmem S128x1 .f32) (harg4 : arg4.IsWhole) (arg5 : Memref sig .tc .vmem S128x16384 .f32) (harg5 : arg5.IsWhole) (arg6 : Memref sig .tc .vmem S128x128 .f32) (harg6 : arg6.IsWhole)
    (x0 : Vec F S128x16384 .bf16) (x1 : Vec F S64x768x256 .bf16) : List (View.Piece (Elt F) S128x1 .f32) × List (View.Piece (Elt F) S128x16384 .f32) :=
  rowStores Variants.none c none i arg1 harg1 arg2 harg2 arg3 harg3 arg4 harg4 arg5 harg5 arg6 harg6 (facC c i arg1 harg1 arg2 harg2 arg3 harg3 arg4 harg4 arg5 harg5 arg6 harg6 x0) (prodC c i arg1 harg1 arg2 harg2 arg3 harg3 arg4 harg4 arg5 harg5 arg6 harg6 x0 x1) (Scf.trips k1_t3_loop.lb k1_t3_loop.ub k1_t3_loop.st)

theorem rowL_cover (c : Dev nD) (i : grid1.Coords) (arg1 : Memref sig .tc .vmem S128x16384 .bf16) (harg1 : arg1.IsWhole) (arg2 : Memref sig .tc .vmem S64x768x256 .bf16) (harg2 : arg2.IsWhole) (arg3 : Memref sig .tc .vmem S128x16384 .i8) (harg3 : arg3.IsWhole) (arg4 : Memref sig .tc .vmem S128x1 .f32) (harg4 : arg4.IsWhole) (arg5 : Memref sig .tc .vmem S128x16384 .f32) (harg5 : arg5.IsWhole) (arg6 : Memref sig .tc .vmem S128x128 .f32) (harg6 : arg6.IsWhole)
    (x0 : Vec F S128x16384 .bf16) (x1 : Vec F S64x768x256 .bf16) (y : S128x1.Idx) : ∃ p ∈ (rowL c i arg1 harg1 arg2 harg2 arg3 harg3 arg4 harg4 arg5 harg5 arg6 harg6 x0 x1).1, y ∈ p.1.set :=
  View.cover_of_tiledL (rowL c i arg1 harg1 arg2 harg2 arg3 harg3 arg4 harg4 arg5 harg5 arg6 harg6 x0 x1).1 S8x1.size (by sl_kernel_rfl) y

/-- What the rows' buffer holds after the third loop. -/
def rowsC (c : Dev nD) (i : grid1.Coords) (arg1 : Memref sig .tc .vmem S128x16384 .bf16) (harg1 : arg1.IsWhole) (arg2 : Memref sig .tc .vmem S64x768x256 .bf16) (harg2 : arg2.IsWhole) (arg3 : Memref sig .tc .vmem S128x16384 .i8) (harg3 : arg3.IsWhole) (arg4 : Memref sig .tc .vmem S128x1 .f32) (harg4 : arg4.IsWhole) (arg5 : Memref sig .tc .vmem S128x16384 .f32) (harg5 : arg5.IsWhole) (arg6 : Memref sig .tc .vmem S128x128 .f32) (harg6 : arg6.IsWhole)
    (x0 : Vec F S128x16384 .bf16) (x1 : Vec F S64x768x256 .bf16) : BufTy.Contents (Elt F) arg5.view.ty := arg5.view.writes (Elt F) (prodC c i arg1 harg1 arg2 harg2 arg3 harg3 arg4 harg4 arg5 harg5 arg6 harg6 x0 x1) (rowL c i arg1 harg1 arg2 harg2 arg3 harg3 arg4 harg4 arg5 harg5 arg6 harg6 x0 x1).2

/-- What the scales' buffer holds after the third loop. -/
def scalesC (c : Dev nD) (i : grid1.Coords) (arg1 : Memref sig .tc .vmem S128x16384 .bf16) (harg1 : arg1.IsWhole) (arg2 : Memref sig .tc .vmem S64x768x256 .bf16) (harg2 : arg2.IsWhole) (arg3 : Memref sig .tc .vmem S128x16384 .i8) (harg3 : arg3.IsWhole) (arg4 : Memref sig .tc .vmem S128x1 .f32) (harg4 : arg4.IsWhole) (arg5 : Memref sig .tc .vmem S128x16384 .f32) (harg5 : arg5.IsWhole) (arg6 : Memref sig .tc .vmem S128x128 .f32) (harg6 : arg6.IsWhole)
    (x0 : Vec F S128x16384 .bf16) (x1 : Vec F S64x768x256 .bf16) : BufTy.Contents (Elt F) arg4.view.ty := harg4.unread (View.canon (rowL c i arg1 harg1 arg2 harg2 arg3 harg3 arg4 harg4 arg5 harg5 arg6 harg6 x0 x1).1)

/-- The codes' stores. -/
abbrev codeL (c : Dev nD) (i : grid1.Coords) (arg1 : Memref sig .tc .vmem S128x16384 .bf16) (harg1 : arg1.IsWhole) (arg2 : Memref sig .tc .vmem S64x768x256 .bf16) (harg2 : arg2.IsWhole) (arg3 : Memref sig .tc .vmem S128x16384 .i8) (harg3 : arg3.IsWhole) (arg4 : Memref sig .tc .vmem S128x1 .f32) (harg4 : arg4.IsWhole) (arg5 : Memref sig .tc .vmem S128x16384 .f32) (harg5 : arg5.IsWhole) (arg6 : Memref sig .tc .vmem S128x128 .f32) (harg6 : arg6.IsWhole)
    (x0 : Vec F S128x16384 .bf16) (x1 : Vec F S64x768x256 .bf16) : List (View.Piece (Elt F) S128x16384 .i8) :=
  pb_k1_t4 Variants.none c none i arg1 harg1 arg2 harg2 arg3 harg3 arg4 harg4 arg5 harg5 arg6 harg6 (scalesC c i arg1 harg1 arg2 harg2 arg3 harg3 arg4 harg4 arg5 harg5 arg6 harg6 x0 x1) (rowsC c i arg1 harg1 arg2 harg2 arg3 harg3 arg4 harg4 arg5 harg5 arg6 harg6 x0 x1) (facC c i arg1 harg1 arg2 harg2 arg3 harg3 arg4 harg4 arg5 harg5 arg6 harg6 x0) (Scf.trips k1_t4_loop.lb k1_t4_loop.ub k1_t4_loop.st)

theorem codeL_cover (c : Dev nD) (i : grid1.Coords) (arg1 : Memref sig .tc .vmem S128x16384 .bf16) (harg1 : arg1.IsWhole) (arg2 : Memref sig .tc .vmem S64x768x256 .bf16) (harg2 : arg2.IsWhole) (arg3 : Memref sig .tc .vmem S128x16384 .i8) (harg3 : arg3.IsWhole) (arg4 : Memref sig .tc .vmem S128x1 .f32) (harg4 : arg4.IsWhole) (arg5 : Memref sig .tc .vmem S128x16384 .f32) (harg5 : arg5.IsWhole) (arg6 : Memref sig .tc .vmem S128x128 .f32) (harg6 : arg6.IsWhole)
    (x0 : Vec F S128x16384 .bf16) (x1 : Vec F S64x768x256 .bf16) (y : S128x16384.Idx) : ∃ p ∈ codeL c i arg1 harg1 arg2 harg2 arg3 harg3 arg4 harg4 arg5 harg5 arg6 harg6 x0 x1, y ∈ p.1.set :=
  View.cover_of_tiledL (codeL c i arg1 harg1 arg2 harg2 arg3 harg3 arg4 harg4 arg5 harg5 arg6 harg6 x0 x1) S32x128.size (by sl_kernel_rfl) y

set_option maxHeartbeats 4000000 in
/-- The block's run: on whole buffers, the inputs' at their contents, it ends with the scales' stores in the scales' buffer
    and the codes' stores in the codes' buffer. -/
theorem blockRun (c : Dev nD) (i : grid1.Coords) (arg1 : Memref sig .tc .vmem S128x16384 .bf16) (harg1 : arg1.IsWhole) (arg2 : Memref sig .tc .vmem S64x768x256 .bf16) (harg2 : arg2.IsWhole) (arg3 : Memref sig .tc .vmem S128x16384 .i8) (harg3 : arg3.IsWhole) (arg4 : Memref sig .tc .vmem S128x1 .f32) (harg4 : arg4.IsWhole) (arg5 : Memref sig .tc .vmem S128x16384 .f32) (harg5 : arg5.IsWhole) (arg6 : Memref sig .tc .vmem S128x128 .f32) (harg6 : arg6.IsWhole)
    (x0 : Vec F S128x16384 .bf16) (x1 : Vec F S64x768x256 .bf16)
    (E : Set ℕ) (K : PUnit → sProp 𝕄) :
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f (codeL c i arg1 harg1 arg2 harg2 arg3 harg3 arg4 harg4 arg5 harg5 arg6 harg6 x0 x1)) ∗ (∃ f, arg4.view.loc (c : Thread nD τ) ↦[arg4.view.set]{fullShare} arg4.view.writes (Elt F) f (rowL c i arg1 harg1 arg2 harg2 arg3 harg3 arg4 harg4 arg5 harg5 arg6 harg6 x0 x1).1) ∗ (∃ d, owns (c : Thread nD τ) arg5 fullShare d) ∗ (∃ d, owns (c : Thread nD τ) arg6 fullShare d)) -∗ K ⟨⟩))
          ⊢ wp frame (wpE (defs₀ (F := F)) Variants.none c none) E (cc1_transform i arg1 harg1 arg2 harg2 arg3 harg3 arg4 harg4 arg5 harg5 arg6 harg6) K := by
    simp only [cc1_transform_eq_skeleton]; unfold cc1_transform_skel
    unfold owns
    iintro ⟨⟨%f0, %hf0, H0⟩, ⟨%f1, %hf1, H1⟩, ⟨%d2, %f2, -, H2⟩, ⟨%d3, %f3, -, H3⟩, ⟨%ds0, %fs0, -, HS0⟩, ⟨%ds1, %fs1, -, HS1⟩, Hk⟩
    obtain rfl := harg1.eq_unread hf0; obtain rfl := harg2.eq_unread hf1
    sl_exec
    have e1 := writes_eq_unread arg6 harg6 fs1 (facL c i arg1 harg1 arg2 harg2 arg3 harg3 arg4 harg4 arg5 harg5 arg6 harg6 x0) (facL_cover c i arg1 harg1 arg2 harg2 arg3 harg3 arg4 harg4 arg5 harg5 arg6 harg6 x0)
    have e2 := writes_eq_unread arg5 harg5 fs0 (prodL c i arg1 harg1 arg2 harg2 arg3 harg3 arg4 harg4 arg5 harg5 arg6 harg6 x0 x1) (prodL_cover c i arg1 harg1 arg2 harg2 arg3 harg3 arg4 harg4 arg5 harg5 arg6 harg6 x0 x1)
    rw [View.writes_append, e1, e2]
    rw [show harg6.unread (View.canon (facL c i arg1 harg1 arg2 harg2 arg3 harg3 arg4 harg4 arg5 harg5 arg6 harg6 x0)) = facC c i arg1 harg1 arg2 harg2 arg3 harg3 arg4 harg4 arg5 harg5 arg6 harg6 x0 from rfl, show harg5.unread (View.canon (prodL c i arg1 harg1 arg2 harg2 arg3 harg3 arg4 harg4 arg5 harg5 arg6 harg6 x0 x1)) = prodC c i arg1 harg1 arg2 harg2 arg3 harg3 arg4 harg4 arg5 harg5 arg6 harg6 x0 x1 from rfl]
    have e3 := writes_eq_unread arg4 harg4 f3 (rowL c i arg1 harg1 arg2 harg2 arg3 harg3 arg4 harg4 arg5 harg5 arg6 harg6 x0 x1).1 (rowL_cover c i arg1 harg1 arg2 harg2 arg3 harg3 arg4 harg4 arg5 harg5 arg6 harg6 x0 x1)
    have e4 : arg5.view.writes (Elt F) (prodC c i arg1 harg1 arg2 harg2 arg3 harg3 arg4 harg4 arg5 harg5 arg6 harg6 x0 x1) (rowL c i arg1 harg1 arg2 harg2 arg3 harg3 arg4 harg4 arg5 harg5 arg6 harg6 x0 x1).2 = rowsC c i arg1 harg1 arg2 harg2 arg3 harg3 arg4 harg4 arg5 harg5 arg6 harg6 x0 x1 := rfl
    have e5 : harg4.unread (View.canon (rowL c i arg1 harg1 arg2 harg2 arg3 harg3 arg4 harg4 arg5 harg5 arg6 harg6 x0 x1).1) = scalesC c i arg1 harg1 arg2 harg2 arg3 harg3 arg4 harg4 arg5 harg5 arg6 harg6 x0 x1 := rfl
    rw [e4]
    generalize hz : arg3.view.writes (Elt F) f2 _ = z
    rw [e3, e5] at hz
    subst hz
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists f2; iexact H2
    isplitl [H3]; · iexists f3; iexact H3
    isplitl [HS0]
    · iexists _, _; isplitr; swap; · iexact HS0
      ipureintro; rfl
    iexists _, _; isplitr; swap; · iexact HS1
    ipureintro; rfl

end Cert.CodesIdeal.Hand
-- ==== Proof.CodesFrame.lean ====
/- The frame certificate of the two calls: each region's blocks, what its body leaves, its proof data and its body obligation;
   then the run of the whole program, with every buffer's final contents, and that it leaves its arguments as they were. -/
module

public import proofs.«01_k».proof.Proof.Gen.CodesIdeal.Launch
public import proofs.«01_k».proof.Proof.Gen.CodesIdeal.Skeleton
public import proofs.«01_k».proof.Proof.Gen.CodesIdeal.Points
public import Idealize.ShloMosaic.Lib.Pipeline.FrameBody
public import proofs.«01_k».proof.Proof.Gen.CodesIdeal.Loops
public import proofs.«01_k».proof.Proof.TransformRun
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.CodesIdeal.Hand

open Cert.CodesIdeal Cert.CodesIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_gain_hadamard` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1x1x256 := Rect.unit (s := S1x1x256) ![0, 0, 0] S1x1x256.size inb_S1x1x256_S1x1x256_0_0_0
abbrev r0_1 : Rect S256x256 := Rect.unit (s := S256x256) ![0, 0] S256x256.size inb_S256x256_S256x256_0_0
abbrev r0_2 : Rect S1x768x256 := Rect.unit (s := S1x768x256) ![0, 0, 0] S1x256x256.size inb_S1x768x256_S1x256x256_0_0_0
abbrev r0_3 : Rect S1x768x256 := Rect.unit (s := S1x768x256) ![0, 256, 0] S1x256x256.size inb_S1x768x256_S1x256x256_0_256_0
abbrev r0_4 : Rect S1x768x256 := Rect.unit (s := S1x768x256) ![0, 512, 0] S1x256x256.size inb_S1x768x256_S1x256x256_0_512_0

/-! ## What the body leaves in each output window's buffer -/

/-- Window 2's staging buffer after the body, from the input windows' blocks: its 3 stores as pieces, LAST
    FIRST (Lib/Pipeline/FrameBody.lean `View.canon`; the payloads are the skeleton's). -/
def out0_2 (x0 : Vec F S1x1x256 .f32) (x1 : Vec F S256x256 .f32) : Vec F S1x768x256 .bf16 :=
  View.canon [⟨r0_4, k0_pay7 (View.ld x0 r0_0) (View.ld x1 r0_1)⟩,
    ⟨r0_3, k0_pay6 (View.ld x0 r0_0) (View.ld x1 r0_1)⟩,
    ⟨r0_2, k0_pay3 (View.ld x0 r0_0) (View.ld x1 r0_1)⟩]

/-- Its stores tile the buffer (checked by evaluation), so they cover it. -/
theorem cover0_2 (p0 : Vec F S1x256x256 .bf16) (p1 : Vec F S1x256x256 .bf16) (p2 : Vec F S1x256x256 .bf16) (y : S1x768x256.Idx) :
    ∃ pc ∈ ([⟨r0_4, p0⟩, ⟨r0_3, p1⟩, ⟨r0_2, p2⟩] : List (View.Piece (Elt F) S1x768x256 .bf16)), y ∈ pc.1.set :=
  View.cover_of_tiled [⟨r0_4, p0⟩, ⟨r0_3, p1⟩, ⟨r0_2, p2⟩] S1x256x256.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S1x1x256 .f32) (harg1 : arg1.IsWhole) (arg2 : Memref sig .tc .vmem S256x256 .f32) (harg2 : arg2.IsWhole) (arg3 : Memref sig .tc .vmem S1x768x256 .bf16) (harg3 : arg3.IsWhole)
    (x0 : Vec F S1x1x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_gain_hadamard i arg1 harg1 arg2 harg2 arg3 harg3) K := by
  simp only [cc0_gain_hadamard_eq_skeleton]; unfold cc0_gain_hadamard_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _ _ _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1_transform` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 2, through which its contents are stated (`View.read_writes_of_cover`: the
    choice does not matter). -/
abbrev VO1_2 : View sig .tc .vmem S128x16384 .i8 := (Memref.whole cc1_stg2_0 : Memref sig .tc .vmem S128x16384 .i8).view
/-- One staging buffer of output window 3, through which its contents are stated (`View.read_writes_of_cover`: the
    choice does not matter). -/
abbrev VO1_3 : View sig .tc .vmem S128x1 .f32 := (Memref.whole cc1_stg3_0 : Memref sig .tc .vmem S128x1 .f32).view
/-- Each window's current staging memref at point `t`, spelled as the pipeline passes it (`bodyAt1`), and its wholeness. -/
abbrev ms1_0 (t : Fin cfg1.N) : Memref sig .tc .vmem S128x16384 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x768x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x16384 .i8 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x1 .f32 := win1_3.stage (cfg1.slots t 3)
abbrev hs1_3 (t : Fin cfg1.N) : (ms1_3 t).IsWhole := hstage1_3 ((cfg1.slots t 3).cast nbuf1_3)
/-- The scratch operands: whole scoped buffers of the kernel's own, passed beside the windows. -/
abbrev scM1_0 : Memref sig .tc .vmem S128x16384 .f32 := Memref.whole cc1_scratch0
abbrev scM1_1 : Memref sig .tc .vmem S128x128 .f32 := Memref.whole cc1_scratch1

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

/-- What the run leaves in output 2's staging buffer: its pieces read back over junk. -/
def out1_A_2 (c : Dev nD) (i : grid1.Coords) (arg1 : Memref sig .tc .vmem S128x16384 .bf16) (harg1 : arg1.IsWhole) (arg2 : Memref sig .tc .vmem S64x768x256 .bf16) (harg2 : arg2.IsWhole) (arg3 : Memref sig .tc .vmem S128x16384 .i8) (harg3 : arg3.IsWhole) (arg4 : Memref sig .tc .vmem S128x1 .f32) (harg4 : arg4.IsWhole) (arg5 : Memref sig .tc .vmem S128x16384 .f32) (harg5 : arg5.IsWhole) (arg6 : Memref sig .tc .vmem S128x128 .f32) (harg6 : arg6.IsWhole)
    (x0 : Vec F S128x16384 .bf16) (x1 : Vec F S64x768x256 .bf16) : Vec F S128x16384 .i8 :=
  VO1_2.read (Elt F) (VO1_2.writes (Elt F) VO1_2.junk (codeL c i arg1 harg1 arg2 harg2 arg3 harg3 arg4 harg4 arg5 harg5 arg6 harg6 x0 x1))

/-- What the run leaves in output 3's staging buffer: its pieces read back over junk. -/
def out1_A_3 (c : Dev nD) (i : grid1.Coords) (arg1 : Memref sig .tc .vmem S128x16384 .bf16) (harg1 : arg1.IsWhole) (arg2 : Memref sig .tc .vmem S64x768x256 .bf16) (harg2 : arg2.IsWhole) (arg3 : Memref sig .tc .vmem S128x16384 .i8) (harg3 : arg3.IsWhole) (arg4 : Memref sig .tc .vmem S128x1 .f32) (harg4 : arg4.IsWhole) (arg5 : Memref sig .tc .vmem S128x16384 .f32) (harg5 : arg5.IsWhole) (arg6 : Memref sig .tc .vmem S128x128 .f32) (harg6 : arg6.IsWhole)
    (x0 : Vec F S128x16384 .bf16) (x1 : Vec F S64x768x256 .bf16) : Vec F S128x1 .f32 :=
  VO1_3.read (Elt F) (VO1_3.writes (Elt F) VO1_3.junk (rowL c i arg1 harg1 arg2 harg2 arg3 harg3 arg4 harg4 arg5 harg5 arg6 harg6 x0 x1).1)

/-! ## What the outputs hold after each point -/

/-- What the outputs' staging buffers hold after the body at point `t` (as a tuple, in window order): the run's contents at
    the point's memrefs and input blocks. -/
def outsAt1 (c : Dev nD) (t : Fin cfg1.N) : Vec F S128x16384 .i8 × Vec F S128x1 .f32 :=
  (out1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) (iblk1 V c 0 t) (iblk1 V c 1 t), out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (iblk1 V c 0 t) (iblk1 V c 1 t))

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t).1
    | ⟨3, _⟩ => (outsAt1 V c t).2
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t).1 := by dsimp only [dat1]
theorem after1_3 (c : Dev nD) (t : Fin cfg1.N) : (dat1 V c).after 3 t = (outsAt1 V c t).2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

/-- The body at any point: the inputs' memrefs hold their blocks (`before1_W`); so the
    run applies; the invariant hands the body its scratch buffers at some contents (and the generator register) and takes them back at some contents (`PhiA_eq`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  rw [show (dat1 V c).Φ t.castSucc = Pipeline.ΦA spec1 c from rfl, PhiA1_eq]
  unfold outsAt1
  unfold out1_A_2 out1_A_3; (try dsimp only)
  iintro ⟨⟨⟨HR0, HR1, HR2, HR3, HR4, HS0, HS1⟩, Hg⟩, Ho, ⟨%d0, H0⟩, ⟨%d1, H1⟩, ⟨%d2, H2⟩, ⟨%d3, H3⟩⟩
  iapply (blockRun c (grid1.coords t) _ _ _ _ _ _ _ _ _ _ _ _ (iblk1 V c 0 t) (iblk1 V c 1 t) Set.univ _)
  isplitl [H0]; · iexact H0
  isplitl [H1]; · iexact H1
  isplitl [H2]; · iexists _; iexact H2
  isplitl [H3]; · iexists _; iexact H3
  isplitl [HS0]; · iexact HS0
  isplitl [HS1]; · iexact HS1
  iintro ⟨H0, H1, ⟨%e2, H2⟩, ⟨%e3, H3⟩, HS0, HS1⟩
  isplitl [HR0 HR1 HR2 HR3 HR4 HS0 HS1 Hg]
  · isplitl [HR0 HR1 HR2 HR3 HR4 HS0 HS1]
    · isplitl [HR0]
      · iexact HR0
      isplitl [HR1]
      · iexact HR1
      isplitl [HR2]
      · iexact HR2
      isplitl [HR3]
      · iexact HR3
      isplitl [HR4]
      · iexact HR4
      isplitl [HS0]
      · iexact HS0
      iexact HS1
    iexact Hg
  isplitl [Ho]; · iexact Ho
  isplitl [H0]; · iexact H0
  isplitl [H1]; · iexact H1
  isplitl [H2]
  · unfold owns; iexists _; isplitr
    swap; · iexact H2
    ipureintro; exact View.read_writes_of_cover _ _ _ _ _ (codeL_cover c _ _ _ _ _ _ _ _ _ _ _ _ _ _ _)
  unfold owns; iexists _; isplitr
  swap; · iexact H3
  ipureintro; exact View.read_writes_of_cover _ _ _ _ _ (rowL_cover c _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: no host stretch writes one and no region may change one (a region reads it
    through an input window or bypasses it) -/

theorem W3_main_arg0 (c : Dev nD) : W3 m ρ c (Proc.devRef .tc main_arg0) = m ((c : Thread nD τ).loc main_arg0) :=
  W3_args m ρ c main_arg0 (by decide)
theorem W3_main_arg1 (c : Dev nD) : W3 m ρ c (Proc.devRef .tc main_arg1) = m ((c : Thread nD τ).loc main_arg1) :=
  W3_args m ρ c main_arg1 (by decide)
theorem W3_main_arg2 (c : Dev nD) : W3 m ρ c (Proc.devRef .tc main_arg2) = m ((c : Thread nD τ).loc main_arg2) :=
  W3_args m ρ c main_arg2 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W3`, the generator register at some state. -/
abbrev Tₙ (c : Dev nD) : sProp 𝕄 := iprop(StableHlo.held (c : Thread nD τ) (Pipeline.ucRefs τ sig) (W3 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 3 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: from any memory with zero counters @main on the TensorCores terminates, with every unscoped buffer at the last
    boundary's contents `W3` and every semaphore counter of the machine at zero: the launch over the segments, the last thread
    state read against the final state. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W3 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨h, funext fun g => hz g (.inr (no_unscoped g.2))⟩)

/-- THE FRAME, at any `F`: the run ends with the arguments unchanged and every counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
      ⟨(h.1 c _ (mem_uc main_arg0 (by decide))).trans (W3_main_arg0 m ρ c),
       (h.1 c _ (mem_uc main_arg1 (by decide))).trans (W3_main_arg1 m ρ c),
       (h.1 c _ (mem_uc main_arg2 (by decide))).trans (W3_main_arg2 m ρ c)⟩, h.2⟩) (run_all m ρ)

end Cert.CodesIdeal.Hand

end
-- ==== Proof.TransformValue.lean ====
/- The transform's final arrays block by block: what each grid point writes back, and the run with each array named. -/
module

public import proofs.«01_k».proof.Proof.CodesFrame
public import Idealize.ShloMosaic.Lib.Pipeline.Value

@[expose] public section

noncomputable section

namespace Cert.CodesIdeal.Hand

open Cert.CodesIdeal Cert.CodesIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-! ## Blockwise: what each point writes back, and the final array block by block -/

/-- WHAT POINT `t` WRITES BACK to output window 2's array: the run's contents for that window after the body (`Gen.outsAt1`: its component 0), read through the window's block. -/
theorem flushed2 (c : Dev nD) (t : Fin cfg1.N) :
    (dat1 V c).flushed 2 t = (cfg1.win 2).cut (grid1.coords t) ((outsAt1 V c t).1) := by
  show (cfg1.win 2).cut (grid1.coords t) ((dat1 V c).after 2 t) = _
  rw [after1_2]

/-- … so at a point where case A runs, what its write-back would write is that case's NAMED TERM for the window (`Gen.out1_A_2`: the pieces
    its run found, read back) at the point's memrefs and input blocks, and for an output the case reads back what the point before left (`Gen.outsAt1` at `t - 1`) — the kernel's one case, `Gen.outsAt1` by definition. -/
theorem flushed2_A (c : Dev nD) (t : Fin cfg1.N) :
    (dat1 V c).flushed 2 t = (cfg1.win 2).cut (grid1.coords t) (out1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) (iblk1 V c 0 t) (iblk1 V c 1 t)) := by
  simp only [flushed2, outsAt1]

/-- The index map sends distinct grid points to distinct block indices (decided over the 24 points). -/
theorem idx_inj2 : ∀ t t' : Fin cfg1.N, win1_2.index t = win1_2.index t' → t = t' :=
  (by decide +kernel : ∀ t t' : Fin grid1.N, win1_2.index t = win1_2.index t' → t = t')

/-- So two flushing points' blocks share no array index (Lib/Pipeline/Cells.lean `Window.disjoint_blk`). -/
theorem disjoint2 : ∀ t t' : Fin cfg1.N, (cfg1.win 2).flush t = true → (cfg1.win 2).flush t' = true → t ≠ t' →
    Disjoint ((cfg1.win 2).blk t).view.set ((cfg1.win 2).blk t').view.set :=
  fun t t' _ _ hne => (cfg1.win 2).disjoint_blk fun h => hne (idx_inj2 t t' h)

/-- BLOCK `t` OF THE FINAL ARRAY, read back through the window, is what point `t` wrote back (`flushed2`), for every
    point that writes back: no other point's block meets it. -/
theorem blocks2 (c : Dev nD) (t : Fin cfg1.N) (hf : (cfg1.win 2).flush t = true) :
    ((cfg1.win 2).blk t).view.read (Elt F) ((dat1 V c).arrAt 2 cfg1.N) = (dat1 V c).flushed 2 t :=
  (dat1 V c).read_blk_arrAt_eq_flushed 2 disjoint2 cfg1.N t t.isLt hf

/-- An index that no flushing point's block covers keeps output window 2's array contents at region entry. -/
theorem entry2 (c : Dev nD) (i : S3072x16384.Idx) (h : ∀ t : Fin cfg1.N, (cfg1.win 2).flush t = true → i ∉ ((cfg1.win 2).blk t).view.set) :
    (dat1 V c).arrAt 2 cfg1.N i = V c (Pipeline.arrRef spec1 2) i := by
  rw [(dat1 V c).arrAt_apply_of_forall_not_mem 2 cfg1.N i (fun t _ hf => h t hf), A_eq1]

/-- WHAT POINT `t` WRITES BACK to output window 3's array: the run's contents for that window after the body (`Gen.outsAt1`: its component 1), read through the window's block. -/
theorem flushed3 (c : Dev nD) (t : Fin cfg1.N) :
    (dat1 V c).flushed 3 t = (cfg1.win 3).cut (grid1.coords t) ((outsAt1 V c t).2) := by
  show (cfg1.win 3).cut (grid1.coords t) ((dat1 V c).after 3 t) = _
  rw [after1_3]

/-- … so at a point where case A runs, what its write-back would write is that case's NAMED TERM for the window (`Gen.out1_A_3`: the pieces
    its run found, read back) at the point's memrefs and input blocks, and for an output the case reads back what the point before left (`Gen.outsAt1` at `t - 1`) — the kernel's one case, `Gen.outsAt1` by definition. -/
theorem flushed3_A (c : Dev nD) (t : Fin cfg1.N) :
    (dat1 V c).flushed 3 t = (cfg1.win 3).cut (grid1.coords t) (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (iblk1 V c 0 t) (iblk1 V c 1 t)) := by
  simp only [flushed3, outsAt1]

/-- The index map sends distinct grid points to distinct block indices (decided over the 24 points). -/
theorem idx_inj3 : ∀ t t' : Fin cfg1.N, win1_3.index t = win1_3.index t' → t = t' :=
  (by decide +kernel : ∀ t t' : Fin grid1.N, win1_3.index t = win1_3.index t' → t = t')

/-- So two flushing points' blocks share no array index (Lib/Pipeline/Cells.lean `Window.disjoint_blk`). -/
theorem disjoint3 : ∀ t t' : Fin cfg1.N, (cfg1.win 3).flush t = true → (cfg1.win 3).flush t' = true → t ≠ t' →
    Disjoint ((cfg1.win 3).blk t).view.set ((cfg1.win 3).blk t').view.set :=
  fun t t' _ _ hne => (cfg1.win 3).disjoint_blk fun h => hne (idx_inj3 t t' h)

/-- BLOCK `t` OF THE FINAL ARRAY, read back through the window, is what point `t` wrote back (`flushed3`), for every
    point that writes back: no other point's block meets it. -/
theorem blocks3 (c : Dev nD) (t : Fin cfg1.N) (hf : (cfg1.win 3).flush t = true) :
    ((cfg1.win 3).blk t).view.read (Elt F) ((dat1 V c).arrAt 3 cfg1.N) = (dat1 V c).flushed 3 t :=
  (dat1 V c).read_blk_arrAt_eq_flushed 3 disjoint3 cfg1.N t t.isLt hf

/-- An index that no flushing point's block covers keeps output window 3's array contents at region entry. -/
theorem entry3 (c : Dev nD) (i : S3072x1.Idx) (h : ∀ t : Fin cfg1.N, (cfg1.win 3).flush t = true → i ∉ ((cfg1.win 3).blk t).view.set) :
    (dat1 V c).arrAt 3 cfg1.N i = V c (Pipeline.arrRef spec1 3) i := by
  rw [(dat1 V c).arrAt_apply_of_forall_not_mem 3 cfg1.N i (fun t _ hf => h t hf), A_eq1]

/-! ## The run, each array named -/

section
variable (m : (ℓ : Loc nD τ sig) → Buf (Elt F) ℓ) (ρ : Dev nD → PrngReg)

/-- The run with each result's array after it named, the arguments unchanged. -/
theorem run_blocks : θ_run defs (onTc (τ := τ) (main (F := F))) ⟨m, fun _ => 0, ρ⟩ fun r => ∀ c : Dev nD,
      r.2.mem ((c : Thread nD τ).loc main_v2_0) = (dat1 (V2 m ρ) c).arrAt 2 cfg1.N
      ∧ r.2.mem ((c : Thread nD τ).loc main_v2_1) = (dat1 (V2 m ρ) c).arrAt 3 cfg1.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1 c _ (mem_uc main_v2_0 (by decide))).trans (W3_arr m ρ c 2),
      (h.1 c _ (mem_uc main_v2_1 (by decide))).trans (W3_arr m ρ c 3),
      (h.1 c _ (mem_uc main_arg0 (by decide))).trans (W3_main_arg0 m ρ c),
      (h.1 c _ (mem_uc main_arg1 (by decide))).trans (W3_main_arg1 m ρ c),
      (h.1 c _ (mem_uc main_arg2 (by decide))).trans (W3_main_arg2 m ρ c)⟩)
    (run_all m ρ)

/-- The second call finds the activation as launched, -/
theorem entry_x (c : Dev nD) : V2 m ρ c main_arg0 = m ((c : Thread nD τ).loc main_arg0) := W2_args m ρ c main_arg0 (by decide)

/-- and the folded weight as the first call leaves it. -/
theorem entry_weight (c : Dev nD) : V2 m ρ c main_v1 = (dat0 (V1 m ρ) c).arrAt 2 cfg0.N := W2_arr m ρ c 2

/-- The first call finds the Hadamard factor as launched, -/
theorem entry_factor (c : Dev nD) : V1 m ρ c main_arg2 = m ((c : Thread nD τ).loc main_arg2) := W1_args m ρ c main_arg2 (by decide)

/-- and the gain reshaped. -/
theorem entry_gain (c : Dev nD) : (V1 m ρ c main_v0 : Vec F S64x1x256 .f32)
    = shapeCast S64x1x256 (m ((c : Thread nD τ).loc main_arg1) : Vec F S16384 .f32) shapeCasts_S16384_S64x1x256 := by
  show StableHlo.after hostOps0 (W0 m ρ c) (Proc.devRef .tc main_v0) = _
  simp only [hostOps0]
  after_results_simp <;> rfl

end

end Cert.CodesIdeal.Hand

end
-- ==== Proof.Butterfly.lean ====
/- The two in-place butterfly stages of the transform's row loop, on blocks of eight rows.  A stage replaces eight columns
   that lie `σ` apart by their radix-8 butterfly.  Here: the butterfly, a stage as a function of the whole array, and what one
   group of eight loads and eight stores does to the array, told as facts about the list of stores. -/
module

public import proofs.«01_k».proof.Proof.Gen.CodesIdeal
public import Idealize.ShloMosaic.Lib.Pipeline.ReadBack
public import Idealize.ShloMosaic.Lib.Pipeline.Value
public import Idealize.ShloMosaic.Lib.Exec
public import Idealize.ShloMosaic.Lib.Pointwise

@[expose] public section

set_option maxRecDepth 16384

noncomputable section

namespace Cert.CodesIdeal.Hand

open Cert.CodesIdeal Idealize.ShloMosaic Idealize.ShloMosaic.TcCoe

variable {F : FTy → Type} [FloatOps F]

section bfly
variable {α : Type} (add sub : α → α → α) (v0 v1 v2 v3 v4 v5 v6 v7 : α)

/-- The eight outputs of the radix-8 butterfly of `v0 … v7`, one by one. -/
abbrev bo0 : α := add (add (add v0 v1) (add v2 v3)) (add (add v4 v5) (add v6 v7))
abbrev bo1 : α := add (add (sub v0 v1) (sub v2 v3)) (add (sub v4 v5) (sub v6 v7))
abbrev bo2 : α := add (sub (add v0 v1) (add v2 v3)) (sub (add v4 v5) (add v6 v7))
abbrev bo3 : α := add (sub (sub v0 v1) (sub v2 v3)) (sub (sub v4 v5) (sub v6 v7))
abbrev bo4 : α := sub (add (add v0 v1) (add v2 v3)) (add (add v4 v5) (add v6 v7))
abbrev bo5 : α := sub (add (sub v0 v1) (sub v2 v3)) (add (sub v4 v5) (sub v6 v7))
abbrev bo6 : α := sub (sub (add v0 v1) (add v2 v3)) (sub (add v4 v5) (add v6 v7))
abbrev bo7 : α := sub (sub (sub v0 v1) (sub v2 v3)) (sub (sub v4 v5) (sub v6 v7))

/-- The radix-8 butterfly of a vector of eight. -/
def bfly (w : Fin 8 → α) : Fin 8 → α :=
  ![bo0 add (w 0) (w 1) (w 2) (w 3) (w 4) (w 5) (w 6) (w 7), bo1 add sub (w 0) (w 1) (w 2) (w 3) (w 4) (w 5) (w 6) (w 7),
    bo2 add sub (w 0) (w 1) (w 2) (w 3) (w 4) (w 5) (w 6) (w 7), bo3 add sub (w 0) (w 1) (w 2) (w 3) (w 4) (w 5) (w 6) (w 7),
    bo4 add sub (w 0) (w 1) (w 2) (w 3) (w 4) (w 5) (w 6) (w 7), bo5 add sub (w 0) (w 1) (w 2) (w 3) (w 4) (w 5) (w 6) (w 7),
    bo6 add sub (w 0) (w 1) (w 2) (w 3) (w 4) (w 5) (w 6) (w 7), bo7 sub (w 0) (w 1) (w 2) (w 3) (w 4) (w 5) (w 6) (w 7)]

end bfly

/-- The index that column `i` of the eight columns of `y`'s butterfly has, when the columns lie `σ` apart. -/
def src (σ : ℕ) (y : S128x16384.Idx) (i : Fin 8) : S128x16384.Idx :=
  Idealize.ShloMosaic.ix2 (y 0)
    ⟨((y 1).val - (y 1).val / σ % 8 * σ + i.val * σ) % 16384, Nat.mod_lt _ (by decide)⟩

theorem src_zero (σ : ℕ) (y : S128x16384.Idx) (i : Fin 8) : (src σ y i 0).val = (y 0).val := rfl
theorem src_one (σ : ℕ) (y : S128x16384.Idx) (i : Fin 8) : (src σ y i 1).val = ((y 1).val - (y 1).val / σ % 8 * σ + i.val * σ) % 16384 := rfl

/-- One butterfly stage of the whole array, the columns of a butterfly `σ` apart. -/
def stage (σ : ℕ) (U : S128x16384.Idx → F .f32) : S128x16384.Idx → F .f32 := fun y =>
  bfly FloatOps.addf FloatOps.subf (fun i => U (src σ y i)) ⟨(y 1).val / σ % 8, Nat.mod_lt _ (by decide)⟩

/-- An entry of a stage, by the number of its column among the eight. -/
theorem stage_eq (σ : ℕ) (U : S128x16384.Idx → F .f32) (y : S128x16384.Idx) (j : Fin 8) (hj : (y 1).val / σ % 8 = j.val)
    (w : Fin 8 → F .f32) (hw : ∀ i, w i = U (src σ y i)) :
    bfly FloatOps.addf FloatOps.subf w j = stage σ U y := by
  unfold stage
  rw [show w = fun i => U (src σ y i) from funext hw]
  congr 1
  exact Fin.ext hj.symm

/-- Which entries a block of eight rows and 128 columns holds. -/
theorem mem_blk {o : Fin 2 → ℕ} [ClosedOff o] (k c : ℕ) (e : ClosedOff.form o = ![8 * k, c])
    (h : ∀ a, o a + S8x128.size a ≤ S128x16384.size a) (y : S128x16384.Idx) :
    y ∈ (Rect.unit (s := S128x16384) o S8x128.size h).set ↔ (y 0).val / 8 = k ∧ c ≤ (y 1).val ∧ (y 1).val < c + 128 := by
  have ho : o = ![8 * k, c] := ClosedOff.eq.trans e
  subst ho
  rw [Rect.mem_set_unit, Fin.forall_fin_two]
  show (8 * k ≤ (y 0).val ∧ (y 0).val < 8 * k + 8) ∧ (c ≤ (y 1).val ∧ (y 1).val < c + 128) ↔ _
  omega

/-- The array's index of a block's entry. -/
theorem blk_idx {o : Fin 2 → ℕ} [ClosedOff o] (k c : ℕ) (e : ClosedOff.form o = ![8 * k, c])
    (h : ∀ a, o a + S8x128.size a ≤ S128x16384.size a) (x : S8x128.Idx) :
    ((Rect.unit (s := S128x16384) o S8x128.size h).emb x 0).val = 8 * k + (x 0).val ∧ ((Rect.unit (s := S128x16384) o S8x128.size h).emb x 1).val = c + (x 1).val := by
  have ho : o = ![8 * k, c] := ClosedOff.eq.trans e
  subst ho
  constructor
  · show 8 * k + 1 * (x 0).val = _
    omega
  · show c + 1 * (x 1).val = _
    omega

theorem idx_ext {y z : S128x16384.Idx} (h0 : (y 0).val = (z 0).val) (h1 : (y 1).val = (z 1).val) : y = z := by
  funext a
  match a with
  | ⟨0, _⟩ => exact Fin.ext h0
  | ⟨1, _⟩ => exact Fin.ext h1

theorem x0_lt (x : S8x128.Idx) : (x 0).val < 8 := (x 0).isLt
theorem x1_lt (x : S8x128.Idx) : (x 1).val < 128 := (x 1).isLt
theorem y1_lt (y : S128x16384.Idx) : (y 1).val < 16384 := (y 1).isLt

/-- Eight stores whose entries are all entries of `G`, over the stores `L`: the entries they hold are `G`'s, the others are as `L` left them. -/
theorem canon_group (G : S128x16384.Idx → F .f32) (P L : List (View.Piece (Elt F) S128x16384 .f32)) (hP : View.PiecesOf G P) (y : S128x16384.Idx) :
    ((∃ p ∈ P, y ∈ p.1.set) → View.canon (P ++ L) y = G y) ∧ ((∀ p ∈ P, y ∉ p.1.set) → View.canon (P ++ L) y = View.canon L y) := by
  constructor
  · exact View.canon_append_of_piecesOf G L P hP y
  · intro h
    clear hP
    induction P with
    | nil => rfl
    | cons p P ih =>
      rw [List.cons_append, View.canon_cons_of_not_mem p _ (h p List.mem_cons_self)]
      exact ih fun q hq => h q (List.mem_cons_of_mem _ hq)

/-- A block of the butterfly of eight blocks, the blocks `σ` apart, is a block of the stage. -/
theorem stage_piece (σ : ℕ) (hσ : 128 ≤ σ) (k c : ℕ) (hc : c / σ % 8 = 0) (hc' : c % σ + 128 ≤ σ) (U : S128x16384.Idx → F .f32) (j : Fin 8)
    {o : Fin 2 → ℕ} [ClosedOff o] (e : ClosedOff.form o = ![8 * k, c + σ * j.val])
    (h : ∀ a, o a + S8x128.size a ≤ S128x16384.size a) (w : S8x128.Idx → Fin 8 → F .f32)
    (hw : ∀ x i y, (y 0).val = 8 * k + (x 0).val → (y 1).val = c + σ * i.val + (x 1).val → w x i = U y) (hcc : c + 7 * σ + 128 ≤ 16384) (x : S8x128.Idx) :
    bfly FloatOps.addf FloatOps.subf (w x) j = stage σ U ((Rect.unit (s := S128x16384) o S8x128.size h).emb x) := by
  obtain ⟨e0, e1⟩ := blk_idx k _ e h x
  have hx := x1_lt x
  have hj : ((Rect.unit (s := S128x16384) o S8x128.size h).emb x 1).val / σ % 8 = j.val := by
    rw [e1]
    have h1 : (c + σ * j.val + (x 1).val) / σ = c / σ + j.val := by
      have hd := Nat.div_add_mod c σ
      rw [show c + σ * j.val + (x 1).val = (c % σ + (x 1).val) + σ * (c / σ + j.val) by rw [Nat.mul_add]; omega,
        Nat.add_mul_div_left _ _ (by omega), Nat.div_eq_of_lt (by omega)]
      omega
    rw [h1]
    have := j.isLt
    omega
  refine stage_eq σ U _ j hj _ fun i => hw x i _ ?_ ?_
  · rw [src_zero]; exact e0
  · rw [src_one, hj, e1, Nat.mul_comm j.val σ, Nat.mul_comm i.val σ]
    have h2 : σ * i.val ≤ σ * 7 := Nat.mul_le_mul_left _ (by have := i.isLt; omega)
    rw [Nat.mod_eq_of_lt (by omega)]
    omega

section groups

variable (v : View sig .tc .vmem S128x16384 .f32) (k n : ℕ)
  {o0 o1 o2 o3 o4 o5 o6 o7 : Fin 2 → ℕ} [ClosedOff o0] [ClosedOff o1] [ClosedOff o2] [ClosedOff o3] [ClosedOff o4] [ClosedOff o5] [ClosedOff o6] [ClosedOff o7]
  {h0 : ∀ a, o0 a + S8x128.size a ≤ S128x16384.size a} {h1 : ∀ a, o1 a + S8x128.size a ≤ S128x16384.size a}
  {h2 : ∀ a, o2 a + S8x128.size a ≤ S128x16384.size a} {h3 : ∀ a, o3 a + S8x128.size a ≤ S128x16384.size a}
  {h4 : ∀ a, o4 a + S8x128.size a ≤ S128x16384.size a} {h5 : ∀ a, o5 a + S8x128.size a ≤ S128x16384.size a}
  {h6 : ∀ a, o6 a + S8x128.size a ≤ S128x16384.size a} {h7 : ∀ a, o7 a + S8x128.size a ≤ S128x16384.size a}
  (v0 v1 v2 v3 v4 v5 v6 v7 : FVec F S8x128 .f32) {s0 s1 s2 s3 s4 s5 s6 s7 : S8x128.ShapeCasts S8x128}

/-- The eight stores of a group, the last first. -/
abbrev grp (L : List (View.Piece (Elt F) S128x16384 .f32)) : List (View.Piece (Elt F) S128x16384 .f32) :=
  ⟨Rect.unit (s := S128x16384) o7 S8x128.size h7, shapeCast S8x128 (bo7 subf v0 v1 v2 v3 v4 v5 v6 v7) s7⟩ ::
  ⟨Rect.unit (s := S128x16384) o6 S8x128.size h6, shapeCast S8x128 (bo6 addf subf v0 v1 v2 v3 v4 v5 v6 v7) s6⟩ ::
  ⟨Rect.unit (s := S128x16384) o5 S8x128.size h5, shapeCast S8x128 (bo5 addf subf v0 v1 v2 v3 v4 v5 v6 v7) s5⟩ ::
  ⟨Rect.unit (s := S128x16384) o4 S8x128.size h4, shapeCast S8x128 (bo4 addf subf v0 v1 v2 v3 v4 v5 v6 v7) s4⟩ ::
  ⟨Rect.unit (s := S128x16384) o3 S8x128.size h3, shapeCast S8x128 (bo3 addf subf v0 v1 v2 v3 v4 v5 v6 v7) s3⟩ ::
  ⟨Rect.unit (s := S128x16384) o2 S8x128.size h2, shapeCast S8x128 (bo2 addf subf v0 v1 v2 v3 v4 v5 v6 v7) s2⟩ ::
  ⟨Rect.unit (s := S128x16384) o1 S8x128.size h1, shapeCast S8x128 (bo1 addf subf v0 v1 v2 v3 v4 v5 v6 v7) s1⟩ ::
  ⟨Rect.unit (s := S128x16384) o0 S8x128.size h0, shapeCast S8x128 (bo0 addf v0 v1 v2 v3 v4 v5 v6 v7) s0⟩ :: L

/-- A group of eight loads and stores, `σ` apart from column `c`: its stores are blocks of the stage, they hold the eight
    column blocks, and nothing else. -/
theorem grp_canon (σ c : ℕ) (hσ : 128 ≤ σ) (hc : c / σ % 8 = 0) (hc' : c % σ + 128 ≤ σ) (hcc : c + 7 * σ + 128 ≤ 16384) (U : S128x16384.Idx → F .f32)
    (e0 : ClosedOff.form o0 = ![8 * k, c + σ * 0]) (e1 : ClosedOff.form o1 = ![8 * k, c + σ * 1]) (e2 : ClosedOff.form o2 = ![8 * k, c + σ * 2])
    (e3 : ClosedOff.form o3 = ![8 * k, c + σ * 3]) (e4 : ClosedOff.form o4 = ![8 * k, c + σ * 4]) (e5 : ClosedOff.form o5 = ![8 * k, c + σ * 5])
    (e6 : ClosedOff.form o6 = ![8 * k, c + σ * 6]) (e7 : ClosedOff.form o7 = ![8 * k, c + σ * 7])
    (hv : ∀ x i y, (y 0).val = 8 * k + (x 0).val → (y 1).val = c + σ * i.val + (x 1).val → ![v0 x, v1 x, v2 x, v3 x, v4 x, v5 x, v6 x, v7 x] i = U y)
    (L : List (View.Piece (Elt F) S128x16384 .f32)) (y : S128x16384.Idx) :
    ((y 0).val / 8 = k → (∃ j : Fin 8, c + σ * j.val ≤ (y 1).val ∧ (y 1).val < c + σ * j.val + 128) →
        View.canon (Val := Elt F) (e := .f32) (grp (h0 := h0) (h1 := h1) (h2 := h2) (h3 := h3) (h4 := h4) (h5 := h5) (h6 := h6) (h7 := h7) (s0 := s0) (s1 := s1) (s2 := s2) (s3 := s3) (s4 := s4) (s5 := s5) (s6 := s6) (s7 := s7) v0 v1 v2 v3 v4 v5 v6 v7 L) y = stage σ U y)
    ∧ ((∀ j : Fin 8, ¬ (c + σ * j.val ≤ (y 1).val ∧ (y 1).val < c + σ * j.val + 128)) →
        View.canon (Val := Elt F) (e := .f32) (grp (h0 := h0) (h1 := h1) (h2 := h2) (h3 := h3) (h4 := h4) (h5 := h5) (h6 := h6) (h7 := h7) (s0 := s0) (s1 := s1) (s2 := s2) (s3 := s3) (s4 := s4) (s5 := s5) (s6 := s6) (s7 := s7) v0 v1 v2 v3 v4 v5 v6 v7 L) y = View.canon (Val := Elt F) (e := .f32) L y) := by
  have key := canon_group (stage σ U) (grp (h0 := h0) (h1 := h1) (h2 := h2) (h3 := h3) (h4 := h4) (h5 := h5) (h6 := h6) (h7 := h7) (s0 := s0) (s1 := s1) (s2 := s2) (s3 := s3) (s4 := s4) (s5 := s5) (s6 := s6) (s7 := s7) v0 v1 v2 v3 v4 v5 v6 v7 []) L ?_ y
  · constructor
    · rintro hy ⟨j, hj⟩
      refine key.1 ?_
      fin_cases j
      · exact ⟨_, List.mem_of_getElem? (i := 7) rfl, (mem_blk k _ e0 h0 y).mpr ⟨hy, hj⟩⟩
      · exact ⟨_, List.mem_of_getElem? (i := 6) rfl, (mem_blk k _ e1 h1 y).mpr ⟨hy, hj⟩⟩
      · exact ⟨_, List.mem_of_getElem? (i := 5) rfl, (mem_blk k _ e2 h2 y).mpr ⟨hy, hj⟩⟩
      · exact ⟨_, List.mem_of_getElem? (i := 4) rfl, (mem_blk k _ e3 h3 y).mpr ⟨hy, hj⟩⟩
      · exact ⟨_, List.mem_of_getElem? (i := 3) rfl, (mem_blk k _ e4 h4 y).mpr ⟨hy, hj⟩⟩
      · exact ⟨_, List.mem_of_getElem? (i := 2) rfl, (mem_blk k _ e5 h5 y).mpr ⟨hy, hj⟩⟩
      · exact ⟨_, List.mem_of_getElem? (i := 1) rfl, (mem_blk k _ e6 h6 y).mpr ⟨hy, hj⟩⟩
      · exact ⟨_, List.mem_of_getElem? (i := 0) rfl, (mem_blk k _ e7 h7 y).mpr ⟨hy, hj⟩⟩
    · intro hj
      refine key.2 ?_
      intro p hp
      simp only [List.mem_cons, List.not_mem_nil, or_false] at hp
      rcases hp with rfl | rfl | rfl | rfl | rfl | rfl | rfl | rfl
      · exact fun hm => hj 7 ((mem_blk k _ e7 h7 y).mp hm).2
      · exact fun hm => hj 6 ((mem_blk k _ e6 h6 y).mp hm).2
      · exact fun hm => hj 5 ((mem_blk k _ e5 h5 y).mp hm).2
      · exact fun hm => hj 4 ((mem_blk k _ e4 h4 y).mp hm).2
      · exact fun hm => hj 3 ((mem_blk k _ e3 h3 y).mp hm).2
      · exact fun hm => hj 2 ((mem_blk k _ e2 h2 y).mp hm).2
      · exact fun hm => hj 1 ((mem_blk k _ e1 h1 y).mp hm).2
      · exact fun hm => hj 0 ((mem_blk k _ e0 h0 y).mp hm).2
  · have W := fun (j : Fin 8) (o : Fin 2 → ℕ) (_ : ClosedOff o) (e : ClosedOff.form o = ![8 * k, c + σ * j.val]) h x =>
      stage_piece σ hσ k c hc hc' U j e h (fun x => ![v0 x, v1 x, v2 x, v3 x, v4 x, v5 x, v6 x, v7 x]) hv hcc x
    refine ⟨fun x => ?_, fun x => ?_, fun x => ?_, fun x => ?_, fun x => ?_, fun x => ?_, fun x => ?_, fun x => ?_, trivial⟩
    · dsimp only; rw [shapeCast_self]; exact W 7 o7 _ e7 h7 x
    · dsimp only; rw [shapeCast_self]; exact W 6 o6 _ e6 h6 x
    · dsimp only; rw [shapeCast_self]; exact W 5 o5 _ e5 h5 x
    · dsimp only; rw [shapeCast_self]; exact W 4 o4 _ e4 h4 x
    · dsimp only; rw [shapeCast_self]; exact W 3 o3 _ e3 h3 x
    · dsimp only; rw [shapeCast_self]; exact W 2 o2 _ e2 h2 x
    · dsimp only; rw [shapeCast_self]; exact W 1 o1 _ e1 h1 x
    · dsimp only; rw [shapeCast_self]; exact W 0 o0 _ e0 h0 x

end groups

end Cert.CodesIdeal.Hand
-- ==== Proof.TransformTrip.lean ====
/- One trip of the transform's row loop, over the reals: the two butterfly stages of a block of eight rows, group by group, and
   the running maximum of the absolute values. -/
module

public import proofs.«01_k».proof.Proof.TransformRun
public import proofs.«01_k».proof.Proof.Butterfly
public import Idealize.ShloMosaic.Lib.Pointwise

@[expose] public section

set_option maxRecDepth 16384

noncomputable section

namespace Cert.CodesIdeal.Hand

open Cert.CodesIdeal Cert.CodesIdeal.Gen Idealize.ShloMosaic Idealize.ShloMosaic.TcCoe Idealize.ShloMosaic.Tactic

/-- The absolute value. -/
abbrev ab (z : Ideal .f32) : EReal := FloatOps.absf z

/-- After the stores `L`, all in the rows of block `k`, these rows hold stage one of `T` in the first `n` groups of columns. -/
def H1 (k : ℕ) (T : S128x16384.Idx → Ideal .f32) (n : ℕ) (L : List (View.Piece (Elt Ideal) S128x16384 .f32)) : Prop :=
  (∀ p ∈ L, ∀ y ∈ p.1.set, (y 0).val / 8 = k) ∧ ∀ y : S128x16384.Idx, (y 0).val / 8 = k → (y 1).val / 2048 * 2 + (y 1).val % 256 / 128 < n →
    (∃ p ∈ L, y ∈ p.1.set) ∧ View.canon (Val := Elt Ideal) (e := .f32) L y = stage 256 T y

/-- After the stores `L`, all in the rows of block `k`, these rows hold stage two of `U` in the first `n` groups of columns and `U` in the others. -/
def H2 (k : ℕ) (U : S128x16384.Idx → Ideal .f32) (n : ℕ) (L : List (View.Piece (Elt Ideal) S128x16384 .f32)) : Prop :=
  (∀ p ∈ L, ∀ y ∈ p.1.set, (y 0).val / 8 = k) ∧ ∀ y : S128x16384.Idx, (y 0).val / 8 = k →
    (∃ p ∈ L, y ∈ p.1.set) ∧ View.canon (Val := Elt Ideal) (e := .f32) L y = if (y 1).val % 2048 / 128 < n then stage 2048 U y else U y

/-- `A` is, for the eight rows of block `k` and lane by lane, the maximum of zero and the absolute values of stage two of `U` in the first `n` groups. -/
def AM (k : ℕ) (U : S128x16384.Idx → Ideal .f32) (n : ℕ) (A : FVec Ideal S8x128 .f32) : Prop :=
  ∀ (x : S8x128.Idx) (b : EReal), (A x : EReal) ≤ b ↔ 0 ≤ b ∧ ∀ y : S128x16384.Idx, (y 0).val = 8 * k + (x 0).val → (y 1).val % 128 = (x 1).val →
    (y 1).val % 2048 / 128 < n → ab (stage 2048 U y) ≤ b

theorem H1_nil (k : ℕ) (T : S128x16384.Idx → Ideal .f32) : H1 k T 0 [] := ⟨fun p hp => absurd hp List.not_mem_nil, fun y _ h => absurd h (Nat.not_lt_zero _)⟩

theorem H2_zero (k : ℕ) (T : S128x16384.Idx → Ideal .f32) (L : List (View.Piece (Elt Ideal) S128x16384 .f32)) (h : H1 k T 16 L) : H2 k (stage 256 T) 0 L := by
  refine ⟨h.1, fun y hy => ?_⟩
  have hy1 := y1_lt y
  have := h.2 y hy (by omega)
  rw [if_neg (Nat.not_lt_zero _)]
  exact this

theorem AM_zero (k : ℕ) (U : S128x16384.Idx → Ideal .f32) : AM k U 0 (broadcast S8x128 (Scalar.ofBits .f32 0x00000000#32 : Ideal .f32)) := by
  intro x b
  have h0 : (broadcast S8x128 (Scalar.ofBits .f32 0x00000000#32 : Ideal .f32) x : EReal) = 0 := by
    show (Scalar.ofBits .f32 0x00000000#32 : Ideal .f32) = _
    simp [pointwise]
  rw [h0]
  exact ⟨fun h => ⟨h, fun y _ _ h => absurd h (Nat.not_lt_zero _)⟩, fun h => h.1⟩

/-- An entry of a stage from the eight entries of its butterfly. -/
theorem stage_at (σ : ℕ) (hσ : 128 ≤ σ) (k c : ℕ) (hc : c / σ % 8 = 0) (hc' : c % σ + 128 ≤ σ) (hcc : c + 7 * σ + 128 ≤ 16384) (U : S128x16384.Idx → Ideal .f32) (j : Fin 8)
    (w : Fin 8 → Ideal .f32) (y : S128x16384.Idx) (r l : ℕ) (hl : l < 128) (h0 : (y 0).val = r) (h1 : (y 1).val = c + σ * j.val + l)
    (hw : ∀ i z, (z 0).val = r → (z 1).val = c + σ * i.val + l → w i = U z) :
    bfly FloatOps.addf FloatOps.subf w j = stage σ U y := by
  have hj : (y 1).val / σ % 8 = j.val := by
    rw [h1]
    have h1 : (c + σ * j.val + l) / σ = c / σ + j.val := by
      have hd := Nat.div_add_mod c σ
      rw [show c + σ * j.val + l = (c % σ + l) + σ * (c / σ + j.val) by rw [Nat.mul_add]; omega,
        Nat.add_mul_div_left _ _ (by omega), Nat.div_eq_of_lt (by omega)]
      omega
    rw [h1]
    have := j.isLt
    omega
  refine stage_eq σ U _ j hj _ fun i => hw i _ ?_ ?_
  · rw [src_zero]; exact h0
  · rw [src_one, hj, h1, Nat.mul_comm j.val σ, Nat.mul_comm i.val σ]
    have h2 : σ * i.val ≤ σ * 7 := Nat.mul_le_mul_left _ (by have := i.isLt; omega)
    rw [Nat.mod_eq_of_lt (by omega)]
    omega

/-- A group's maxima: the running maximum takes the eight outputs of the group's butterflies. -/
theorem amax_group (k n : ℕ) (hk : k < 16) (hn : n < 16) (U : S128x16384.Idx → Ideal .f32) (A v0 v1 v2 v3 v4 v5 v6 v7 : FVec Ideal S8x128 .f32)
    (hv : ∀ x i y, (y 0).val = 8 * k + (x 0).val → (y 1).val = 128 * n + 2048 * i.val + (x 1).val → ![v0 x, v1 x, v2 x, v3 x, v4 x, v5 x, v6 x, v7 x] i = U y)
    (hA : AM k U n A) : AM k U (n + 1) (maximumf (maximumf (maximumf (maximumf (maximumf (maximumf (maximumf (maximumf A (absf (bo0 addf v0 v1 v2 v3 v4 v5 v6 v7))) (absf (bo1 addf subf v0 v1 v2 v3 v4 v5 v6 v7))) (absf (bo2 addf subf v0 v1 v2 v3 v4 v5 v6 v7))) (absf (bo3 addf subf v0 v1 v2 v3 v4 v5 v6 v7))) (absf (bo4 addf subf v0 v1 v2 v3 v4 v5 v6 v7))) (absf (bo5 addf subf v0 v1 v2 v3 v4 v5 v6 v7))) (absf (bo6 addf subf v0 v1 v2 v3 v4 v5 v6 v7))) (absf (bo7 subf v0 v1 v2 v3 v4 v5 v6 v7))) := by
  intro x b
  have hx0 := x0_lt x
  have hx1 := x1_lt x
  let Y : Fin 8 → S128x16384.Idx := fun j => ix2 (⟨8 * k + (x 0).val, by omega⟩ : Fin 128) (⟨128 * n + 2048 * j.val + (x 1).val, by have := j.isLt; omega⟩ : Fin 16384)
  have hj : ∀ j, bfly FloatOps.addf FloatOps.subf ![v0 x, v1 x, v2 x, v3 x, v4 x, v5 x, v6 x, v7 x] j = stage 2048 U (Y j) := fun j =>
    stage_at 2048 (by omega) k (128 * n) (by omega) (by omega) (by omega) U j ![v0 x, v1 x, v2 x, v3 x, v4 x, v5 x, v6 x, v7 x] (Y j) (8 * k + (x 0).val) (x 1).val hx1 rfl rfl
      (fun i z h0 h1 => hv x i z h0 h1)
  have hm : ((maximumf (maximumf (maximumf (maximumf (maximumf (maximumf (maximumf (maximumf A (absf (bo0 addf v0 v1 v2 v3 v4 v5 v6 v7))) (absf (bo1 addf subf v0 v1 v2 v3 v4 v5 v6 v7))) (absf (bo2 addf subf v0 v1 v2 v3 v4 v5 v6 v7))) (absf (bo3 addf subf v0 v1 v2 v3 v4 v5 v6 v7))) (absf (bo4 addf subf v0 v1 v2 v3 v4 v5 v6 v7))) (absf (bo5 addf subf v0 v1 v2 v3 v4 v5 v6 v7))) (absf (bo6 addf subf v0 v1 v2 v3 v4 v5 v6 v7))) (absf (bo7 subf v0 v1 v2 v3 v4 v5 v6 v7))) x : EReal) ≤ b ↔ (((((((((A x : EReal) ≤ b ∧ ab (stage 2048 U (Y 0)) ≤ b) ∧ ab (stage 2048 U (Y 1)) ≤ b) ∧ ab (stage 2048 U (Y 2)) ≤ b) ∧ ab (stage 2048 U (Y 3)) ≤ b)
      ∧ ab (stage 2048 U (Y 4)) ≤ b) ∧ ab (stage 2048 U (Y 5)) ≤ b) ∧ ab (stage 2048 U (Y 6)) ≤ b) ∧ ab (stage 2048 U (Y 7)) ≤ b) := by
    rw [← hj 0, ← hj 1, ← hj 2, ← hj 3, ← hj 4, ← hj 5, ← hj 6, ← hj 7, ← max_le_iff, ← max_le_iff, ← max_le_iff, ← max_le_iff, ← max_le_iff, ← max_le_iff, ← max_le_iff, ← max_le_iff]
    exact Iff.rfl
  rw [hm, hA x b]
  constructor
  · rintro ⟨⟨⟨⟨⟨⟨⟨⟨⟨hb, h⟩, t0⟩, t1⟩, t2⟩, t3⟩, t4⟩, t5⟩, t6⟩, t7⟩
    refine ⟨hb, fun y h0 h1 hg => ?_⟩
    have hy1 := y1_lt y
    by_cases hlt : (y 1).val % 2048 / 128 < n
    · exact h y h0 h1 hlt
    · obtain ⟨j, hyj⟩ : ∃ j : Fin 8, y = Y j := ⟨⟨(y 1).val / 2048, by omega⟩, idx_ext h0 (by
        show (y 1).val = 128 * n + 2048 * ((y 1).val / 2048) + (x 1).val
        omega)⟩
      rw [hyj]
      fin_cases j
      · exact t0
      · exact t1
      · exact t2
      · exact t3
      · exact t4
      · exact t5
      · exact t6
      · exact t7
  · rintro ⟨hb, h⟩
    have hY : ∀ j : Fin 8, ab (stage 2048 U (Y j)) ≤ b := fun j => h (Y j) rfl
      (by show (128 * n + 2048 * j.val + (x 1).val) % 128 = _; omega)
      (by show (128 * n + 2048 * j.val + (x 1).val) % 2048 / 128 < _; omega)
    exact ⟨⟨⟨⟨⟨⟨⟨⟨⟨hb, fun y h0 h1 hg => h y h0 h1 (by omega)⟩, hY 0⟩, hY 1⟩, hY 2⟩, hY 3⟩, hY 4⟩, hY 5⟩, hY 6⟩, hY 7⟩

section groups

variable (k n : ℕ)
  {o0 o1 o2 o3 o4 o5 o6 o7 : Fin 2 → ℕ} [ClosedOff o0] [ClosedOff o1] [ClosedOff o2] [ClosedOff o3] [ClosedOff o4] [ClosedOff o5] [ClosedOff o6] [ClosedOff o7]
  {h0 : ∀ a, o0 a + S8x128.size a ≤ S128x16384.size a}
  {h1 : ∀ a, o1 a + S8x128.size a ≤ S128x16384.size a}
  {h2 : ∀ a, o2 a + S8x128.size a ≤ S128x16384.size a}
  {h3 : ∀ a, o3 a + S8x128.size a ≤ S128x16384.size a}
  {h4 : ∀ a, o4 a + S8x128.size a ≤ S128x16384.size a}
  {h5 : ∀ a, o5 a + S8x128.size a ≤ S128x16384.size a}
  {h6 : ∀ a, o6 a + S8x128.size a ≤ S128x16384.size a}
  {h7 : ∀ a, o7 a + S8x128.size a ≤ S128x16384.size a}
  (v0 v1 v2 v3 v4 v5 v6 v7 : FVec Ideal S8x128 .f32) {s0 s1 s2 s3 s4 s5 s6 s7 : S8x128.ShapeCasts S8x128}

/-- Every entry of a group's columns is in one of its stores. -/
theorem grp_mem (σ c : ℕ)
    (e0 : ClosedOff.form o0 = ![8 * k, c + σ * 0])
    (e1 : ClosedOff.form o1 = ![8 * k, c + σ * 1])
    (e2 : ClosedOff.form o2 = ![8 * k, c + σ * 2])
    (e3 : ClosedOff.form o3 = ![8 * k, c + σ * 3])
    (e4 : ClosedOff.form o4 = ![8 * k, c + σ * 4])
    (e5 : ClosedOff.form o5 = ![8 * k, c + σ * 5])
    (e6 : ClosedOff.form o6 = ![8 * k, c + σ * 6])
    (e7 : ClosedOff.form o7 = ![8 * k, c + σ * 7])
    (L : List (View.Piece (Elt Ideal) S128x16384 .f32)) (y : S128x16384.Idx) (hy : (y 0).val / 8 = k) (j : Fin 8)
    (hj : c + σ * j.val ≤ (y 1).val ∧ (y 1).val < c + σ * j.val + 128) :
    ∃ p ∈ grp (h0 := h0) (h1 := h1) (h2 := h2) (h3 := h3) (h4 := h4) (h5 := h5) (h6 := h6) (h7 := h7) (s0 := s0) (s1 := s1) (s2 := s2) (s3 := s3) (s4 := s4) (s5 := s5) (s6 := s6) (s7 := s7) v0 v1 v2 v3 v4 v5 v6 v7 L, y ∈ p.1.set := by
  fin_cases j
  · exact ⟨_, List.mem_of_getElem? (i := 7) rfl, (mem_blk k _ e0 h0 y).mpr ⟨hy, hj⟩⟩
  · exact ⟨_, List.mem_of_getElem? (i := 6) rfl, (mem_blk k _ e1 h1 y).mpr ⟨hy, hj⟩⟩
  · exact ⟨_, List.mem_of_getElem? (i := 5) rfl, (mem_blk k _ e2 h2 y).mpr ⟨hy, hj⟩⟩
  · exact ⟨_, List.mem_of_getElem? (i := 4) rfl, (mem_blk k _ e3 h3 y).mpr ⟨hy, hj⟩⟩
  · exact ⟨_, List.mem_of_getElem? (i := 3) rfl, (mem_blk k _ e4 h4 y).mpr ⟨hy, hj⟩⟩
  · exact ⟨_, List.mem_of_getElem? (i := 2) rfl, (mem_blk k _ e5 h5 y).mpr ⟨hy, hj⟩⟩
  · exact ⟨_, List.mem_of_getElem? (i := 1) rfl, (mem_blk k _ e6 h6 y).mpr ⟨hy, hj⟩⟩
  · exact ⟨_, List.mem_of_getElem? (i := 0) rfl, (mem_blk k _ e7 h7 y).mpr ⟨hy, hj⟩⟩

/-- A store of the list before is in the list after. -/
theorem grp_tail (L : List (View.Piece (Elt Ideal) S128x16384 .f32)) (y : S128x16384.Idx) (h : ∃ p ∈ L, y ∈ p.1.set) :
    ∃ p ∈ grp (h0 := h0) (h1 := h1) (h2 := h2) (h3 := h3) (h4 := h4) (h5 := h5) (h6 := h6) (h7 := h7) (s0 := s0) (s1 := s1) (s2 := s2) (s3 := s3) (s4 := s4) (s5 := s5) (s6 := s6) (s7 := s7) v0 v1 v2 v3 v4 v5 v6 v7 L, y ∈ p.1.set := by
  obtain ⟨p, hp, hy⟩ := h
  exact ⟨p, List.mem_append_right (grp (h0 := h0) (h1 := h1) (h2 := h2) (h3 := h3) (h4 := h4) (h5 := h5) (h6 := h6) (h7 := h7) (s0 := s0) (s1 := s1) (s2 := s2) (s3 := s3) (s4 := s4) (s5 := s5) (s6 := s6) (s7 := s7) v0 v1 v2 v3 v4 v5 v6 v7 []) hp, hy⟩

/-- A group's stores stay in the block's rows. -/
theorem grp_out (c σ : ℕ)
    (e0 : ClosedOff.form o0 = ![8 * k, c + σ * 0])
    (e1 : ClosedOff.form o1 = ![8 * k, c + σ * 1])
    (e2 : ClosedOff.form o2 = ![8 * k, c + σ * 2])
    (e3 : ClosedOff.form o3 = ![8 * k, c + σ * 3])
    (e4 : ClosedOff.form o4 = ![8 * k, c + σ * 4])
    (e5 : ClosedOff.form o5 = ![8 * k, c + σ * 5])
    (e6 : ClosedOff.form o6 = ![8 * k, c + σ * 6])
    (e7 : ClosedOff.form o7 = ![8 * k, c + σ * 7])
    (L : List (View.Piece (Elt Ideal) S128x16384 .f32)) (hL : ∀ p ∈ L, ∀ y ∈ p.1.set, (y 0).val / 8 = k) :
    ∀ p ∈ grp (h0 := h0) (h1 := h1) (h2 := h2) (h3 := h3) (h4 := h4) (h5 := h5) (h6 := h6) (h7 := h7) (s0 := s0) (s1 := s1) (s2 := s2) (s3 := s3) (s4 := s4) (s5 := s5) (s6 := s6) (s7 := s7) v0 v1 v2 v3 v4 v5 v6 v7 L, ∀ y ∈ p.1.set, (y 0).val / 8 = k := by
  intro p hp y hy
  simp only [List.mem_cons] at hp
  rcases hp with rfl | rfl | rfl | rfl | rfl | rfl | rfl | rfl | hp
  · exact ((mem_blk k _ e7 h7 y).mp hy).1
  · exact ((mem_blk k _ e6 h6 y).mp hy).1
  · exact ((mem_blk k _ e5 h5 y).mp hy).1
  · exact ((mem_blk k _ e4 h4 y).mp hy).1
  · exact ((mem_blk k _ e3 h3 y).mp hy).1
  · exact ((mem_blk k _ e2 h2 y).mp hy).1
  · exact ((mem_blk k _ e1 h1 y).mp hy).1
  · exact ((mem_blk k _ e0 h0 y).mp hy).1
  · exact hL p hp y hy

/-- One group of stage one. -/
theorem group1 (v : View sig .tc .vmem S128x16384 .f32) (f : v.ty.Contents (Elt Ideal)) (hk : k < 16) (hn : n < 16)
    (e0 : ClosedOff.form o0 = ![8 * k, (n / 2 * 2048 + n % 2 * 128) + 256 * 0])
    (e1 : ClosedOff.form o1 = ![8 * k, (n / 2 * 2048 + n % 2 * 128) + 256 * 1])
    (e2 : ClosedOff.form o2 = ![8 * k, (n / 2 * 2048 + n % 2 * 128) + 256 * 2])
    (e3 : ClosedOff.form o3 = ![8 * k, (n / 2 * 2048 + n % 2 * 128) + 256 * 3])
    (e4 : ClosedOff.form o4 = ![8 * k, (n / 2 * 2048 + n % 2 * 128) + 256 * 4])
    (e5 : ClosedOff.form o5 = ![8 * k, (n / 2 * 2048 + n % 2 * 128) + 256 * 5])
    (e6 : ClosedOff.form o6 = ![8 * k, (n / 2 * 2048 + n % 2 * 128) + 256 * 6])
    (e7 : ClosedOff.form o7 = ![8 * k, (n / 2 * 2048 + n % 2 * 128) + 256 * 7])
    (hv0 : v0 = View.readAt (Elt Ideal) v (Rect.unit (s := S128x16384) o0 S8x128.size h0).toLoadRect f)
    (hv1 : v1 = View.readAt (Elt Ideal) v (Rect.unit (s := S128x16384) o1 S8x128.size h1).toLoadRect f)
    (hv2 : v2 = View.readAt (Elt Ideal) v (Rect.unit (s := S128x16384) o2 S8x128.size h2).toLoadRect f)
    (hv3 : v3 = View.readAt (Elt Ideal) v (Rect.unit (s := S128x16384) o3 S8x128.size h3).toLoadRect f)
    (hv4 : v4 = View.readAt (Elt Ideal) v (Rect.unit (s := S128x16384) o4 S8x128.size h4).toLoadRect f)
    (hv5 : v5 = View.readAt (Elt Ideal) v (Rect.unit (s := S128x16384) o5 S8x128.size h5).toLoadRect f)
    (hv6 : v6 = View.readAt (Elt Ideal) v (Rect.unit (s := S128x16384) o6 S8x128.size h6).toLoadRect f)
    (hv7 : v7 = View.readAt (Elt Ideal) v (Rect.unit (s := S128x16384) o7 S8x128.size h7).toLoadRect f)
    (L : List (View.Piece (Elt Ideal) S128x16384 .f32)) (hL : H1 k (v.read (Elt Ideal) f) n L) :
    H1 k (v.read (Elt Ideal) f) (n + 1) (grp (h0 := h0) (h1 := h1) (h2 := h2) (h3 := h3) (h4 := h4) (h5 := h5) (h6 := h6) (h7 := h7) (s0 := s0) (s1 := s1) (s2 := s2) (s3 := s3) (s4 := s4) (s5 := s5) (s6 := s6) (s7 := s7) v0 v1 v2 v3 v4 v5 v6 v7 L) := by
  refine ⟨grp_out k v0 v1 v2 v3 v4 v5 v6 v7 _ _ e0 e1 e2 e3 e4 e5 e6 e7 L hL.1, fun y hy hg => ?_⟩
  have hy1 := y1_lt y
  have key := grp_canon (h0 := h0) (h1 := h1) (h2 := h2) (h3 := h3) (h4 := h4) (h5 := h5) (h6 := h6) (h7 := h7) (s0 := s0) (s1 := s1) (s2 := s2) (s3 := s3) (s4 := s4) (s5 := s5) (s6 := s6) (s7 := s7)
    k v0 v1 v2 v3 v4 v5 v6 v7 256 (n / 2 * 2048 + n % 2 * 128) (by omega) (by omega) (by omega) (by omega) (v.read (Elt Ideal) f) e0 e1 e2 e3 e4 e5 e6 e7 ?_ L y
  · by_cases hlt : (y 1).val / 2048 * 2 + (y 1).val % 256 / 128 < n
    · obtain ⟨hc, hv⟩ := hL.2 y hy hlt
      refine ⟨grp_tail v0 v1 v2 v3 v4 v5 v6 v7 L y hc, (key.2 fun j hj => ?_).trans hv⟩
      have := j.isLt
      omega
    · have hj : (n / 2 * 2048 + n % 2 * 128) + 256 * ((y 1).val / 256 % 8) ≤ (y 1).val ∧ (y 1).val < (n / 2 * 2048 + n % 2 * 128) + 256 * ((y 1).val / 256 % 8) + 128 := by omega
      exact ⟨grp_mem k v0 v1 v2 v3 v4 v5 v6 v7 _ _ e0 e1 e2 e3 e4 e5 e6 e7 L y hy ⟨(y 1).val / 256 % 8, Nat.mod_lt _ (by decide)⟩ hj, key.1 hy ⟨⟨(y 1).val / 256 % 8, Nat.mod_lt _ (by decide)⟩, hj⟩⟩
  · intro x i y h0 h1
    subst hv0 hv1 hv2 hv3 hv4 hv5 hv6 hv7
    fin_cases i
    · exact congrArg (v.read (Elt Ideal) f) (idx_ext ((blk_idx k _ e0 _ x).1.trans h0.symm) ((blk_idx k _ e0 _ x).2.trans h1.symm))
    · exact congrArg (v.read (Elt Ideal) f) (idx_ext ((blk_idx k _ e1 _ x).1.trans h0.symm) ((blk_idx k _ e1 _ x).2.trans h1.symm))
    · exact congrArg (v.read (Elt Ideal) f) (idx_ext ((blk_idx k _ e2 _ x).1.trans h0.symm) ((blk_idx k _ e2 _ x).2.trans h1.symm))
    · exact congrArg (v.read (Elt Ideal) f) (idx_ext ((blk_idx k _ e3 _ x).1.trans h0.symm) ((blk_idx k _ e3 _ x).2.trans h1.symm))
    · exact congrArg (v.read (Elt Ideal) f) (idx_ext ((blk_idx k _ e4 _ x).1.trans h0.symm) ((blk_idx k _ e4 _ x).2.trans h1.symm))
    · exact congrArg (v.read (Elt Ideal) f) (idx_ext ((blk_idx k _ e5 _ x).1.trans h0.symm) ((blk_idx k _ e5 _ x).2.trans h1.symm))
    · exact congrArg (v.read (Elt Ideal) f) (idx_ext ((blk_idx k _ e6 _ x).1.trans h0.symm) ((blk_idx k _ e6 _ x).2.trans h1.symm))
    · exact congrArg (v.read (Elt Ideal) f) (idx_ext ((blk_idx k _ e7 _ x).1.trans h0.symm) ((blk_idx k _ e7 _ x).2.trans h1.symm))

/-- One group of stage two, with its maxima. -/
theorem group2 (v : View sig .tc .vmem S128x16384 .f32) (hk : k < 16) (hn : n < 16) (U : S128x16384.Idx → Ideal .f32)
    (e0 : ClosedOff.form o0 = ![8 * k, 128 * n + 2048 * 0])
    (e1 : ClosedOff.form o1 = ![8 * k, 128 * n + 2048 * 1])
    (e2 : ClosedOff.form o2 = ![8 * k, 128 * n + 2048 * 2])
    (e3 : ClosedOff.form o3 = ![8 * k, 128 * n + 2048 * 3])
    (e4 : ClosedOff.form o4 = ![8 * k, 128 * n + 2048 * 4])
    (e5 : ClosedOff.form o5 = ![8 * k, 128 * n + 2048 * 5])
    (e6 : ClosedOff.form o6 = ![8 * k, 128 * n + 2048 * 6])
    (e7 : ClosedOff.form o7 = ![8 * k, 128 * n + 2048 * 7])
    (A : FVec Ideal S8x128 .f32) (L : List (View.Piece (Elt Ideal) S128x16384 .f32))
    (hv0 : v0 = v.readCov (Val := Elt Ideal) L (Rect.unit (s := S128x16384) o0 S8x128.size h0).toLoadRect)
    (hv1 : v1 = v.readCov (Val := Elt Ideal) L (Rect.unit (s := S128x16384) o1 S8x128.size h1).toLoadRect)
    (hv2 : v2 = v.readCov (Val := Elt Ideal) L (Rect.unit (s := S128x16384) o2 S8x128.size h2).toLoadRect)
    (hv3 : v3 = v.readCov (Val := Elt Ideal) L (Rect.unit (s := S128x16384) o3 S8x128.size h3).toLoadRect)
    (hv4 : v4 = v.readCov (Val := Elt Ideal) L (Rect.unit (s := S128x16384) o4 S8x128.size h4).toLoadRect)
    (hv5 : v5 = v.readCov (Val := Elt Ideal) L (Rect.unit (s := S128x16384) o5 S8x128.size h5).toLoadRect)
    (hv6 : v6 = v.readCov (Val := Elt Ideal) L (Rect.unit (s := S128x16384) o6 S8x128.size h6).toLoadRect)
    (hv7 : v7 = v.readCov (Val := Elt Ideal) L (Rect.unit (s := S128x16384) o7 S8x128.size h7).toLoadRect)
    (hL : H2 k U n L ∧ AM k U n A) :
    H2 k U (n + 1) (grp (h0 := h0) (h1 := h1) (h2 := h2) (h3 := h3) (h4 := h4) (h5 := h5) (h6 := h6) (h7 := h7) (s0 := s0) (s1 := s1) (s2 := s2) (s3 := s3) (s4 := s4) (s5 := s5) (s6 := s6) (s7 := s7) v0 v1 v2 v3 v4 v5 v6 v7 L) ∧ AM k U (n + 1) (maximumf (maximumf (maximumf (maximumf (maximumf (maximumf (maximumf (maximumf A (absf (bo0 addf v0 v1 v2 v3 v4 v5 v6 v7))) (absf (bo1 addf subf v0 v1 v2 v3 v4 v5 v6 v7))) (absf (bo2 addf subf v0 v1 v2 v3 v4 v5 v6 v7))) (absf (bo3 addf subf v0 v1 v2 v3 v4 v5 v6 v7))) (absf (bo4 addf subf v0 v1 v2 v3 v4 v5 v6 v7))) (absf (bo5 addf subf v0 v1 v2 v3 v4 v5 v6 v7))) (absf (bo6 addf subf v0 v1 v2 v3 v4 v5 v6 v7))) (absf (bo7 subf v0 v1 v2 v3 v4 v5 v6 v7))) := by
  obtain ⟨hL, hA⟩ := hL
  have hv : ∀ x i y, (y 0).val = 8 * k + (x 0).val → (y 1).val = 128 * n + 2048 * i.val + (x 1).val → ![v0 x, v1 x, v2 x, v3 x, v4 x, v5 x, v6 x, v7 x] i = U y := by
    intro x i y h0 h1
    have hx0 := x0_lt x
    have hx1 := x1_lt x
    have hi := i.isLt
    have hU : View.canon (Val := Elt Ideal) (e := .f32) L y = U y := by
      rw [(hL.2 y (by omega)).2, if_neg (by omega)]
    rw [← hU]
    subst hv0 hv1 hv2 hv3 hv4 hv5 hv6 hv7
    simp only [View.readCov_eq_canon']
    fin_cases i
    · exact congrArg (View.canon (Val := Elt Ideal) (e := .f32) L) (idx_ext ((blk_idx k _ e0 _ x).1.trans h0.symm) ((blk_idx k _ e0 _ x).2.trans h1.symm))
    · exact congrArg (View.canon (Val := Elt Ideal) (e := .f32) L) (idx_ext ((blk_idx k _ e1 _ x).1.trans h0.symm) ((blk_idx k _ e1 _ x).2.trans h1.symm))
    · exact congrArg (View.canon (Val := Elt Ideal) (e := .f32) L) (idx_ext ((blk_idx k _ e2 _ x).1.trans h0.symm) ((blk_idx k _ e2 _ x).2.trans h1.symm))
    · exact congrArg (View.canon (Val := Elt Ideal) (e := .f32) L) (idx_ext ((blk_idx k _ e3 _ x).1.trans h0.symm) ((blk_idx k _ e3 _ x).2.trans h1.symm))
    · exact congrArg (View.canon (Val := Elt Ideal) (e := .f32) L) (idx_ext ((blk_idx k _ e4 _ x).1.trans h0.symm) ((blk_idx k _ e4 _ x).2.trans h1.symm))
    · exact congrArg (View.canon (Val := Elt Ideal) (e := .f32) L) (idx_ext ((blk_idx k _ e5 _ x).1.trans h0.symm) ((blk_idx k _ e5 _ x).2.trans h1.symm))
    · exact congrArg (View.canon (Val := Elt Ideal) (e := .f32) L) (idx_ext ((blk_idx k _ e6 _ x).1.trans h0.symm) ((blk_idx k _ e6 _ x).2.trans h1.symm))
    · exact congrArg (View.canon (Val := Elt Ideal) (e := .f32) L) (idx_ext ((blk_idx k _ e7 _ x).1.trans h0.symm) ((blk_idx k _ e7 _ x).2.trans h1.symm))
  refine ⟨⟨grp_out k v0 v1 v2 v3 v4 v5 v6 v7 _ _ e0 e1 e2 e3 e4 e5 e6 e7 L hL.1, fun y hy => ?_⟩, amax_group k n hk hn U A v0 v1 v2 v3 v4 v5 v6 v7 hv hA⟩
  have hy1 := y1_lt y
  have key := grp_canon (h0 := h0) (h1 := h1) (h2 := h2) (h3 := h3) (h4 := h4) (h5 := h5) (h6 := h6) (h7 := h7) (s0 := s0) (s1 := s1) (s2 := s2) (s3 := s3) (s4 := s4) (s5 := s5) (s6 := s6) (s7 := s7)
    k v0 v1 v2 v3 v4 v5 v6 v7 2048 (128 * n) (by omega) (by omega) (by omega) (by omega) U e0 e1 e2 e3 e4 e5 e6 e7 hv L y
  refine ⟨grp_tail v0 v1 v2 v3 v4 v5 v6 v7 L y (hL.2 y hy).1, ?_⟩
  by_cases hg : (y 1).val % 2048 / 128 = n
  · have hj : 128 * n + 2048 * ((y 1).val / 2048) ≤ (y 1).val ∧ (y 1).val < 128 * n + 2048 * ((y 1).val / 2048) + 128 := by omega
    rw [key.1 hy ⟨⟨(y 1).val / 2048, by omega⟩, hj⟩, if_pos (by omega)]
  · rw [key.2 (fun j hj => by have := j.isLt; omega), (hL.2 y hy).2]
    by_cases hlt : (y 1).val % 2048 / 128 < n
    · rw [if_pos hlt, if_pos (by omega)]
    · rw [if_neg hlt, if_neg (by omega)]

end groups

/-- A block of rows' scales from the lanes' maxima and the rows' factors. -/
def rowTail (M : FVec Ideal S8x128 .f32) (r : Vec Ideal S8x1 .f32) : FVec Ideal S8x1 .f32 :=
  have a := mulf (shapeCast S8x1 (multiReduction .maximumf [1] S8 M 0xFF800000#32 reduces_S8x128_S8 (.inl rfl) rfl) shapeCasts_S8_S8x1) r
  select (cmpf .oeq a (broadcast S8x1 (Scalar.ofBits .f32 0x00000000#32 : Ideal .f32))) (broadcast S8x1 (Scalar.ofBits .f32 0x3F800000#32 : Ideal .f32))
    (divf a (broadcast S8x1 (Scalar.ofBits .f32 0x40E00000#32 : Ideal .f32)))

set_option maxHeartbeats 4000000 in
/-- What one trip of the row loop stores: the rows' block after the two stages, and the scales from the maxima. -/
theorem row_trip (c : Dev nD) (i : grid1.Coords) (arg1 : Memref sig .tc .vmem S128x16384 .bf16) (harg1 : arg1.IsWhole) (arg2 : Memref sig .tc .vmem S64x768x256 .bf16) (harg2 : arg2.IsWhole) (arg3 : Memref sig .tc .vmem S128x16384 .i8) (harg3 : arg3.IsWhole) (arg4 : Memref sig .tc .vmem S128x1 .f32) (harg4 : arg4.IsWhole) (arg5 : Memref sig .tc .vmem S128x16384 .f32) (harg5 : arg5.IsWhole) (arg6 : Memref sig .tc .vmem S128x128 .f32) (harg6 : arg6.IsWhole) (X6 : BufTy.Contents (Elt Ideal) arg6.view.ty) (k : Fin k1_t3_loop.trips) (f : BufTy.Contents (Elt Ideal) arg5.view.ty) :
    ∃ M : FVec Ideal S8x128 .f32,
      (rowTrip (F := Ideal) Variants.none c none i arg1 harg1 arg2 harg2 arg3 harg3 arg4 harg4 arg5 harg5 arg6 harg6 X6 k f).1 = [⟨Rect.unit (s := S128x1) (k1_off261 k) S8x1.size (k1_off261_inb k),
        rowTail M (View.readAt (Elt Ideal) arg6.view (Rect.unit (s := S128x128) (k1_off260 k) S8x1.size (k1_off260_inb k)).toLoadRect X6)⟩]
      ∧ H2 k.val (stage 256 (arg5.view.read (Elt Ideal) f)) 16 (rowTrip (F := Ideal) Variants.none c none i arg1 harg1 arg2 harg2 arg3 harg3 arg4 harg4 arg5 harg5 arg6 harg6 X6 k f).2
      ∧ AM k.val (stage 256 (arg5.view.read (Elt Ideal) f)) 16 M := by
  have hk : k.val < 16 := k.isLt
  unfold rowTrip tripL_k1_t3 trip_k1_t3
  dsimp only
  refine ⟨_, rfl, ?_⟩
  iterate 16 refine group2 k.val _ _ _ _ _ _ _ _ _ arg5.view hk (by decide) _ (by rfl) (by rfl) (by rfl) (by rfl) (by rfl) (by rfl) (by rfl) (by rfl) _ _ (by rfl) (by rfl) (by rfl) (by rfl) (by rfl) (by rfl) (by rfl) (by rfl) ?_
  refine ⟨H2_zero _ _ _ ?_, AM_zero _ _⟩
  unfold trip_k1_t3.sl.HW_arg5_128
  iterate 16 refine group1 k.val _ _ _ _ _ _ _ _ _ arg5.view f hk (by decide) (by rfl) (by rfl) (by rfl) (by rfl) (by rfl) (by rfl) (by rfl) (by rfl) (by rfl) (by rfl) (by rfl) (by rfl) (by rfl) (by rfl) (by rfl) (by rfl) _ ?_
  exact H1_nil _ _

end Cert.CodesIdeal.Hand
-- ==== Proof.TransformFactors.lean ====
/- The row factors of a block of the transform, over the reals: the first loop sums a row's squares 128 columns at a time
   and takes the reciprocal root of their mean. -/
module

public import proofs.«01_k».proof.Proof.TransformRun
public import Idealize.ShloMosaic.Lib.Pointwise

@[expose] public section

set_option maxRecDepth 16384

noncomputable section

namespace Cert.CodesIdeal.Hand

open Cert.CodesIdeal Cert.CodesIdeal.Gen Idealize.ShloMosaic Idealize.ShloMosaic.TcCoe Idealize.ShloMosaic.Tactic

/-- An entry of the block by its row and column numbers. -/
def entry (x : Vec Ideal S128x16384 .bf16) (r d : ℕ) : EReal := x (ix2 (⟨r % 128, Nat.mod_lt _ (by decide)⟩ : Fin 128) (⟨d % 16384, Nat.mod_lt _ (by decide)⟩ : Fin 16384))

theorem entry_eq (x : Vec Ideal S128x16384 .bf16) (y : S128x16384.Idx) (r d : ℕ) (hr : (y 0).val = r) (hd : (y 1).val = d) : (x y : EReal) = entry x r d := by
  subst hr hd
  refine congrArg x ?_
  funext a
  match a with
  | ⟨0, _⟩ => exact Fin.ext (Nat.mod_eq_of_lt (y 0).isLt).symm
  | ⟨1, _⟩ => exact Fin.ext (Nat.mod_eq_of_lt (y 1).isLt).symm

/-- A row's sum of squares. -/
def sumsq (x : Vec Ideal S128x16384 .bf16) (r : Fin 128) : EReal := ∑ d : Fin 16384, (x (ix2 r d) : EReal) * x (ix2 r d)

/-- A row's factor from its sum of squares: the reciprocal root of the mean (plus a small constant), times the transform's scale. -/
def fac (ss : Ideal .f32) : Ideal .f32 :=
  FloatOps.mulf (FloatOps.rsqrt (FloatOps.addf (FloatOps.mulf ss (Scalar.ofBits .f32 0x38800000#32)) (Scalar.ofBits .f32 0x3727C5AC#32))) (Scalar.ofBits .f32 0x3C000000#32)

/-- `A` holds, for the sixteen rows of trip `k`, the squares' sums over the first `n` chunks of 128 columns. -/
def Acc (x : Vec Ideal S128x16384 .bf16) (k n : ℕ) (A : FVec Ideal S16x128 .f32) : Prop :=
  ∀ p : S16x128.Idx, (A p : EReal) = ∑ j ∈ Finset.range n, entry x (16 * k + (p 0).val) (128 * j + (p 1).val) * entry x (16 * k + (p 0).val) (128 * j + (p 1).val)

theorem acc_zero (x : Vec Ideal S128x16384 .bf16) (k : ℕ) : Acc x k 0 (broadcast S16x128 (Scalar.ofBits .f32 0x00000000#32 : Ideal .f32)) := by
  intro p
  show (Scalar.ofBits .f32 0x00000000#32 : Ideal .f32) = _
  rw [Finset.range_zero, Finset.sum_empty]
  simp [pointwise]

/-- One more chunk. -/
theorem acc_step (x : Vec Ideal S128x16384 .bf16) (arg1 : Memref sig .tc .vmem S128x16384 .bf16) (harg1 : arg1.IsWhole) (k n : ℕ) {o : Fin 2 → ℕ} [ClosedOff o]
    (e : ClosedOff.form o = ![16 * k, 128 * n]) (h : ∀ a, o a + S16x128.size a ≤ S128x16384.size a) (A : FVec Ideal S16x128 .f32) (hA : Acc x k n A) :
    Acc x k (n + 1) (addf A (mulf (extf .f32 (View.readAt (Elt Ideal) arg1.view (Rect.unit (s := S128x16384) o S16x128.size h).toLoadRect (harg1.unread x) : FVec Ideal S16x128 .bf16) bitsLt_bf16_f32)
      (extf .f32 (View.readAt (Elt Ideal) arg1.view (Rect.unit (s := S128x16384) o S16x128.size h).toLoadRect (harg1.unread x) : FVec Ideal S16x128 .bf16) bitsLt_bf16_f32))) := by
  intro p
  have ho : o = ![16 * k, 128 * n] := ClosedOff.eq.trans e
  rw [Finset.sum_range_succ, ← hA p]
  subst ho
  have hx : (View.readAt (Elt Ideal) arg1.view (Rect.unit (s := S128x16384) ![16 * k, 128 * n] S16x128.size h).toLoadRect (harg1.unread x) p : EReal)
      = entry x (16 * k + (p 0).val) (128 * n + (p 1).val) := by
    rw [View.readAt_eq_ld, harg1.read_unread]
    refine entry_eq x _ _ _ ?_ ?_
    · show 16 * k + 1 * (p 0).val = _
      omega
    · show 128 * n + 1 * (p 1).val = _
      omega
  exact congrArg (fun v : EReal => (A p : EReal) + v * v) hx

/-- A row's sum over all its columns, chunk by chunk and lane by lane. -/
theorem sum_chunks (g : ℕ → EReal) : ∑ l : Fin 128, ∑ j ∈ Finset.range 128, g (128 * j + l.val) = ∑ d : Fin 16384, g d.val := by
  rw [Finset.sum_congr rfl (fun (l : Fin 128) _ => (Finset.sum_range (fun j => g (128 * j + l.val)))), Finset.sum_comm,
    ← Fintype.sum_prod_type' (f := fun (j : Fin 128) (l : Fin 128) => g (128 * j.val + l.val))]
  refine Fintype.sum_equiv (finProdFinEquiv (m := 128) (n := 128)) _ _ fun p => ?_
  exact congrArg g (by show 128 * p.1.val + p.2.val = p.2.val + 128 * p.1.val; omega)

/-- The factors' block of sixteen rows from the sums. -/
theorem fac_block (x : Vec Ideal S128x16384 .bf16) (k : ℕ) (hk : k < 8) (A : FVec Ideal S16x128 .f32) (hA : Acc x k 128 A) (p : S16x128.Idx) :
    (shapeCast S16x128 (broadcastTo S16x128 (shapeCast S16x1 (mulf (rsqrt (addf (mulf (shapeCast S16x1
        (multiReduction .add [1] S16 A 0x00000000#32 reduces_S16x128_S16 (.inl rfl) rfl) shapeCasts_S16_S16x1)
        (broadcast S16x1 (Scalar.ofBits .f32 0x38800000#32 : Ideal .f32))) (broadcast S16x1 (Scalar.ofBits .f32 0x3727C5AC#32 : Ideal .f32))))
        (broadcast S16x1 (Scalar.ofBits .f32 0x3C000000#32 : Ideal .f32))) shapeCasts_S16x1_S16x1) broadcasts_S16x1_S16x128) shapeCasts_S16x128_S16x128) p
      = fac (sumsq x ⟨16 * k + (p 0).val, by have : (p 0).val < 16 := (p 0).isLt; omega⟩) := by
  have hp0 : (p 0).val < 16 := (p 0).isLt
  have hs : (multiReduction .add [1] S16 A 0x00000000#32 reduces_S16x128_S16 (.inl rfl) rfl (ix1 (p 0)) : EReal)
      = sumsq x ⟨16 * k + (p 0).val, by omega⟩ := by
    simp only [pointwise]
    unfold sumsq
    rw [← Finset.sum_congr rfl (fun (d : Fin 16384) _ => by
      show _ = _
      rw [entry_eq x (ix2 _ d) (16 * k + (p 0).val) d.val rfl rfl]), ← sum_chunks (fun d => entry x (16 * k + (p 0).val) d * entry x (16 * k + (p 0).val) d)]
    first
    | exact Finset.sum_congr rfl fun l _ => hA (ix2 (p 0) l)
    | (rw [zero_add]; exact Finset.sum_congr rfl fun l _ => hA (ix2 (p 0) l))
  rw [← hs]
  unfold fac
  simp only [pointwise]
  rfl

/-- The stores of a trip of the first loop are blocks of the factors. -/
theorem fac_trip (c : Dev nD) (i : grid1.Coords) (arg1 : Memref sig .tc .vmem S128x16384 .bf16) (harg1 : arg1.IsWhole) (arg2 : Memref sig .tc .vmem S64x768x256 .bf16) (harg2 : arg2.IsWhole) (arg3 : Memref sig .tc .vmem S128x16384 .i8) (harg3 : arg3.IsWhole) (arg4 : Memref sig .tc .vmem S128x1 .f32) (harg4 : arg4.IsWhole) (arg5 : Memref sig .tc .vmem S128x16384 .f32) (harg5 : arg5.IsWhole) (arg6 : Memref sig .tc .vmem S128x128 .f32) (harg6 : arg6.IsWhole) (x0 : Vec Ideal S128x16384 .bf16) (k : Fin k1_t1_loop.trips) :
    View.PiecesOf (fun y : S128x128.Idx => fac (sumsq x0 (y 0))) (tripL_k1_t1 (F := Ideal) Variants.none c none i arg1 harg1 arg2 harg2 arg3 harg3 arg4 harg4 arg5 harg5 arg6 harg6 (harg1.unread x0) k) := by
  have hk : k.val < 8 := k.isLt
  unfold tripL_k1_t1 trip_k1_t1
  dsimp only
  refine ⟨fun p => ?_, trivial⟩
  refine (fac_block x0 k.val hk _ ?_ p).trans ?_
  · iterate 128 refine acc_step x0 arg1 harg1 k.val _ (by rfl) _ _ ?_
    exact acc_zero x0 k.val
  · refine congrArg (fun r => fac (sumsq x0 r)) (Fin.ext ?_)
    show 16 * k.val + (p 0).val = _
    have ho : k1_off129 k 0 = 16 * k.val := congrFun (k1_off129_eq k) 0
    refine Eq.trans ?_ (congrArg (fun t => t + 1 * (p 0).val) ho.symm)
    show _ = 16 * k.val + 1 * (p 0).val
    omega

/-- All stores of the first loop are blocks of the factors. -/
theorem fac_pieces (c : Dev nD) (i : grid1.Coords) (arg1 : Memref sig .tc .vmem S128x16384 .bf16) (harg1 : arg1.IsWhole) (arg2 : Memref sig .tc .vmem S64x768x256 .bf16) (harg2 : arg2.IsWhole) (arg3 : Memref sig .tc .vmem S128x16384 .i8) (harg3 : arg3.IsWhole) (arg4 : Memref sig .tc .vmem S128x1 .f32) (harg4 : arg4.IsWhole) (arg5 : Memref sig .tc .vmem S128x16384 .f32) (harg5 : arg5.IsWhole) (arg6 : Memref sig .tc .vmem S128x128 .f32) (harg6 : arg6.IsWhole) (x0 : Vec Ideal S128x16384 .bf16) (n : ℕ) : ∀ p ∈ pb_k1_t1 (F := Ideal) Variants.none c none i arg1 harg1 arg2 harg2 arg3 harg3 arg4 harg4 arg5 harg5 arg6 harg6 (harg1.unread x0) n, ∀ x : p.1.shape.Idx, p.2 x = (fun y : S128x128.Idx => fac (sumsq x0 (y 0))) (p.1.emb x) := by
  induction n with
  | zero => intro p hp; simp [pb_k1_t1] at hp
  | succ n ih =>
    rw [pb_k1_t1.eq_2]
    unfold pb_k1_t1Step
    split
    · rename_i h
      intro p hp
      rcases List.mem_append.mp hp with hp | hp
      · exact View.PiecesOf.mem (fac_trip c i arg1 harg1 arg2 harg2 arg3 harg3 arg4 harg4 arg5 harg5 arg6 harg6 x0 ⟨n, h⟩) p hp
      · exact ih p hp
    · exact ih

/-- The buffer after the loop. -/
theorem fac_canon (c : Dev nD) (i : grid1.Coords) (arg1 : Memref sig .tc .vmem S128x16384 .bf16) (harg1 : arg1.IsWhole) (arg2 : Memref sig .tc .vmem S64x768x256 .bf16) (harg2 : arg2.IsWhole) (arg3 : Memref sig .tc .vmem S128x16384 .i8) (harg3 : arg3.IsWhole) (arg4 : Memref sig .tc .vmem S128x1 .f32) (harg4 : arg4.IsWhole) (arg5 : Memref sig .tc .vmem S128x16384 .f32) (harg5 : arg5.IsWhole) (arg6 : Memref sig .tc .vmem S128x128 .f32) (harg6 : arg6.IsWhole) (x0 : Vec Ideal S128x16384 .bf16) (y : S128x128.Idx) :
    View.canon (facL (F := Ideal) c i arg1 harg1 arg2 harg2 arg3 harg3 arg4 harg4 arg5 harg5 arg6 harg6 x0) y = fac (sumsq x0 (y 0)) := by
  have h := fac_pieces c i arg1 harg1 arg2 harg2 arg3 harg3 arg4 harg4 arg5 harg5 arg6 harg6 x0 (Scf.trips k1_t1_loop.lb k1_t1_loop.ub k1_t1_loop.st)
  have hL := facL_cover c i arg1 harg1 arg2 harg2 arg3 harg3 arg4 harg4 arg5 harg5 arg6 harg6 x0 y
  unfold facL at hL ⊢
  exact View.canon_apply_of_pieces (fun y : S128x128.Idx => fac (sumsq x0 (y 0))) _ h y hL

end Cert.CodesIdeal.Hand
-- ==== Proof.TransformProducts.lean ====
/- The products of a block of the transform, over the reals: the second loop multiplies each 256 columns of the rows by their
   768 by 256 matrix, the columns taken three times. -/
module

public import proofs.«01_k».proof.Proof.TransformRun
public import Idealize.ShloMosaic.Lib.Pointwise

@[expose] public section

set_option maxRecDepth 16384

noncomputable section

namespace Cert.CodesIdeal.Hand

open Cert.CodesIdeal Cert.CodesIdeal.Gen Idealize.ShloMosaic Idealize.ShloMosaic.TcCoe Idealize.ShloMosaic.Tactic

/-- An entry of the products: column `l` of column block `c` sums, over the 768 rows of the block's matrix, the row's entry times the matrix's. -/
def prod (x : Vec Ideal S128x16384 .bf16) (g : Vec Ideal S64x768x256 .bf16) (y : S128x16384.Idx) : EReal :=
  ∑ q : Fin 768, (x (ix2 (y 0) (⟨(y 1).val / 256 * 256 + q.val % 256, by have : (y 1).val < 16384 := (y 1).isLt; omega⟩ : Fin 16384)) : EReal)
    * g (ix3 (⟨(y 1).val / 256, by have : (y 1).val < 16384 := (y 1).isLt; omega⟩ : Fin 64) q (⟨(y 1).val % 256, by omega⟩ : Fin 256))

/-- The product of one column block. -/
theorem prod_block (v7 : Vec Ideal S128x256 .bf16) (v10 : Vec Ideal S1x768x256 .bf16) (p : S128x256.Idx) :
    (k1_pay2 (F := Ideal) v7 v10 p : EReal) = ∑ q : Fin 768, (v7 (ix2 (p 0) (⟨q.val % 256, Nat.mod_lt _ (by decide)⟩ : Fin 256)) : EReal) * v10 (ix3 (0 : Fin 1) q (p 1)) := by
  unfold k1_pay2
  rw [shapeCast_self]
  have hc : ∀ q : Fin 768, concatenate S128x768 1 [⟨S128x256, v7⟩, ⟨S128x256, v7⟩, ⟨S128x256, v7⟩] concatenates_S128x256_S128x256_S128x256_S128x768_d1 (ix2 (p 0) q)
      = v7 (ix2 (p 0) (⟨q.val % 256, Nat.mod_lt _ (by decide)⟩ : Fin 256)) := fun q =>
    concatenate_replicate_apply (t := S128x768) 1 3 v7 _ rfl (ix2 (p 0) q) (ix2 (p 0) (⟨q.val % 256, Nat.mod_lt _ (by decide)⟩ : Fin 256)) rfl (fun b hb => by
      match b with
      | ⟨0, _⟩ => rfl
      | ⟨1, _⟩ => exact absurd rfl hb)
  generalize hC : concatenate S128x768 1 [⟨S128x256, v7⟩, ⟨S128x256, v7⟩, ⟨S128x256, v7⟩] concatenates_S128x256_S128x256_S128x256_S128x768_d1 = C at hc ⊢
  simp only [pointwise]
  rw [zero_add]
  exact Finset.sum_congr rfl fun q _ => congrArg (fun a : EReal => a * v10 (ix3 (0 : Fin 1) q (p 1))) (hc q)

/-- The stores of a trip of the second loop are blocks of the products. -/
theorem prod_trip (c : Dev nD) (i : grid1.Coords) (arg1 : Memref sig .tc .vmem S128x16384 .bf16) (harg1 : arg1.IsWhole) (arg2 : Memref sig .tc .vmem S64x768x256 .bf16) (harg2 : arg2.IsWhole) (arg3 : Memref sig .tc .vmem S128x16384 .i8) (harg3 : arg3.IsWhole) (arg4 : Memref sig .tc .vmem S128x1 .f32) (harg4 : arg4.IsWhole) (arg5 : Memref sig .tc .vmem S128x16384 .f32) (harg5 : arg5.IsWhole) (arg6 : Memref sig .tc .vmem S128x128 .f32) (harg6 : arg6.IsWhole) (x0 : Vec Ideal S128x16384 .bf16) (x1 : Vec Ideal S64x768x256 .bf16) (k : Fin k1_t2_loop.trips) :
    View.PiecesOf (prod x0 x1) (tripL_k1_t2 (F := Ideal) Variants.none c none i arg1 harg1 arg2 harg2 arg3 harg3 arg4 harg4 arg5 harg5 arg6 harg6 (harg1.unread x0) (harg2.unread x1) k) := by
  have hk : k.val < 64 := k.isLt
  unfold tripL_k1_t2 trip_k1_t2
  dsimp only
  refine ⟨fun p => ?_, trivial⟩
  have hp1 : (p 1).val < 256 := (p 1).isLt
  refine (prod_block _ _ p).trans ?_
  unfold prod
  have h0 : k1_off130 k 0 + 1 * (p 0).val = (p 0).val := by
    refine (congrArg (fun t => t + 1 * (p 0).val) (show _ = 0 from congrFun (k1_off130_eq k) 0)).trans ?_
    show 0 + 1 * (p 0).val = _
    omega
  have h1 : k1_off130 k 1 + 1 * (p 1).val = 256 * k.val + (p 1).val := by
    refine (congrArg (fun t => t + 1 * (p 1).val) (show _ = 256 * k.val from congrFun (k1_off130_eq k) 1)).trans ?_
    show 256 * k.val + 1 * (p 1).val = _
    omega
  refine Finset.sum_congr rfl fun q _ => congrArg₂ (fun a b : EReal => a * b) ?_ ?_
  · rw [View.readAt_eq_ld, harg1.read_unread]
    refine congrArg x0 ?_
    funext a
    match a with
    | ⟨0, _⟩ => rfl
    | ⟨1, _⟩ =>
      refine Fin.ext ?_
      show k1_off130 k 1 + 1 * (q.val % 256) = (k1_off130 k 1 + 1 * (p 1).val) / 256 * 256 + q.val % 256
      rw [h1]
      refine (congrArg (fun t => t + 1 * (q.val % 256)) (show _ = 256 * k.val from congrFun (k1_off130_eq k) 1)).trans ?_
      show 256 * k.val + 1 * (q.val % 256) = _
      omega
  · rw [View.readAt_eq_ld, harg2.read_unread]
    refine congrArg x1 ?_
    funext a
    match a with
    | ⟨0, _⟩ =>
      refine Fin.ext ?_
      show k1_off131 k 0 + 1 * 0 = (k1_off130 k 1 + 1 * (p 1).val) / 256
      rw [h1]
      refine (congrArg (fun t => t + 1 * 0) (show _ = k.val from congrFun (k1_off131_eq k) 0)).trans ?_
      show k.val + 1 * 0 = _
      omega
    | ⟨1, _⟩ =>
      refine Fin.ext ?_
      show k1_off131 k 1 + 1 * q.val = q.val
      refine (congrArg (fun t => t + 1 * q.val) (show _ = 0 from congrFun (k1_off131_eq k) 1)).trans ?_
      show 0 + 1 * q.val = _
      omega
    | ⟨2, _⟩ =>
      refine Fin.ext ?_
      show k1_off131 k 2 + 1 * (p 1).val = (k1_off130 k 1 + 1 * (p 1).val) % 256
      rw [h1]
      refine (congrArg (fun t => t + 1 * (p 1).val) (show _ = 0 from congrFun (k1_off131_eq k) 2)).trans ?_
      show 0 + 1 * (p 1).val = _
      omega

/-- All stores of the second loop are blocks of the products. -/
theorem prod_pieces (c : Dev nD) (i : grid1.Coords) (arg1 : Memref sig .tc .vmem S128x16384 .bf16) (harg1 : arg1.IsWhole) (arg2 : Memref sig .tc .vmem S64x768x256 .bf16) (harg2 : arg2.IsWhole) (arg3 : Memref sig .tc .vmem S128x16384 .i8) (harg3 : arg3.IsWhole) (arg4 : Memref sig .tc .vmem S128x1 .f32) (harg4 : arg4.IsWhole) (arg5 : Memref sig .tc .vmem S128x16384 .f32) (harg5 : arg5.IsWhole) (arg6 : Memref sig .tc .vmem S128x128 .f32) (harg6 : arg6.IsWhole) (x0 : Vec Ideal S128x16384 .bf16) (x1 : Vec Ideal S64x768x256 .bf16) (n : ℕ) : ∀ p ∈ pb_k1_t2 (F := Ideal) Variants.none c none i arg1 harg1 arg2 harg2 arg3 harg3 arg4 harg4 arg5 harg5 arg6 harg6 (harg1.unread x0) (harg2.unread x1) n, ∀ x : p.1.shape.Idx, p.2 x = (prod x0 x1) (p.1.emb x) := by
  induction n with
  | zero => intro p hp; simp [pb_k1_t2] at hp
  | succ n ih =>
    rw [pb_k1_t2.eq_2]
    unfold pb_k1_t2Step
    split
    · rename_i h
      intro p hp
      rcases List.mem_append.mp hp with hp | hp
      · exact View.PiecesOf.mem (prod_trip c i arg1 harg1 arg2 harg2 arg3 harg3 arg4 harg4 arg5 harg5 arg6 harg6 x0 x1 ⟨n, h⟩) p hp
      · exact ih p hp
    · exact ih

/-- The buffer after the loop. -/
theorem prod_canon (c : Dev nD) (i : grid1.Coords) (arg1 : Memref sig .tc .vmem S128x16384 .bf16) (harg1 : arg1.IsWhole) (arg2 : Memref sig .tc .vmem S64x768x256 .bf16) (harg2 : arg2.IsWhole) (arg3 : Memref sig .tc .vmem S128x16384 .i8) (harg3 : arg3.IsWhole) (arg4 : Memref sig .tc .vmem S128x1 .f32) (harg4 : arg4.IsWhole) (arg5 : Memref sig .tc .vmem S128x16384 .f32) (harg5 : arg5.IsWhole) (arg6 : Memref sig .tc .vmem S128x128 .f32) (harg6 : arg6.IsWhole) (x0 : Vec Ideal S128x16384 .bf16) (x1 : Vec Ideal S64x768x256 .bf16) (y : S128x16384.Idx) :
    View.canon (prodL (F := Ideal) c i arg1 harg1 arg2 harg2 arg3 harg3 arg4 harg4 arg5 harg5 arg6 harg6 x0 x1) y = prod x0 x1 y := by
  have h := prod_pieces c i arg1 harg1 arg2 harg2 arg3 harg3 arg4 harg4 arg5 harg5 arg6 harg6 x0 x1 (Scf.trips k1_t2_loop.lb k1_t2_loop.ub k1_t2_loop.st)
  have hL := prodL_cover c i arg1 harg1 arg2 harg2 arg3 harg3 arg4 harg4 arg5 harg5 arg6 harg6 x0 x1 y
  unfold prodL at hL ⊢
  exact View.canon_apply_of_pieces (prod x0 x1) _ h y hL

end Cert.CodesIdeal.Hand
-- ==== Proof.TransformCodes.lean ====
/- The codes of a block of the transform, over the reals: the last loop scales, rounds and clips every entry. -/
module

public import proofs.«01_k».proof.Proof.TransformRun
public import Idealize.ShloMosaic.Lib.Pointwise

@[expose] public section

set_option maxRecDepth 16384

noncomputable section

namespace Cert.CodesIdeal.Hand

open Cert.CodesIdeal Cert.CodesIdeal.Gen Idealize.ShloMosaic Idealize.ShloMosaic.TcCoe Idealize.ShloMosaic.Tactic

/-- The code of an entry: the entry times the row's factor, over the row's scale, rounded and clipped. -/
def code (z r s : Ideal .f32) : BitVec 8 :=
  FloatOps.fptosi 8 (FloatOps.minimumf (Scalar.ofBits .f32 0x40E00000#32) (FloatOps.maximumf (Scalar.ofBits .f32 0xC0E00000#32) (FloatOps.roundeven (FloatOps.divf (FloatOps.mulf z r) s))))

/-- The codes as a function of what the three buffers hold. -/
def codes (Z : S128x16384.Idx → Ideal .f32) (R : S128x128.Idx → Ideal .f32) (Sc : S128x1.Idx → Ideal .f32) (y : S128x16384.Idx) : Elt Ideal .i8 :=
  code (Z y) (R (ix2 (y 0) (⟨(y 1).val % 128, Nat.mod_lt _ (by decide)⟩ : Fin 128))) (Sc (ix2 (y 0) (0 : Fin 1)))

/-- One store of the codes. -/
theorem code_piece (arg4 : Memref sig .tc .vmem S128x1 .f32) (arg5 : Memref sig .tc .vmem S128x16384 .f32) (arg6 : Memref sig .tc .vmem S128x128 .f32)
    (X4 : BufTy.Contents (Elt Ideal) arg4.view.ty) (X5 : BufTy.Contents (Elt Ideal) arg5.view.ty) (X6 : BufTy.Contents (Elt Ideal) arg6.view.ty) (k : Fin k1_t4_loop.trips) (n : ℕ)
    {o : Fin 2 → ℕ} [ClosedOff o] (e : ClosedOff.form o = ![32 * k.val, 128 * n]) {h : ∀ a, o a + S32x128.size a ≤ S128x16384.size a} (w : IVec S32x128 8)
    (hw : w = fptosi 8 (minimumf (broadcast S32x128 (Scalar.ofBits .f32 0x40E00000#32 : Ideal .f32)) (maximumf (broadcast S32x128 (Scalar.ofBits .f32 0xC0E00000#32 : Ideal .f32))
      (roundeven (divf (mulf (View.readAt (Elt Ideal) arg5.view (Rect.unit (s := S128x16384) o S32x128.size h).toLoadRect X5 : FVec Ideal S32x128 .f32)
        (View.readAt (Elt Ideal) arg6.view (Rect.unit (s := S128x128) (k1_off262 k) S32x128.size (k1_off262_inb k)).toLoadRect X6 : FVec Ideal S32x128 .f32))
        (k1_pay1012 (F := Ideal) (View.readAt (Elt Ideal) arg4.view (Rect.unit (s := S128x1) (k1_off263 k) S32x1.size (k1_off263_inb k)).toLoadRect X4)))))))
    (p : S32x128.Idx) :
    w p = codes (arg5.view.read (Elt Ideal) X5) (arg6.view.read (Elt Ideal) X6) (arg4.view.read (Elt Ideal) X4) ((Rect.unit (s := S128x16384) o S32x128.size h).emb p) := by
  have hp0 : (p 0).val < 32 := (p 0).isLt
  have hp1 : (p 1).val < 128 := (p 1).isLt
  have ho : o = ![32 * k.val, 128 * n] := ClosedOff.eq.trans e
  subst ho
  subst hw
  have hR : View.readAt (Elt Ideal) arg6.view (Rect.unit (s := S128x128) (k1_off262 k) S32x128.size (k1_off262_inb k)).toLoadRect X6 p
      = arg6.view.read (Elt Ideal) X6 (ix2 ((Rect.unit (s := S128x16384) ![32 * k.val, 128 * n] S32x128.size h).emb p 0) (⟨((Rect.unit (s := S128x16384) ![32 * k.val, 128 * n] S32x128.size h).emb p 1).val % 128, Nat.mod_lt _ (by decide)⟩ : Fin 128)) := by
    refine congrArg (arg6.view.read (Elt Ideal) X6) ?_
    funext a
    match a with
    | ⟨0, _⟩ =>
      refine Fin.ext ?_
      exact congrArg (fun t => t + 1 * (p 0).val) (show _ = 32 * k.val from congrFun (k1_off262_eq k) 0)
    | ⟨1, _⟩ =>
      refine Fin.ext ?_
      refine (congrArg (fun t => t + 1 * (p 1).val) (show _ = 0 from congrFun (k1_off262_eq k) 1)).trans ?_
      show 0 + 1 * (p 1).val = (128 * n + 1 * (p 1).val) % 128
      omega
  have hS : k1_pay1012 (F := Ideal) (View.readAt (Elt Ideal) arg4.view (Rect.unit (s := S128x1) (k1_off263 k) S32x1.size (k1_off263_inb k)).toLoadRect X4) p
      = arg4.view.read (Elt Ideal) X4 (ix2 ((Rect.unit (s := S128x16384) ![32 * k.val, 128 * n] S32x128.size h).emb p 0) (0 : Fin 1)) := by
    unfold k1_pay1012
    rw [shapeCast_self, shapeCast_self]
    simp only [pointwise]
    refine congrArg (arg4.view.read (Elt Ideal) X4) ?_
    funext a
    match a with
    | ⟨0, _⟩ =>
      refine Fin.ext ?_
      exact congrArg (fun t => t + 1 * (p 0).val) (show _ = 32 * k.val from congrFun (k1_off263_eq k) 0)
    | ⟨1, _⟩ => exact Subsingleton.elim (α := Fin 1) _ _
  unfold codes
  rw [← hR, ← hS]
  rfl

set_option maxHeartbeats 4000000 in
/-- The stores of a trip of the last loop are blocks of the codes. -/
theorem code_trip (c : Dev nD) (i : grid1.Coords) (arg1 : Memref sig .tc .vmem S128x16384 .bf16) (harg1 : arg1.IsWhole) (arg2 : Memref sig .tc .vmem S64x768x256 .bf16) (harg2 : arg2.IsWhole) (arg3 : Memref sig .tc .vmem S128x16384 .i8) (harg3 : arg3.IsWhole) (arg4 : Memref sig .tc .vmem S128x1 .f32) (harg4 : arg4.IsWhole) (arg5 : Memref sig .tc .vmem S128x16384 .f32) (harg5 : arg5.IsWhole) (arg6 : Memref sig .tc .vmem S128x128 .f32) (harg6 : arg6.IsWhole) (X4 : BufTy.Contents (Elt Ideal) arg4.view.ty) (X5 : BufTy.Contents (Elt Ideal) arg5.view.ty) (X6 : BufTy.Contents (Elt Ideal) arg6.view.ty) (k : Fin k1_t4_loop.trips) :
    View.PiecesOf (codes (arg5.view.read (Elt Ideal) X5) (arg6.view.read (Elt Ideal) X6) (arg4.view.read (Elt Ideal) X4)) (tripL_k1_t4 (F := Ideal) Variants.none c none i arg1 harg1 arg2 harg2 arg3 harg3 arg4 harg4 arg5 harg5 arg6 harg6 X4 X5 X6 k) := by
  unfold tripL_k1_t4 trip_k1_t4
  dsimp only
  refine ⟨code_piece arg4 arg5 arg6 X4 X5 X6 k 127 (by rfl) _ (by rfl), ?_⟩
  refine ⟨code_piece arg4 arg5 arg6 X4 X5 X6 k 126 (by rfl) _ (by rfl), ?_⟩
  refine ⟨code_piece arg4 arg5 arg6 X4 X5 X6 k 125 (by rfl) _ (by rfl), ?_⟩
  refine ⟨code_piece arg4 arg5 arg6 X4 X5 X6 k 124 (by rfl) _ (by rfl), ?_⟩
  refine ⟨code_piece arg4 arg5 arg6 X4 X5 X6 k 123 (by rfl) _ (by rfl), ?_⟩
  refine ⟨code_piece arg4 arg5 arg6 X4 X5 X6 k 122 (by rfl) _ (by rfl), ?_⟩
  refine ⟨code_piece arg4 arg5 arg6 X4 X5 X6 k 121 (by rfl) _ (by rfl), ?_⟩
  refine ⟨code_piece arg4 arg5 arg6 X4 X5 X6 k 120 (by rfl) _ (by rfl), ?_⟩
  refine ⟨code_piece arg4 arg5 arg6 X4 X5 X6 k 119 (by rfl) _ (by rfl), ?_⟩
  refine ⟨code_piece arg4 arg5 arg6 X4 X5 X6 k 118 (by rfl) _ (by rfl), ?_⟩
  refine ⟨code_piece arg4 arg5 arg6 X4 X5 X6 k 117 (by rfl) _ (by rfl), ?_⟩
  refine ⟨code_piece arg4 arg5 arg6 X4 X5 X6 k 116 (by rfl) _ (by rfl), ?_⟩
  refine ⟨code_piece arg4 arg5 arg6 X4 X5 X6 k 115 (by rfl) _ (by rfl), ?_⟩
  refine ⟨code_piece arg4 arg5 arg6 X4 X5 X6 k 114 (by rfl) _ (by rfl), ?_⟩
  refine ⟨code_piece arg4 arg5 arg6 X4 X5 X6 k 113 (by rfl) _ (by rfl), ?_⟩
  refine ⟨code_piece arg4 arg5 arg6 X4 X5 X6 k 112 (by rfl) _ (by rfl), ?_⟩
  refine ⟨code_piece arg4 arg5 arg6 X4 X5 X6 k 111 (by rfl) _ (by rfl), ?_⟩
  refine ⟨code_piece arg4 arg5 arg6 X4 X5 X6 k 110 (by rfl) _ (by rfl), ?_⟩
  refine ⟨code_piece arg4 arg5 arg6 X4 X5 X6 k 109 (by rfl) _ (by rfl), ?_⟩
  refine ⟨code_piece arg4 arg5 arg6 X4 X5 X6 k 108 (by rfl) _ (by rfl), ?_⟩
  refine ⟨code_piece arg4 arg5 arg6 X4 X5 X6 k 107 (by rfl) _ (by rfl), ?_⟩
  refine ⟨code_piece arg4 arg5 arg6 X4 X5 X6 k 106 (by rfl) _ (by rfl), ?_⟩
  refine ⟨code_piece arg4 arg5 arg6 X4 X5 X6 k 105 (by rfl) _ (by rfl), ?_⟩
  refine ⟨code_piece arg4 arg5 arg6 X4 X5 X6 k 104 (by rfl) _ (by rfl), ?_⟩
  refine ⟨code_piece arg4 arg5 arg6 X4 X5 X6 k 103 (by rfl) _ (by rfl), ?_⟩
  refine ⟨code_piece arg4 arg5 arg6 X4 X5 X6 k 102 (by rfl) _ (by rfl), ?_⟩
  refine ⟨code_piece arg4 arg5 arg6 X4 X5 X6 k 101 (by rfl) _ (by rfl), ?_⟩
  refine ⟨code_piece arg4 arg5 arg6 X4 X5 X6 k 100 (by rfl) _ (by rfl), ?_⟩
  refine ⟨code_piece arg4 arg5 arg6 X4 X5 X6 k 99 (by rfl) _ (by rfl), ?_⟩
  refine ⟨code_piece arg4 arg5 arg6 X4 X5 X6 k 98 (by rfl) _ (by rfl), ?_⟩
  refine ⟨code_piece arg4 arg5 arg6 X4 X5 X6 k 97 (by rfl) _ (by rfl), ?_⟩
  refine ⟨code_piece arg4 arg5 arg6 X4 X5 X6 k 96 (by rfl) _ (by rfl), ?_⟩
  refine ⟨code_piece arg4 arg5 arg6 X4 X5 X6 k 95 (by rfl) _ (by rfl), ?_⟩
  refine ⟨code_piece arg4 arg5 arg6 X4 X5 X6 k 94 (by rfl) _ (by rfl), ?_⟩
  refine ⟨code_piece arg4 arg5 arg6 X4 X5 X6 k 93 (by rfl) _ (by rfl), ?_⟩
  refine ⟨code_piece arg4 arg5 arg6 X4 X5 X6 k 92 (by rfl) _ (by rfl), ?_⟩
  refine ⟨code_piece arg4 arg5 arg6 X4 X5 X6 k 91 (by rfl) _ (by rfl), ?_⟩
  refine ⟨code_piece arg4 arg5 arg6 X4 X5 X6 k 90 (by rfl) _ (by rfl), ?_⟩
  refine ⟨code_piece arg4 arg5 arg6 X4 X5 X6 k 89 (by rfl) _ (by rfl), ?_⟩
  refine ⟨code_piece arg4 arg5 arg6 X4 X5 X6 k 88 (by rfl) _ (by rfl), ?_⟩
  refine ⟨code_piece arg4 arg5 arg6 X4 X5 X6 k 87 (by rfl) _ (by rfl), ?_⟩
  refine ⟨code_piece arg4 arg5 arg6 X4 X5 X6 k 86 (by rfl) _ (by rfl), ?_⟩
  refine ⟨code_piece arg4 arg5 arg6 X4 X5 X6 k 85 (by rfl) _ (by rfl), ?_⟩
  refine ⟨code_piece arg4 arg5 arg6 X4 X5 X6 k 84 (by rfl) _ (by rfl), ?_⟩
  refine ⟨code_piece arg4 arg5 arg6 X4 X5 X6 k 83 (by rfl) _ (by rfl), ?_⟩
  refine ⟨code_piece arg4 arg5 arg6 X4 X5 X6 k 82 (by rfl) _ (by rfl), ?_⟩
  refine ⟨code_piece arg4 arg5 arg6 X4 X5 X6 k 81 (by rfl) _ (by rfl), ?_⟩
  refine ⟨code_piece arg4 arg5 arg6 X4 X5 X6 k 80 (by rfl) _ (by rfl), ?_⟩
  refine ⟨code_piece arg4 arg5 arg6 X4 X5 X6 k 79 (by rfl) _ (by rfl), ?_⟩
  refine ⟨code_piece arg4 arg5 arg6 X4 X5 X6 k 78 (by rfl) _ (by rfl), ?_⟩
  refine ⟨code_piece arg4 arg5 arg6 X4 X5 X6 k 77 (by rfl) _ (by rfl), ?_⟩
  refine ⟨code_piece arg4 arg5 arg6 X4 X5 X6 k 76 (by rfl) _ (by rfl), ?_⟩
  refine ⟨code_piece arg4 arg5 arg6 X4 X5 X6 k 75 (by rfl) _ (by rfl), ?_⟩
  refine ⟨code_piece arg4 arg5 arg6 X4 X5 X6 k 74 (by rfl) _ (by rfl), ?_⟩
  refine ⟨code_piece arg4 arg5 arg6 X4 X5 X6 k 73 (by rfl) _ (by rfl), ?_⟩
  refine ⟨code_piece arg4 arg5 arg6 X4 X5 X6 k 72 (by rfl) _ (by rfl), ?_⟩
  refine ⟨code_piece arg4 arg5 arg6 X4 X5 X6 k 71 (by rfl) _ (by rfl), ?_⟩
  refine ⟨code_piece arg4 arg5 arg6 X4 X5 X6 k 70 (by rfl) _ (by rfl), ?_⟩
  refine ⟨code_piece arg4 arg5 arg6 X4 X5 X6 k 69 (by rfl) _ (by rfl), ?_⟩
  refine ⟨code_piece arg4 arg5 arg6 X4 X5 X6 k 68 (by rfl) _ (by rfl), ?_⟩
  refine ⟨code_piece arg4 arg5 arg6 X4 X5 X6 k 67 (by rfl) _ (by rfl), ?_⟩
  refine ⟨code_piece arg4 arg5 arg6 X4 X5 X6 k 66 (by rfl) _ (by rfl), ?_⟩
  refine ⟨code_piece arg4 arg5 arg6 X4 X5 X6 k 65 (by rfl) _ (by rfl), ?_⟩
  refine ⟨code_piece arg4 arg5 arg6 X4 X5 X6 k 64 (by rfl) _ (by rfl), ?_⟩
  refine ⟨code_piece arg4 arg5 arg6 X4 X5 X6 k 63 (by rfl) _ (by rfl), ?_⟩
  refine ⟨code_piece arg4 arg5 arg6 X4 X5 X6 k 62 (by rfl) _ (by rfl), ?_⟩
  refine ⟨code_piece arg4 arg5 arg6 X4 X5 X6 k 61 (by rfl) _ (by rfl), ?_⟩
  refine ⟨code_piece arg4 arg5 arg6 X4 X5 X6 k 60 (by rfl) _ (by rfl), ?_⟩
  refine ⟨code_piece arg4 arg5 arg6 X4 X5 X6 k 59 (by rfl) _ (by rfl), ?_⟩
  refine ⟨code_piece arg4 arg5 arg6 X4 X5 X6 k 58 (by rfl) _ (by rfl), ?_⟩
  refine ⟨code_piece arg4 arg5 arg6 X4 X5 X6 k 57 (by rfl) _ (by rfl), ?_⟩
  refine ⟨code_piece arg4 arg5 arg6 X4 X5 X6 k 56 (by rfl) _ (by rfl), ?_⟩
  refine ⟨code_piece arg4 arg5 arg6 X4 X5 X6 k 55 (by rfl) _ (by rfl), ?_⟩
  refine ⟨code_piece arg4 arg5 arg6 X4 X5 X6 k 54 (by rfl) _ (by rfl), ?_⟩
  refine ⟨code_piece arg4 arg5 arg6 X4 X5 X6 k 53 (by rfl) _ (by rfl), ?_⟩
  refine ⟨code_piece arg4 arg5 arg6 X4 X5 X6 k 52 (by rfl) _ (by rfl), ?_⟩
  refine ⟨code_piece arg4 arg5 arg6 X4 X5 X6 k 51 (by rfl) _ (by rfl), ?_⟩
  refine ⟨code_piece arg4 arg5 arg6 X4 X5 X6 k 50 (by rfl) _ (by rfl), ?_⟩
  refine ⟨code_piece arg4 arg5 arg6 X4 X5 X6 k 49 (by rfl) _ (by rfl), ?_⟩
  refine ⟨code_piece arg4 arg5 arg6 X4 X5 X6 k 48 (by rfl) _ (by rfl), ?_⟩
  refine ⟨code_piece arg4 arg5 arg6 X4 X5 X6 k 47 (by rfl) _ (by rfl), ?_⟩
  refine ⟨code_piece arg4 arg5 arg6 X4 X5 X6 k 46 (by rfl) _ (by rfl), ?_⟩
  refine ⟨code_piece arg4 arg5 arg6 X4 X5 X6 k 45 (by rfl) _ (by rfl), ?_⟩
  refine ⟨code_piece arg4 arg5 arg6 X4 X5 X6 k 44 (by rfl) _ (by rfl), ?_⟩
  refine ⟨code_piece arg4 arg5 arg6 X4 X5 X6 k 43 (by rfl) _ (by rfl), ?_⟩
  refine ⟨code_piece arg4 arg5 arg6 X4 X5 X6 k 42 (by rfl) _ (by rfl), ?_⟩
  refine ⟨code_piece arg4 arg5 arg6 X4 X5 X6 k 41 (by rfl) _ (by rfl), ?_⟩
  refine ⟨code_piece arg4 arg5 arg6 X4 X5 X6 k 40 (by rfl) _ (by rfl), ?_⟩
  refine ⟨code_piece arg4 arg5 arg6 X4 X5 X6 k 39 (by rfl) _ (by rfl), ?_⟩
  refine ⟨code_piece arg4 arg5 arg6 X4 X5 X6 k 38 (by rfl) _ (by rfl), ?_⟩
  refine ⟨code_piece arg4 arg5 arg6 X4 X5 X6 k 37 (by rfl) _ (by rfl), ?_⟩
  refine ⟨code_piece arg4 arg5 arg6 X4 X5 X6 k 36 (by rfl) _ (by rfl), ?_⟩
  refine ⟨code_piece arg4 arg5 arg6 X4 X5 X6 k 35 (by rfl) _ (by rfl), ?_⟩
  refine ⟨code_piece arg4 arg5 arg6 X4 X5 X6 k 34 (by rfl) _ (by rfl), ?_⟩
  refine ⟨code_piece arg4 arg5 arg6 X4 X5 X6 k 33 (by rfl) _ (by rfl), ?_⟩
  refine ⟨code_piece arg4 arg5 arg6 X4 X5 X6 k 32 (by rfl) _ (by rfl), ?_⟩
  refine ⟨code_piece arg4 arg5 arg6 X4 X5 X6 k 31 (by rfl) _ (by rfl), ?_⟩
  refine ⟨code_piece arg4 arg5 arg6 X4 X5 X6 k 30 (by rfl) _ (by rfl), ?_⟩
  refine ⟨code_piece arg4 arg5 arg6 X4 X5 X6 k 29 (by rfl) _ (by rfl), ?_⟩
  refine ⟨code_piece arg4 arg5 arg6 X4 X5 X6 k 28 (by rfl) _ (by rfl), ?_⟩
  refine ⟨code_piece arg4 arg5 arg6 X4 X5 X6 k 27 (by rfl) _ (by rfl), ?_⟩
  refine ⟨code_piece arg4 arg5 arg6 X4 X5 X6 k 26 (by rfl) _ (by rfl), ?_⟩
  refine ⟨code_piece arg4 arg5 arg6 X4 X5 X6 k 25 (by rfl) _ (by rfl), ?_⟩
  refine ⟨code_piece arg4 arg5 arg6 X4 X5 X6 k 24 (by rfl) _ (by rfl), ?_⟩
  refine ⟨code_piece arg4 arg5 arg6 X4 X5 X6 k 23 (by rfl) _ (by rfl), ?_⟩
  refine ⟨code_piece arg4 arg5 arg6 X4 X5 X6 k 22 (by rfl) _ (by rfl), ?_⟩
  refine ⟨code_piece arg4 arg5 arg6 X4 X5 X6 k 21 (by rfl) _ (by rfl), ?_⟩
  refine ⟨code_piece arg4 arg5 arg6 X4 X5 X6 k 20 (by rfl) _ (by rfl), ?_⟩
  refine ⟨code_piece arg4 arg5 arg6 X4 X5 X6 k 19 (by rfl) _ (by rfl), ?_⟩
  refine ⟨code_piece arg4 arg5 arg6 X4 X5 X6 k 18 (by rfl) _ (by rfl), ?_⟩
  refine ⟨code_piece arg4 arg5 arg6 X4 X5 X6 k 17 (by rfl) _ (by rfl), ?_⟩
  refine ⟨code_piece arg4 arg5 arg6 X4 X5 X6 k 16 (by rfl) _ (by rfl), ?_⟩
  refine ⟨code_piece arg4 arg5 arg6 X4 X5 X6 k 15 (by rfl) _ (by rfl), ?_⟩
  refine ⟨code_piece arg4 arg5 arg6 X4 X5 X6 k 14 (by rfl) _ (by rfl), ?_⟩
  refine ⟨code_piece arg4 arg5 arg6 X4 X5 X6 k 13 (by rfl) _ (by rfl), ?_⟩
  refine ⟨code_piece arg4 arg5 arg6 X4 X5 X6 k 12 (by rfl) _ (by rfl), ?_⟩
  refine ⟨code_piece arg4 arg5 arg6 X4 X5 X6 k 11 (by rfl) _ (by rfl), ?_⟩
  refine ⟨code_piece arg4 arg5 arg6 X4 X5 X6 k 10 (by rfl) _ (by rfl), ?_⟩
  refine ⟨code_piece arg4 arg5 arg6 X4 X5 X6 k 9 (by rfl) _ (by rfl), ?_⟩
  refine ⟨code_piece arg4 arg5 arg6 X4 X5 X6 k 8 (by rfl) _ (by rfl), ?_⟩
  refine ⟨code_piece arg4 arg5 arg6 X4 X5 X6 k 7 (by rfl) _ (by rfl), ?_⟩
  refine ⟨code_piece arg4 arg5 arg6 X4 X5 X6 k 6 (by rfl) _ (by rfl), ?_⟩
  refine ⟨code_piece arg4 arg5 arg6 X4 X5 X6 k 5 (by rfl) _ (by rfl), ?_⟩
  refine ⟨code_piece arg4 arg5 arg6 X4 X5 X6 k 4 (by rfl) _ (by rfl), ?_⟩
  refine ⟨code_piece arg4 arg5 arg6 X4 X5 X6 k 3 (by rfl) _ (by rfl), ?_⟩
  refine ⟨code_piece arg4 arg5 arg6 X4 X5 X6 k 2 (by rfl) _ (by rfl), ?_⟩
  refine ⟨code_piece arg4 arg5 arg6 X4 X5 X6 k 1 (by rfl) _ (by rfl), ?_⟩
  refine ⟨code_piece arg4 arg5 arg6 X4 X5 X6 k 0 (by rfl) _ (by rfl), ?_⟩
  trivial

/-- All stores of the last loop are blocks of the codes. -/
theorem code_pieces (c : Dev nD) (i : grid1.Coords) (arg1 : Memref sig .tc .vmem S128x16384 .bf16) (harg1 : arg1.IsWhole) (arg2 : Memref sig .tc .vmem S64x768x256 .bf16) (harg2 : arg2.IsWhole) (arg3 : Memref sig .tc .vmem S128x16384 .i8) (harg3 : arg3.IsWhole) (arg4 : Memref sig .tc .vmem S128x1 .f32) (harg4 : arg4.IsWhole) (arg5 : Memref sig .tc .vmem S128x16384 .f32) (harg5 : arg5.IsWhole) (arg6 : Memref sig .tc .vmem S128x128 .f32) (harg6 : arg6.IsWhole) (X4 : BufTy.Contents (Elt Ideal) arg4.view.ty) (X5 : BufTy.Contents (Elt Ideal) arg5.view.ty) (X6 : BufTy.Contents (Elt Ideal) arg6.view.ty) (n : ℕ) :
    ∀ p ∈ pb_k1_t4 (F := Ideal) Variants.none c none i arg1 harg1 arg2 harg2 arg3 harg3 arg4 harg4 arg5 harg5 arg6 harg6 X4 X5 X6 n, ∀ x : p.1.shape.Idx, p.2 x = codes (arg5.view.read (Elt Ideal) X5) (arg6.view.read (Elt Ideal) X6) (arg4.view.read (Elt Ideal) X4) (p.1.emb x) := by
  induction n with
  | zero => intro p hp; simp [pb_k1_t4] at hp
  | succ n ih =>
    rw [pb_k1_t4.eq_2]
    unfold pb_k1_t4Step
    split
    · rename_i h
      intro p hp
      rcases List.mem_append.mp hp with hp | hp
      · exact View.PiecesOf.mem (code_trip c i arg1 harg1 arg2 harg2 arg3 harg3 arg4 harg4 arg5 harg5 arg6 harg6 X4 X5 X6 ⟨n, h⟩) p hp
      · exact ih p hp
    · exact ih

/-- The codes' block after the last loop. -/
theorem code_canon (c : Dev nD) (i : grid1.Coords) (arg1 : Memref sig .tc .vmem S128x16384 .bf16) (harg1 : arg1.IsWhole) (arg2 : Memref sig .tc .vmem S64x768x256 .bf16) (harg2 : arg2.IsWhole) (arg3 : Memref sig .tc .vmem S128x16384 .i8) (harg3 : arg3.IsWhole) (arg4 : Memref sig .tc .vmem S128x1 .f32) (harg4 : arg4.IsWhole) (arg5 : Memref sig .tc .vmem S128x16384 .f32) (harg5 : arg5.IsWhole) (arg6 : Memref sig .tc .vmem S128x128 .f32) (harg6 : arg6.IsWhole) (x0 : Vec Ideal S128x16384 .bf16) (x1 : Vec Ideal S64x768x256 .bf16) (y : S128x16384.Idx) :
    View.canon (codeL (F := Ideal) c i arg1 harg1 arg2 harg2 arg3 harg3 arg4 harg4 arg5 harg5 arg6 harg6 x0 x1) y
      = codes (arg5.view.read (Elt Ideal) (rowsC c i arg1 harg1 arg2 harg2 arg3 harg3 arg4 harg4 arg5 harg5 arg6 harg6 x0 x1)) (arg6.view.read (Elt Ideal) (facC c i arg1 harg1 arg2 harg2 arg3 harg3 arg4 harg4 arg5 harg5 arg6 harg6 x0)) (arg4.view.read (Elt Ideal) (scalesC c i arg1 harg1 arg2 harg2 arg3 harg3 arg4 harg4 arg5 harg5 arg6 harg6 x0 x1)) y := by
  have h := code_pieces c i arg1 harg1 arg2 harg2 arg3 harg3 arg4 harg4 arg5 harg5 arg6 harg6 (scalesC c i arg1 harg1 arg2 harg2 arg3 harg3 arg4 harg4 arg5 harg5 arg6 harg6 x0 x1) (rowsC c i arg1 harg1 arg2 harg2 arg3 harg3 arg4 harg4 arg5 harg5 arg6 harg6 x0 x1) (facC c i arg1 harg1 arg2 harg2 arg3 harg3 arg4 harg4 arg5 harg5 arg6 harg6 x0) (Scf.trips k1_t4_loop.lb k1_t4_loop.ub k1_t4_loop.st)
  have hL := codeL_cover c i arg1 harg1 arg2 harg2 arg3 harg3 arg4 harg4 arg5 harg5 arg6 harg6 x0 x1 y
  unfold codeL at hL ⊢
  exact View.canon_apply_of_pieces _ _ h y hL

end Cert.CodesIdeal.Hand
-- ==== Proof.TransformRows.lean ====
/- The row loop of the transform, over the reals: after it the rows hold the two butterfly stages of the products, and the scales'
   buffer a scale for each row. -/
module

public import proofs.«01_k».proof.Proof.TransformTrip
public import proofs.«01_k».proof.Proof.TransformFactors
public import proofs.«01_k».proof.Proof.TransformProducts
public import proofs.«01_k».proof.Proof.TransformCodes

@[expose] public section

set_option maxRecDepth 16384

noncomputable section

namespace Cert.CodesIdeal.Hand

open Cert.CodesIdeal Cert.CodesIdeal.Gen Idealize.ShloMosaic Idealize.ShloMosaic.TcCoe Idealize.ShloMosaic.Tactic

/-- A scale from a row's maximum: a seventh of it, one where it is zero. -/
def scl (a : EReal) : EReal := if a = 0 then 1 else Ideal.div a (Ideal.ofBits .f32 0x40E00000#32)

/-- A row's largest absolute value. -/
def rowMax (Z : S128x16384.Idx → Ideal .f32) (r : Fin 128) : EReal := Finset.univ.sup fun d : Fin 16384 => ab (Z (ix2 r d))

theorem ab_nonneg (z : Ideal .f32) : 0 ≤ ab z := by
  show (0 : EReal) ≤ max (z : EReal) (-z)
  rcases le_total (0 : EReal) z with h | h
  · exact le_max_of_le_left h
  · exact le_max_of_le_right (EReal.neg_nonneg.mpr h)

theorem ofBits_bot : Ideal.ofBits .f32 0xFF800000#32 = ⊥ := by
  simp [Ideal.ofBits, Ideal.ieee]

/-- The lanes' maxima of a row, together, are the row's. -/
theorem fold_rowMax (k : ℕ) (hk : k < 16) (U : S128x16384.Idx → Ideal .f32) (M : FVec Ideal S8x128 .f32) (hM : AM k U 16 M) (r : Fin 8) :
    Finset.fold max (Ideal.ofBits .f32 0xFF800000#32) (fun l : Fin 128 => (M (ix2 r l) : EReal)) Finset.univ = rowMax (stage 2048 U) ⟨8 * k + r.val, by omega⟩ := by
  refine eq_of_forall_ge_iff fun b => ?_
  rw [Finset.fold_max_le, ofBits_bot]
  unfold rowMax
  rw [Finset.sup_le_iff]
  constructor
  · rintro ⟨_, h⟩ d _
    have := (hM (ix2 r (⟨d.val % 128, Nat.mod_lt _ (by decide)⟩ : Fin 128)) b).mp (h _ (Finset.mem_univ _))
    exact this.2 (ix2 _ d) rfl rfl (by
      show d.val % 2048 / 128 < 16
      omega)
  · intro h
    refine ⟨bot_le, fun l _ => (hM (ix2 r l) b).mpr ⟨le_trans (ab_nonneg _) (h ⟨0, by decide⟩ (Finset.mem_univ _)), fun y h0 h1 _ => ?_⟩⟩
    have := h (y 1) (Finset.mem_univ _)
    rwa [show (ix2 (⟨8 * k + r.val, by omega⟩ : Fin 128) (y 1) : S128x16384.Idx) = y from idx_ext h0.symm rfl] at this

/-- A scale of the block. -/
theorem rowTail_apply (M : FVec Ideal S8x128 .f32) (r : Vec Ideal S8x1 .f32) (x : S8x1.Idx) :
    (rowTail M r x : EReal) = scl (Finset.fold max (Ideal.ofBits .f32 0xFF800000#32) (fun l : Fin 128 => (M (ix2 (x 0) l) : EReal)) Finset.univ * r x) := by
  unfold rowTail scl
  dsimp only
  simp only [pointwise]

/-- A stage's entry depends on its row alone. -/
theorem stage_congr (σ : ℕ) (U U' : S128x16384.Idx → Ideal .f32) (y : S128x16384.Idx) (h : ∀ z : S128x16384.Idx, (z 0).val = (y 0).val → U z = U' z) : stage σ U y = stage σ U' y := by
  unfold stage
  rw [show (fun i => U (src σ y i)) = fun i => U' (src σ y i) from funext fun i => h _ rfl]

theorem fac_read (c : Dev nD) (i : grid1.Coords) (arg1 : Memref sig .tc .vmem S128x16384 .bf16) (harg1 : arg1.IsWhole) (arg2 : Memref sig .tc .vmem S64x768x256 .bf16) (harg2 : arg2.IsWhole) (arg3 : Memref sig .tc .vmem S128x16384 .i8) (harg3 : arg3.IsWhole) (arg4 : Memref sig .tc .vmem S128x1 .f32) (harg4 : arg4.IsWhole) (arg5 : Memref sig .tc .vmem S128x16384 .f32) (harg5 : arg5.IsWhole) (arg6 : Memref sig .tc .vmem S128x128 .f32) (harg6 : arg6.IsWhole) (x0 : Vec Ideal S128x16384 .bf16) (y : S128x128.Idx) :
    arg6.view.read (Elt Ideal) (facC (F := Ideal) c i arg1 harg1 arg2 harg2 arg3 harg3 arg4 harg4 arg5 harg5 arg6 harg6 x0) y = fac (sumsq x0 (y 0)) := by
  unfold facC
  rw [harg6.read_unread]
  exact fac_canon c i arg1 harg1 arg2 harg2 arg3 harg3 arg4 harg4 arg5 harg5 arg6 harg6 x0 y

theorem prod_read (c : Dev nD) (i : grid1.Coords) (arg1 : Memref sig .tc .vmem S128x16384 .bf16) (harg1 : arg1.IsWhole) (arg2 : Memref sig .tc .vmem S64x768x256 .bf16) (harg2 : arg2.IsWhole) (arg3 : Memref sig .tc .vmem S128x16384 .i8) (harg3 : arg3.IsWhole) (arg4 : Memref sig .tc .vmem S128x1 .f32) (harg4 : arg4.IsWhole) (arg5 : Memref sig .tc .vmem S128x16384 .f32) (harg5 : arg5.IsWhole) (arg6 : Memref sig .tc .vmem S128x128 .f32) (harg6 : arg6.IsWhole) (x0 : Vec Ideal S128x16384 .bf16) (x1 : Vec Ideal S64x768x256 .bf16) (y : S128x16384.Idx) :
    arg5.view.read (Elt Ideal) (prodC (F := Ideal) c i arg1 harg1 arg2 harg2 arg3 harg3 arg4 harg4 arg5 harg5 arg6 harg6 x0 x1) y = prod x0 x1 y := by
  unfold prodC
  rw [harg5.read_unread]
  exact prod_canon c i arg1 harg1 arg2 harg2 arg3 harg3 arg4 harg4 arg5 harg5 arg6 harg6 x0 x1 y

/-- The transformed rows: the two stages of the products. -/
def twoStages (x0 : Vec Ideal S128x16384 .bf16) (x1 : Vec Ideal S64x768x256 .bf16) : S128x16384.Idx → Ideal .f32 := stage 2048 (stage 256 (prod x0 x1))

/-- The rows' scales. -/
def scales (x0 : Vec Ideal S128x16384 .bf16) (x1 : Vec Ideal S64x768x256 .bf16) (y : S128x1.Idx) : Elt Ideal .f32 := scl (rowMax (twoStages x0 x1) (y 0) * fac (sumsq x0 (y 0)))

/-- After `n` trips the first `n` blocks of rows are transformed, the others hold the products, and the scales stored are the rows'. -/
theorem rows_inv (c : Dev nD) (i : grid1.Coords) (arg1 : Memref sig .tc .vmem S128x16384 .bf16) (harg1 : arg1.IsWhole) (arg2 : Memref sig .tc .vmem S64x768x256 .bf16) (harg2 : arg2.IsWhole) (arg3 : Memref sig .tc .vmem S128x16384 .i8) (harg3 : arg3.IsWhole) (arg4 : Memref sig .tc .vmem S128x1 .f32) (harg4 : arg4.IsWhole) (arg5 : Memref sig .tc .vmem S128x16384 .f32) (harg5 : arg5.IsWhole) (arg6 : Memref sig .tc .vmem S128x128 .f32) (harg6 : arg6.IsWhole) (x0 : Vec Ideal S128x16384 .bf16) (x1 : Vec Ideal S64x768x256 .bf16) (n : ℕ) (hn : n ≤ 16) :
    (∀ y : S128x16384.Idx, arg5.view.read (Elt Ideal) (arg5.view.writes (Elt Ideal) (prodC c i arg1 harg1 arg2 harg2 arg3 harg3 arg4 harg4 arg5 harg5 arg6 harg6 x0 x1) (rowStores (F := Ideal) Variants.none c none i arg1 harg1 arg2 harg2 arg3 harg3 arg4 harg4 arg5 harg5 arg6 harg6 (facC c i arg1 harg1 arg2 harg2 arg3 harg3 arg4 harg4 arg5 harg5 arg6 harg6 x0) (prodC c i arg1 harg1 arg2 harg2 arg3 harg3 arg4 harg4 arg5 harg5 arg6 harg6 x0 x1) n).2) y = if (y 0).val / 8 < n then twoStages x0 x1 y else prod x0 x1 y)
    ∧ ∀ p ∈ (rowStores (F := Ideal) Variants.none c none i arg1 harg1 arg2 harg2 arg3 harg3 arg4 harg4 arg5 harg5 arg6 harg6 (facC c i arg1 harg1 arg2 harg2 arg3 harg3 arg4 harg4 arg5 harg5 arg6 harg6 x0) (prodC c i arg1 harg1 arg2 harg2 arg3 harg3 arg4 harg4 arg5 harg5 arg6 harg6 x0 x1) n).1, ∀ x : p.1.shape.Idx, p.2 x = scales x0 x1 (p.1.emb x) := by
  induction n with
  | zero =>
    refine ⟨fun y => ?_, fun p hp => absurd hp List.not_mem_nil⟩
    rw [if_neg (Nat.not_lt_zero _)]
    exact prod_read c i arg1 harg1 arg2 harg2 arg3 harg3 arg4 harg4 arg5 harg5 arg6 harg6 x0 x1 y
  | succ n ih =>
    obtain ⟨ih1, ih2⟩ := ih (by omega)
    have hn' : n < k1_t3_loop.trips := by show n < 16; omega
    rw [show n + 1 = (⟨n, hn'⟩ : Fin k1_t3_loop.trips).val + 1 from rfl, rowStores_succ]
    dsimp only
    generalize hf : (arg5.view.writes (Elt Ideal) (prodC c i arg1 harg1 arg2 harg2 arg3 harg3 arg4 harg4 arg5 harg5 arg6 harg6 x0 x1) (rowStores (F := Ideal) Variants.none c none i arg1 harg1 arg2 harg2 arg3 harg3 arg4 harg4 arg5 harg5 arg6 harg6 (facC c i arg1 harg1 arg2 harg2 arg3 harg3 arg4 harg4 arg5 harg5 arg6 harg6 x0) (prodC c i arg1 harg1 arg2 harg2 arg3 harg3 arg4 harg4 arg5 harg5 arg6 harg6 x0 x1) n).2) = f at ih1 ⊢
    obtain ⟨M, e1, h2, hM⟩ := row_trip c i arg1 harg1 arg2 harg2 arg3 harg3 arg4 harg4 arg5 harg5 arg6 harg6 (facC c i arg1 harg1 arg2 harg2 arg3 harg3 arg4 harg4 arg5 harg5 arg6 harg6 x0) ⟨n, hn'⟩ f
    have hrow : ∀ y : S128x16384.Idx, (y 0).val / 8 = n → arg5.view.read (Elt Ideal) f y = prod x0 x1 y := fun y hy => by
      rw [ih1 y, if_neg (by omega)]
    have hst : ∀ y : S128x16384.Idx, (y 0).val / 8 = n → stage 256 (arg5.view.read (Elt Ideal) f) y = stage 256 (prod x0 x1) y := fun y hy =>
      stage_congr _ _ _ y fun z hz => hrow z (by rw [hz]; exact hy)
    have hst2 : ∀ y : S128x16384.Idx, (y 0).val / 8 = n → stage 2048 (stage 256 (arg5.view.read (Elt Ideal) f)) y = twoStages x0 x1 y := fun y hy =>
      stage_congr _ _ _ y fun z hz => hst z (by rw [hz]; exact hy)
    constructor
    · intro y
      rw [View.writes_append, hf]
      by_cases hy : (y 0).val / 8 = n
      · obtain ⟨hc, hv⟩ := h2.2 y hy
        have hy1 := y1_lt y
        rw [View.read_writes_apply_eq_canon _ _ _ _ hc, hv, if_pos (by omega), if_pos (show (y 0).val / 8 < n + 1 by omega)]
        exact hst2 y hy
      · rw [View.read_writes_apply_of_forall_not_mem _ _ _ _ (fun p hp hm => hy (h2.1 p hp y hm)), ih1 y]
        by_cases hlt : (y 0).val / 8 < n
        · rw [if_pos hlt, if_pos (show (y 0).val / 8 < n + 1 by omega)]
        · rw [if_neg hlt, if_neg (show ¬ (y 0).val / 8 < n + 1 by omega)]
    · intro p hp
      rcases List.mem_append.mp hp with hp | hp
      · rw [e1] at hp
        obtain rfl := List.mem_singleton.mp hp
        intro x
        have hx0 : (x 0).val < 8 := (x 0).isLt
        have hemb : (Rect.unit (s := S128x1) (k1_off261 ⟨n, hn'⟩) S8x1.size (k1_off261_inb ⟨n, hn'⟩)).emb x 0 = (⟨8 * n + (x 0).val, by omega⟩ : Fin 128) := by
          refine Fin.ext ?_
          refine (congrArg (fun t => t + 1 * (x 0).val) (show _ = 8 * n from congrFun (k1_off261_eq ⟨n, hn'⟩) 0)).trans ?_
          show 8 * n + 1 * (x 0).val = 8 * n + (x 0).val
          omega
        have hr : View.readAt (Elt Ideal) arg6.view (Rect.unit (s := S128x128) (k1_off260 ⟨n, hn'⟩) S8x1.size (k1_off260_inb ⟨n, hn'⟩)).toLoadRect (facC c i arg1 harg1 arg2 harg2 arg3 harg3 arg4 harg4 arg5 harg5 arg6 harg6 x0) x
            = fac (sumsq x0 ⟨8 * n + (x 0).val, by omega⟩) := by
          refine (fac_read c i arg1 harg1 arg2 harg2 arg3 harg3 arg4 harg4 arg5 harg5 arg6 harg6 x0 _).trans ?_
          refine congrArg (fun r => fac (sumsq x0 r)) (Fin.ext ?_)
          refine (congrArg (fun t => t + 1 * (x 0).val) (show _ = 8 * n from congrFun (k1_off260_eq ⟨n, hn'⟩) 0)).trans ?_
          show 8 * n + 1 * (x 0).val = 8 * n + (x 0).val
          omega
        have hmax : rowMax (stage 2048 (stage 256 (arg5.view.read (Elt Ideal) f))) ⟨8 * n + (x 0).val, by omega⟩ = rowMax (twoStages x0 x1) ⟨8 * n + (x 0).val, by omega⟩ := by
          unfold rowMax
          refine congrArg (Finset.univ.sup) (funext fun d => congrArg ab (hst2 _ ?_))
          show (8 * n + (x 0).val) / 8 = n
          omega
        refine (rowTail_apply M _ x).trans ?_
        have hfold := (fold_rowMax n (by omega) _ M hM (x 0)).trans hmax
        refine (congrArg scl (congrArg₂ (fun a b : EReal => a * b) hfold hr)).trans ?_
        unfold scales
        exact congrArg (fun r => scl (rowMax (twoStages x0 x1) r * fac (sumsq x0 r))) hemb.symm
      · exact ih2 p hp

/-- The rows' buffer after the row loop. -/
theorem rows_read (c : Dev nD) (i : grid1.Coords) (arg1 : Memref sig .tc .vmem S128x16384 .bf16) (harg1 : arg1.IsWhole) (arg2 : Memref sig .tc .vmem S64x768x256 .bf16) (harg2 : arg2.IsWhole) (arg3 : Memref sig .tc .vmem S128x16384 .i8) (harg3 : arg3.IsWhole) (arg4 : Memref sig .tc .vmem S128x1 .f32) (harg4 : arg4.IsWhole) (arg5 : Memref sig .tc .vmem S128x16384 .f32) (harg5 : arg5.IsWhole) (arg6 : Memref sig .tc .vmem S128x128 .f32) (harg6 : arg6.IsWhole) (x0 : Vec Ideal S128x16384 .bf16) (x1 : Vec Ideal S64x768x256 .bf16) (y : S128x16384.Idx) : arg5.view.read (Elt Ideal) (rowsC c i arg1 harg1 arg2 harg2 arg3 harg3 arg4 harg4 arg5 harg5 arg6 harg6 x0 x1) y = twoStages x0 x1 y := by
  have h := (rows_inv c i arg1 harg1 arg2 harg2 arg3 harg3 arg4 harg4 arg5 harg5 arg6 harg6 x0 x1 16 le_rfl).1 y
  have hy : (y 0).val < 128 := (y 0).isLt
  rw [if_pos (by omega)] at h
  exact h

/-- The scales' buffer after the row loop. -/
theorem scales_canon (c : Dev nD) (i : grid1.Coords) (arg1 : Memref sig .tc .vmem S128x16384 .bf16) (harg1 : arg1.IsWhole) (arg2 : Memref sig .tc .vmem S64x768x256 .bf16) (harg2 : arg2.IsWhole) (arg3 : Memref sig .tc .vmem S128x16384 .i8) (harg3 : arg3.IsWhole) (arg4 : Memref sig .tc .vmem S128x1 .f32) (harg4 : arg4.IsWhole) (arg5 : Memref sig .tc .vmem S128x16384 .f32) (harg5 : arg5.IsWhole) (arg6 : Memref sig .tc .vmem S128x128 .f32) (harg6 : arg6.IsWhole) (x0 : Vec Ideal S128x16384 .bf16) (x1 : Vec Ideal S64x768x256 .bf16) (y : S128x1.Idx) : View.canon (rowL (F := Ideal) c i arg1 harg1 arg2 harg2 arg3 harg3 arg4 harg4 arg5 harg5 arg6 harg6 x0 x1).1 y = scales x0 x1 y := by
  have h := (rows_inv c i arg1 harg1 arg2 harg2 arg3 harg3 arg4 harg4 arg5 harg5 arg6 harg6 x0 x1 16 le_rfl).2
  have hL := rowL_cover c i arg1 harg1 arg2 harg2 arg3 harg3 arg4 harg4 arg5 harg5 arg6 harg6 x0 x1 y
  exact View.canon_apply_of_pieces (scales x0 x1) _ h y hL

theorem scales_read (c : Dev nD) (i : grid1.Coords) (arg1 : Memref sig .tc .vmem S128x16384 .bf16) (harg1 : arg1.IsWhole) (arg2 : Memref sig .tc .vmem S64x768x256 .bf16) (harg2 : arg2.IsWhole) (arg3 : Memref sig .tc .vmem S128x16384 .i8) (harg3 : arg3.IsWhole) (arg4 : Memref sig .tc .vmem S128x1 .f32) (harg4 : arg4.IsWhole) (arg5 : Memref sig .tc .vmem S128x16384 .f32) (harg5 : arg5.IsWhole) (arg6 : Memref sig .tc .vmem S128x128 .f32) (harg6 : arg6.IsWhole) (x0 : Vec Ideal S128x16384 .bf16) (x1 : Vec Ideal S64x768x256 .bf16) (y : S128x1.Idx) : arg4.view.read (Elt Ideal) (scalesC c i arg1 harg1 arg2 harg2 arg3 harg3 arg4 harg4 arg5 harg5 arg6 harg6 x0 x1) y = scales x0 x1 y := by
  unfold scalesC
  rw [harg4.read_unread]
  exact scales_canon c i arg1 harg1 arg2 harg2 arg3 harg3 arg4 harg4 arg5 harg5 arg6 harg6 x0 x1 y

/-- The codes' block, from the block of the argument. -/
theorem codes_canon (c : Dev nD) (i : grid1.Coords) (arg1 : Memref sig .tc .vmem S128x16384 .bf16) (harg1 : arg1.IsWhole) (arg2 : Memref sig .tc .vmem S64x768x256 .bf16) (harg2 : arg2.IsWhole) (arg3 : Memref sig .tc .vmem S128x16384 .i8) (harg3 : arg3.IsWhole) (arg4 : Memref sig .tc .vmem S128x1 .f32) (harg4 : arg4.IsWhole) (arg5 : Memref sig .tc .vmem S128x16384 .f32) (harg5 : arg5.IsWhole) (arg6 : Memref sig .tc .vmem S128x128 .f32) (harg6 : arg6.IsWhole) (x0 : Vec Ideal S128x16384 .bf16) (x1 : Vec Ideal S64x768x256 .bf16) (y : S128x16384.Idx) :
    View.canon (codeL (F := Ideal) c i arg1 harg1 arg2 harg2 arg3 harg3 arg4 harg4 arg5 harg5 arg6 harg6 x0 x1) y = code (twoStages x0 x1 y) (fac (sumsq x0 (y 0))) (scales x0 x1 (ix2 (y 0) (0 : Fin 1))) := by
  rw [code_canon]
  unfold codes
  rw [rows_read, fac_read, scales_read]
  rfl

end Cert.CodesIdeal.Hand
-- ==== Proof.TransformArray.lean ====
/- The transform's two arrays: a row's codes and scale, over the reals, from the arrays the call finds. -/
module

public import proofs.«01_k».proof.Proof.TransformValue
public import proofs.«01_k».proof.Proof.TransformRows

@[expose] public section

set_option maxRecDepth 16384

noncomputable section

namespace Cert.CodesIdeal.Hand

open Cert.CodesIdeal Cert.CodesIdeal.Gen Idealize.ShloMosaic Idealize.ShloMosaic.TcCoe Idealize.SL.Sem

variable (V : (c : Dev nD) → (b : Ref sig .tc) → Buf (Elt Ideal) ((c : Thread nD τ).loc b))

theorem idx0 : ∀ t : Fin cfg1.N, win1_0.index t (0 : Fin 2) = t.val ∧ win1_0.index t (1 : Fin 2) = 0 :=
  (by decide +kernel : ∀ t : Fin grid1.N, _)
theorem idx1 : ∀ t : Fin cfg1.N, win1_1.index t (0 : Fin 3) = 0 ∧ win1_1.index t (1 : Fin 3) = 0 ∧ win1_1.index t (2 : Fin 3) = 0 :=
  (by decide +kernel : ∀ t : Fin grid1.N, _)
theorem idx2 : ∀ t : Fin cfg1.N, win1_2.index t (0 : Fin 2) = t.val ∧ win1_2.index t (1 : Fin 2) = 0 :=
  (by decide +kernel : ∀ t : Fin grid1.N, _)
theorem idx3 : ∀ t : Fin cfg1.N, win1_3.index t (0 : Fin 2) = t.val ∧ win1_3.index t (1 : Fin 2) = 0 :=
  (by decide +kernel : ∀ t : Fin grid1.N, _)
theorem flush2 : ∀ t : Fin cfg1.N, (cfg1.win 2).flush t = true :=
  (by decide +kernel : ∀ t : Fin grid1.N, (cfg1.win 2).flush t = true)
theorem flush3 : ∀ t : Fin cfg1.N, (cfg1.win 3).flush t = true :=
  (by decide +kernel : ∀ t : Fin grid1.N, (cfg1.win 3).flush t = true)

/-- The rows' block at point `t`. -/
theorem blk0 (c : Dev nD) (t : Fin cfg1.N) (r : Fin 128) (d : Fin 16384) (s : Fin 3072) (hs : s.val = t.val * 128 + r.val) :
    (iblk1 V c 0 t : Vec Ideal S128x16384 .bf16) (ix2 r d) = V c main_arg0 (ix2 s d) := by
  obtain ⟨e0, e1⟩ := idx0 t
  show V c main_arg0 (((cfg1.win 0).blk t).view.emb (ix2 r d)) = _
  congr 1
  funext a
  match a with
  | ⟨0, _⟩ => exact Fin.ext (by show win1_0.index t (0 : Fin 2) * 128 + 1 * r.val = s.val; rw [e0, hs]; omega)
  | ⟨1, _⟩ => exact Fin.ext (by show win1_0.index t (1 : Fin 2) * 16384 + 1 * d.val = d.val; rw [e1]; omega)

/-- The folded weight's block is the whole of it. -/
theorem blk1 (c : Dev nD) (t : Fin cfg1.N) : (iblk1 V c 1 t : Vec Ideal S64x768x256 .bf16) = V c main_v1 := by
  obtain ⟨e0, e1, e2⟩ := idx1 t
  funext y
  show V c main_v1 (((cfg1.win 1).blk t).view.emb y) = _
  congr 1
  funext a
  match a with
  | ⟨0, _⟩ => exact Fin.ext (by show win1_1.index t (0 : Fin 3) * 64 + 1 * (y 0).val = (y 0).val; rw [e0]; omega)
  | ⟨1, _⟩ => exact Fin.ext (by show win1_1.index t (1 : Fin 3) * 768 + 1 * (y 1).val = (y 1).val; rw [e1]; omega)
  | ⟨2, _⟩ => exact Fin.ext (by show win1_1.index t (2 : Fin 3) * 256 + 1 * (y 2).val = (y 2).val; rw [e2]; omega)

/-- A block of codes read back, place by place: the block's index in the array. -/
theorem read2 (t : Fin cfg1.N) (A : Vec Ideal S3072x16384 .i8) (Z : Vec Ideal S128x16384 .i8)
    (h : ((cfg1.win 2).blk t).view.read (Elt Ideal) A = (cfg1.win 2).cut (grid1.coords t) Z) (y) :
    A (((cfg1.win 2).blk t).view.emb y) = Z ((cfg1.win 2).xinj (grid1.coords t) y) :=
  congrFun h y

/-- The codes' array, at a block's place, is what the block's run left there. -/
theorem left2 (c : Dev nD) (t : Fin cfg1.N) (r : Fin 128) (d : Fin 16384) (s : Fin 3072) (hs : s.val = t.val * 128 + r.val) :
    ((dat1 V c).arrAt 2 cfg1.N : Vec Ideal S3072x16384 .i8) (ix2 s d) = (outsAt1 V c t).1 (ix2 r d) := by
  obtain ⟨e0, e1⟩ := idx2 t
  have h := read2 t _ _ ((blocks2 V c t (flush2 t)).trans (flushed2 V c t)) (ix2 r d)
  have hemb : ((cfg1.win 2).blk t).view.emb (ix2 r d) = ix2 s d := by
    funext a
    match a with
    | ⟨0, _⟩ => exact Fin.ext (by show win1_2.index t (0 : Fin 2) * 128 + 1 * r.val = s.val; rw [e0, hs]; omega)
    | ⟨1, _⟩ => exact Fin.ext (by show win1_2.index t (1 : Fin 2) * 16384 + 1 * d.val = d.val; rw [e1]; omega)
  have hx : (cfg1.win 2).xinj (grid1.coords t) (ix2 r d) = ix2 r d := by
    funext a
    match a with
    | ⟨0, _⟩ => rfl
    | ⟨1, _⟩ => rfl
  rw [← hemb]
  exact h.trans (congrArg (outsAt1 V c t).1 hx)

/-- The scales' array, at a block's place, is what the block's run left there. -/
theorem left3 (c : Dev nD) (t : Fin cfg1.N) (r : Fin 128) (s : Fin 3072) (hs : s.val = t.val * 128 + r.val) :
    ((dat1 V c).arrAt 3 cfg1.N : Vec Ideal S3072x1 .f32) (ix2 s (0 : Fin 1)) = (outsAt1 V c t).2 (ix2 r (0 : Fin 1)) := by
  obtain ⟨e0, e1⟩ := idx3 t
  have h := congrFun (blocks3 V c t (flush3 t)) (ix2 r (0 : Fin 1))
  rw [flushed3] at h
  have hemb : ((cfg1.win 3).blk t).view.emb (ix2 r (0 : Fin 1)) = ix2 s (0 : Fin 1) := by
    funext a
    match a with
    | ⟨0, _⟩ => exact Fin.ext (by show win1_3.index t (0 : Fin 2) * 128 + 1 * r.val = s.val; rw [e0, hs]; omega)
    | ⟨1, _⟩ => exact Fin.ext (by show win1_3.index t (1 : Fin 2) * 1 + 1 * 0 = 0; rw [e1])
  rw [← hemb]
  exact h

/-- **The codes the kernel leaves.** -/
theorem codes_apply (c : Dev nD) (t : Fin cfg1.N) (r : Fin 128) (d : Fin 16384) (s : Fin 3072) (hs : s.val = t.val * 128 + r.val) :
    ((dat1 V c).arrAt 2 cfg1.N : Vec Ideal S3072x16384 .i8) (ix2 s d)
      = code (twoStages (iblk1 V c 0 t) (V c main_v1) (ix2 r d)) (fac (sumsq (iblk1 V c 0 t) r))
          (scl (rowMax (twoStages (iblk1 V c 0 t) (V c main_v1)) r * fac (sumsq (iblk1 V c 0 t) r))) := by
  refine (left2 V c t r d s hs).trans ?_
  unfold outsAt1 out1_A_2
  dsimp only
  rw [View.read_writes_junk_eq_canon, codes_canon, blk1]
  rfl

/-- **The scales the kernel leaves.** -/
theorem scales_apply (c : Dev nD) (t : Fin cfg1.N) (r : Fin 128) (s : Fin 3072) (hs : s.val = t.val * 128 + r.val) :
    ((dat1 V c).arrAt 3 cfg1.N : Vec Ideal S3072x1 .f32) (ix2 s (0 : Fin 1))
      = scl (rowMax (twoStages (iblk1 V c 0 t) (V c main_v1)) r * fac (sumsq (iblk1 V c 0 t) r)) := by
  refine (left3 V c t r s hs).trans ?_
  unfold outsAt1 out1_A_3
  dsimp only
  rw [View.read_writes_junk_eq_canon, scales_canon, blk1]
  rfl

end Cert.CodesIdeal.Hand

end
-- ==== Proof.GainHadamard.lean ====
/- The first call, over the reals: each block of the folded weight, from a block of the gain and the Hadamard factor.  The first
   piece is their product; over the reals it leaves no rest, so the other two are zero where the product is a real number. -/
module

public import proofs.«01_k».proof.Proof.CodesFrame
public import Idealize.ShloMosaic.Lib.Pipeline.Value
public import Idealize.ShloMosaic.Lib.Pointwise

@[expose] public section

set_option maxRecDepth 16384

noncomputable section

namespace Cert.CodesIdeal.Hand

open Cert.CodesIdeal Cert.CodesIdeal.Gen Idealize.ShloMosaic Idealize.ShloMosaic.TcCoe Idealize.SL.Sem

/-- The product of a gain and an entry of the Hadamard factor. -/
def weight (x0 : Vec Ideal S1x1x256 .f32) (x1 : Vec Ideal S256x256 .f32) (q l : Fin 256) : EReal := (x0 (ix3 (0 : Fin 1) (0 : Fin 1) q) : EReal) * x1 (ix2 q l)

theorem pay1_apply (x0 : Vec Ideal S1x1x256 .f32) (x1 : Vec Ideal S256x256 .f32) (q l : Fin 256) :
    (k0_pay1 (F := Ideal) x0 x1 (ix2 q l) : EReal) = weight x0 x1 q l := by
  unfold k0_pay1 weight
  simp only [pointwise]
  rfl

/-- The first piece is the product, -/
theorem pay3_apply (x0 : Vec Ideal S1x1x256 .f32) (x1 : Vec Ideal S256x256 .f32) (q l : Fin 256) :
    (k0_pay3 (F := Ideal) x0 x1 (ix3 (0 : Fin 1) q l) : EReal) = weight x0 x1 q l := by
  unfold k0_pay3 k0_pay2
  simp only [pointwise]
  exact pay1_apply x0 x1 q l

theorem pay4_apply (x0 : Vec Ideal S1x1x256 .f32) (x1 : Vec Ideal S256x256 .f32) (q l : Fin 256) :
    (k0_pay4 (F := Ideal) x0 x1 (ix2 q l) : EReal) = weight x0 x1 q l - weight x0 x1 q l := by
  unfold k0_pay4 k0_pay2
  simp only [pointwise]
  rw [pay1_apply]

/-- the second its rest, -/
theorem pay6_apply (x0 : Vec Ideal S1x1x256 .f32) (x1 : Vec Ideal S256x256 .f32) (q l : Fin 256) :
    (k0_pay6 (F := Ideal) x0 x1 (ix3 (0 : Fin 1) q l) : EReal) = weight x0 x1 q l - weight x0 x1 q l := by
  unfold k0_pay6 k0_pay5
  simp only [pointwise]
  exact pay4_apply x0 x1 q l

/-- and the third the rest of that. -/
theorem pay7_apply (x0 : Vec Ideal S1x1x256 .f32) (x1 : Vec Ideal S256x256 .f32) (q l : Fin 256) :
    (k0_pay7 (F := Ideal) x0 x1 (ix3 (0 : Fin 1) q l) : EReal) = (weight x0 x1 q l - weight x0 x1 q l) - (weight x0 x1 q l - weight x0 x1 q l) := by
  unfold k0_pay7 k0_pay5
  simp only [pointwise]
  rw [pay4_apply]

/-- A block of the folded weight: the product in its first 256 rows, zero in the others. -/
def block (x0 : Vec Ideal S1x1x256 .f32) (x1 : Vec Ideal S256x256 .f32) (y : S1x768x256.Idx) : EReal :=
  if (y 1).val < 256 then weight x0 x1 ⟨(y 1).val % 256, Nat.mod_lt _ (by decide)⟩ ⟨(y 2).val % 256, Nat.mod_lt _ (by decide)⟩ else 0

theorem block_low (x0 : Vec Ideal S1x1x256 .f32) (x1 : Vec Ideal S256x256 .f32) (y : S1x768x256.Idx) (q l : Fin 256)
    (h1 : (y 1).val = q.val) (h2 : (y 2).val = l.val) : block x0 x1 y = weight x0 x1 q l := by
  unfold block
  rw [if_pos (by omega)]
  congr 1
  · exact Fin.ext (by show (y 1).val % 256 = q.val; omega)
  · exact Fin.ext (by show (y 2).val % 256 = l.val; omega)

theorem block_high (x0 : Vec Ideal S1x1x256 .f32) (x1 : Vec Ideal S256x256 .f32) (y : S1x768x256.Idx) (h : 256 ≤ (y 1).val) : block x0 x1 y = 0 := by
  unfold block
  rw [if_neg (by omega)]

/-- An index of a piece, by its row and column. -/
theorem piece_idx (x : S1x256x256.Idx) : ∃ q l : Fin 256, x = ix3 (0 : Fin 1) q l :=
  ⟨x 1, x 2, by
    funext a
    match a with
    | ⟨0, _⟩ => exact Fin.ext (by have : (x 0).val < 1 := (x 0).isLt; show (x 0).val = 0; omega)
    | ⟨1, _⟩ => rfl
    | ⟨2, _⟩ => rfl⟩

/-- **What the body leaves in its output**, where every product is a real number. -/
theorem out_apply (x0 : Vec Ideal S1x1x256 .f32) (x1 : Vec Ideal S256x256 .f32) (hr : ∀ q l, ∃ w : ℝ, weight x0 x1 q l = (w : EReal)) (y : S1x768x256.Idx) :
    (out0_2 (F := Ideal) x0 x1 y : EReal) = block x0 x1 y := by
  have hz : ∀ q l, weight x0 x1 q l - weight x0 x1 q l = 0 := by
    intro q l
    obtain ⟨w, hw⟩ := hr q l
    rw [hw, ← EReal.coe_sub, sub_self, EReal.coe_zero]
  have e0 : View.ld x0 r0_0 = x0 := by
    funext x
    show x0 (r0_0.idx x) = x0 x
    congr 1
    funext a
    match a with
    | ⟨0, _⟩ => exact Fin.ext (by show 0 + 1 * (x 0).val = (x 0).val; omega)
    | ⟨1, _⟩ => exact Fin.ext (by show 0 + 1 * (x 1).val = (x 1).val; omega)
    | ⟨2, _⟩ => exact Fin.ext (by show 0 + 1 * (x 2).val = (x 2).val; omega)
  have e1 : View.ld x1 r0_1 = x1 := by
    funext x
    show x1 (r0_1.idx x) = x1 x
    congr 1
    funext a
    match a with
    | ⟨0, _⟩ => exact Fin.ext (by show 0 + 1 * (x 0).val = (x 0).val; omega)
    | ⟨1, _⟩ => exact Fin.ext (by show 0 + 1 * (x 1).val = (x 1).val; omega)
  unfold out0_2
  rw [e0, e1]
  refine View.canon_apply_of_pieces (Val := Elt Ideal) (e := .bf16) (block x0 x1) _ ?_ y (cover0_2 _ _ _ y)
  intro p hp x
  simp only [List.mem_cons, List.not_mem_nil, or_false] at hp
  rcases hp with rfl | rfl | rfl
  · obtain ⟨q, l, rfl⟩ := piece_idx x
    refine (pay7_apply x0 x1 q l).trans ?_
    rw [hz, sub_zero]
    exact (block_high x0 x1 _ (by show 256 ≤ 512 + 1 * q.val; omega)).symm
  · obtain ⟨q, l, rfl⟩ := piece_idx x
    refine (pay6_apply x0 x1 q l).trans ?_
    rw [hz]
    exact (block_high x0 x1 _ (by show 256 ≤ 256 + 1 * q.val; omega)).symm
  · obtain ⟨q, l, rfl⟩ := piece_idx x
    refine (pay3_apply x0 x1 q l).trans ?_
    exact (block_low x0 x1 _ q l (by show 0 + 1 * q.val = q.val; omega) (by show 0 + 1 * l.val = l.val; omega)).symm

/-- The pieces of a block sum to the product. -/
theorem block_sum (x0 : Vec Ideal S1x1x256 .f32) (x1 : Vec Ideal S256x256 .f32) (q l : Fin 256) :
    (∑ p : Fin 3, block x0 x1 (ix3 (0 : Fin 1) (⟨p.val * 256 + q.val, by omega⟩ : Fin 768) l)) = weight x0 x1 q l := by
  rw [Fin.sum_univ_three, block_low x0 x1 _ q l (by show 0 * 256 + q.val = q.val; omega) rfl,
    block_high x0 x1 _ (by show 256 ≤ 1 * 256 + q.val; omega), block_high x0 x1 _ (by show 256 ≤ 2 * 256 + q.val; omega), add_zero, add_zero]

/-! ## The array -/

section
variable (V : (c : Dev nD) → (b : Ref sig .tc) → Buf (Elt Ideal) ((c : Thread nD τ).loc b))

theorem weight_idx_inj : ∀ t t' : Fin cfg0.N, win0_2.index t = win0_2.index t' → t = t' :=
  (by decide +kernel : ∀ t t' : Fin grid0.N, win0_2.index t = win0_2.index t' → t = t')
theorem weight_flush : ∀ t : Fin cfg0.N, (cfg0.win 2).flush t = true :=
  (by decide +kernel : ∀ t : Fin grid0.N, (cfg0.win 2).flush t = true)
theorem gain_idx : ∀ t : Fin cfg0.N, win0_0.index t (0 : Fin 3) = t.val ∧ win0_0.index t (1 : Fin 3) = 0 ∧ win0_0.index t (2 : Fin 3) = 0 :=
  (by decide +kernel : ∀ t : Fin grid0.N, _)
theorem factor_idx : ∀ t : Fin cfg0.N, win0_1.index t (0 : Fin 2) = 0 ∧ win0_1.index t (1 : Fin 2) = 0 :=
  (by decide +kernel : ∀ t : Fin grid0.N, _)
theorem weight_idx : ∀ t : Fin cfg0.N, win0_2.index t (0 : Fin 3) = t.val ∧ win0_2.index t (1 : Fin 3) = 0 ∧ win0_2.index t (2 : Fin 3) = 0 :=
  (by decide +kernel : ∀ t : Fin grid0.N, _)

/-- Two points' blocks share no index of the array. -/
theorem weight_disjoint : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (weight_idx_inj t t' h)

/-- A block read back through the window is what its point left. -/
theorem weight_block (c : Dev nD) (t : Fin cfg0.N) :
    ((cfg0.win 2).blk t).view.read (Elt Ideal) ((dat0 V c).arrAt 2 cfg0.N) = (cfg0.win 2).cut (grid0.coords t) (out0_2 (iblk0 V c 0 t) (iblk0 V c 1 t)) := by
  refine ((dat0 V c).read_blk_arrAt_eq_flushed 2 weight_disjoint cfg0.N t t.isLt (weight_flush t)).trans ?_
  show (cfg0.win 2).cut (grid0.coords t) ((dat0 V c).after 2 t) = _
  rw [after0_2]

/-- A block of the array read back, place by place. -/
theorem weight_read (t : Fin cfg0.N) (A : Vec Ideal S64x768x256 .bf16) (Z : Vec Ideal S1x768x256 .bf16)
    (h : ((cfg0.win 2).blk t).view.read (Elt Ideal) A = (cfg0.win 2).cut (grid0.coords t) Z) (y) :
    A (((cfg0.win 2).blk t).view.emb y) = Z ((cfg0.win 2).xinj (grid0.coords t) y) :=
  congrFun h y

/-- The gain's block at point `t`. -/
theorem gain_blk (c : Dev nD) (t : Fin cfg0.N) (j : Fin 64) (hj : j.val = t.val) (q : Fin 256) :
    (iblk0 V c 0 t : Vec Ideal S1x1x256 .f32) (ix3 (0 : Fin 1) (0 : Fin 1) q) = (V c main_v0 : Vec Ideal S64x1x256 .f32) (ix3 j (0 : Fin 1) q) := by
  obtain ⟨e0, e1, e2⟩ := gain_idx t
  show V c main_v0 (((cfg0.win 0).blk t).view.emb (ix3 (0 : Fin 1) (0 : Fin 1) q)) = _
  congr 1
  funext a
  match a with
  | ⟨0, _⟩ => exact Fin.ext (by show win0_0.index t (0 : Fin 3) * 1 + 1 * 0 = j.val; rw [e0, hj]; omega)
  | ⟨1, _⟩ => exact Fin.ext (by show win0_0.index t (1 : Fin 3) * 1 + 1 * 0 = 0; rw [e1])
  | ⟨2, _⟩ => exact Fin.ext (by show win0_0.index t (2 : Fin 3) * 256 + 1 * q.val = q.val; rw [e2]; omega)

/-- The Hadamard factor's block is the whole of it. -/
theorem factor_blk (c : Dev nD) (t : Fin cfg0.N) : (iblk0 V c 1 t : Vec Ideal S256x256 .f32) = V c main_arg2 := by
  obtain ⟨e0, e1⟩ := factor_idx t
  funext y
  show V c main_arg2 (((cfg0.win 1).blk t).view.emb y) = _
  congr 1
  funext a
  match a with
  | ⟨0, _⟩ => exact Fin.ext (by show win0_1.index t (0 : Fin 2) * 256 + 1 * (y 0).val = (y 0).val; rw [e0]; omega)
  | ⟨1, _⟩ => exact Fin.ext (by show win0_1.index t (1 : Fin 2) * 256 + 1 * (y 1).val = (y 1).val; rw [e1]; omega)

/-- **The folded weight the first call leaves**, where every product of a gain and an entry of the factor is a real number. -/
theorem weight_apply (c : Dev nD) (g : Vec Ideal S64x1x256 .f32) (f : Vec Ideal S256x256 .f32) (hg : V c main_v0 = g) (hf : V c main_arg2 = f)
    (hr : ∀ (j : Fin 64) (q l : Fin 256), ∃ w : ℝ, (g (ix3 j (0 : Fin 1) q) : EReal) * f (ix2 q l) = (w : EReal))
    (t : Fin cfg0.N) (j : Fin 64) (hj : j.val = t.val) (q : Fin 768) (l : Fin 256) :
    (((dat0 V c).arrAt 2 cfg0.N : Vec Ideal S64x768x256 .bf16) (ix3 j q l) : EReal) = block (iblk0 V c 0 t) (iblk0 V c 1 t) (ix3 (0 : Fin 1) q l) := by
  obtain ⟨e0, e1, e2⟩ := weight_idx t
  have h := weight_read t _ _ (weight_block V c t) (ix3 (0 : Fin 1) q l)
  have hemb : ((cfg0.win 2).blk t).view.emb (ix3 (0 : Fin 1) q l) = ix3 j q l := by
    funext a
    match a with
    | ⟨0, _⟩ => exact Fin.ext (by show win0_2.index t (0 : Fin 3) * 1 + 1 * 0 = j.val; rw [e0, hj]; omega)
    | ⟨1, _⟩ => exact Fin.ext (by show win0_2.index t (1 : Fin 3) * 768 + 1 * q.val = q.val; rw [e1]; omega)
    | ⟨2, _⟩ => exact Fin.ext (by show win0_2.index t (2 : Fin 3) * 256 + 1 * l.val = l.val; rw [e2]; omega)
  have hx : (cfg0.win 2).xinj (grid0.coords t) (ix3 (0 : Fin 1) q l) = ix3 (0 : Fin 1) q l := by
    funext a
    match a with
    | ⟨0, _⟩ => rfl
    | ⟨1, _⟩ => rfl
    | ⟨2, _⟩ => rfl
  rw [← hemb]
  refine (h.trans (congrArg (out0_2 (iblk0 V c 0 t) (iblk0 V c 1 t)) hx)).trans (out_apply _ _ (fun q l => ?_) _)
  obtain ⟨w, hw⟩ := hr j q l
  refine ⟨w, ?_⟩
  rw [← hw]
  unfold weight
  rw [gain_blk V c t j hj, factor_blk, hg, hf]

end

end Cert.CodesIdeal.Hand

end
-- ==== Proof.TransformSum.lean ====
/- The two butterfly stages together, on real entries: the 64-point Hadamard transform of the columns 256 apart.  Here: the
   signs of the transform, that those of 64 points are products of those of eight, and the two stages as one signed sum. -/
module

public import proofs.«01_k».proof.Proof.Butterfly

@[expose] public section

set_option maxRecDepth 16384

noncomputable section

namespace Cert.CodesIdeal.Hand

open Cert.CodesIdeal Idealize.ShloMosaic Idealize.ShloMosaic.TcCoe

/-- One less twice the parity of the bits that `i` and `j` have in common, in 32-bit words. -/
def parity (v : BitVec 32) : BitVec 32 :=
  1#32 - 2#32 * ((((((0#32 ^^^ (v &&& 1#32)) ^^^ (v.sshiftRight 1 &&& 1#32)) ^^^ ((v.sshiftRight 1).sshiftRight 1 &&& 1#32))
    ^^^ (((v.sshiftRight 1).sshiftRight 1).sshiftRight 1 &&& 1#32)) ^^^ ((((v.sshiftRight 1).sshiftRight 1).sshiftRight 1).sshiftRight 1 &&& 1#32))
    ^^^ (((((v.sshiftRight 1).sshiftRight 1).sshiftRight 1).sshiftRight 1).sshiftRight 1 &&& 1#32))

/-- The sign of place `(i, j)` of the 64-point Hadamard matrix. -/
def sgn (i j : Fin 64) : ℤ := (parity (BitVec.ofNat 32 i.val &&& BitVec.ofNat 32 j.val)).toInt

/-- The eight-point Hadamard matrix. -/
def s8 : Fin 8 → Fin 8 → ℤ :=
  ![![1, 1, 1, 1, 1, 1, 1, 1], ![1, -1, 1, -1, 1, -1, 1, -1], ![1, 1, -1, -1, 1, 1, -1, -1], ![1, -1, -1, 1, 1, -1, -1, 1],
    ![1, 1, 1, 1, -1, -1, -1, -1], ![1, -1, 1, -1, -1, 1, -1, 1], ![1, 1, -1, -1, -1, -1, 1, 1], ![1, -1, -1, 1, -1, 1, 1, -1]]

/-- A sign of 64 points is the product of two signs of eight, by the high and the low three bits. -/
theorem sgn_eq : ∀ a' b' a b : Fin 8, sgn (finProdFinEquiv (a', b')) (finProdFinEquiv (a, b)) = s8 a' a * s8 b' b := by
  decide +kernel

/-- The butterfly of eight reals is the signed sum. -/
theorem bfly_coe (w : Fin 8 → ℝ) (j : Fin 8) :
    bfly (FloatOps.addf (F := Ideal) (φ := .f32)) FloatOps.subf (fun i => ((w i : ℝ) : EReal)) j = ((∑ i : Fin 8, (s8 j i : ℝ) * w i : ℝ) : EReal) := by
  have h : bfly (FloatOps.addf (F := Ideal) (φ := .f32)) FloatOps.subf (fun i => ((w i : ℝ) : EReal)) j
      = ((bfly (fun a b : ℝ => a + b) (fun a b => a - b) w j : ℝ) : EReal) := by
    fin_cases j <;> rfl
  rw [h]
  congr 1
  fin_cases j <;> simp [bfly, s8, Fin.sum_univ_eight] <;> ring

/-- A stage of reals is the signed sum of its eight columns. -/
theorem stage_coe (σ : ℕ) (u : S128x16384.Idx → ℝ) (y : S128x16384.Idx) (j : Fin 8) (hj : (y 1).val / σ % 8 = j.val) :
    stage (F := Ideal) σ (fun y => ((u y : ℝ) : EReal)) y = ((∑ i : Fin 8, (s8 j i : ℝ) * u (src σ y i) : ℝ) : EReal) :=
  (stage_eq (F := Ideal) σ (fun y => ((u y : ℝ) : EReal)) y j hj (fun i => ((u (src σ y i) : ℝ) : EReal)) (fun _ => rfl)).symm.trans (bfly_coe _ j)

/-- **The two stages**: an entry is the signed sum of the 64 entries of its row whose columns are congruent modulo 256. -/
theorem stages_coe (u : S128x16384.Idx → ℝ) (r : Fin 128) (d : Fin 16384) :
    stage (F := Ideal) 2048 (stage (F := Ideal) 256 (fun y => ((u y : ℝ) : EReal))) (ix2 r d)
      = ((∑ j : Fin 64, (sgn ⟨d.val / 256, by omega⟩ j : ℝ) * u (ix2 r ⟨256 * j.val + d.val % 256, by omega⟩) : ℝ) : EReal) := by
  have e1 : stage (F := Ideal) 256 (fun y => ((u y : ℝ) : EReal))
      = fun y => ((∑ i : Fin 8, (s8 ⟨(y 1).val / 256 % 8, Nat.mod_lt _ (by decide)⟩ i : ℝ) * u (src 256 y i) : ℝ) : EReal) := by
    funext y
    exact stage_coe 256 u y _ rfl
  rw [e1]
  refine (stage_coe 2048 _ (ix2 r d) ⟨d.val / 2048, by omega⟩ ?_).trans ?_
  · show d.val / 2048 % 8 = d.val / 2048
    omega
  congr 1
  rw [← Equiv.sum_comp (finProdFinEquiv (m := 8) (n := 8)), Fintype.sum_prod_type]
  refine Finset.sum_congr rfl fun a _ => ?_
  rw [Finset.mul_sum]
  refine Finset.sum_congr rfl fun b _ => ?_
  have hs : ((src 2048 (ix2 r d) a) 1).val = d.val % 2048 + 2048 * a.val := by
    rw [src_one]
    show (d.val - d.val / 2048 % 8 * 2048 + a.val * 2048) % 16384 = _
    omega
  have hd : (⟨d.val / 256, by omega⟩ : Fin 64) = finProdFinEquiv ((⟨d.val / 2048, by omega⟩ : Fin 8), (⟨d.val / 256 % 8, by omega⟩ : Fin 8)) := by
    refine Fin.ext ?_
    show d.val / 256 = d.val / 256 % 8 + 8 * (d.val / 2048)
    omega
  rw [hd, sgn_eq]
  have hb : (⟨((src 2048 (ix2 r d) a) 1).val / 256 % 8, Nat.mod_lt _ (by decide)⟩ : Fin 8) = ⟨d.val / 256 % 8, by omega⟩ := by
    refine Fin.ext ?_
    show ((src 2048 (ix2 r d) a) 1).val / 256 % 8 = d.val / 256 % 8
    rw [hs]
    omega
  have hu : src 256 (src 2048 (ix2 r d) a) b = ix2 r ⟨256 * (finProdFinEquiv (a, b) : Fin (8 * 8)).val + d.val % 256, by have : (finProdFinEquiv (a, b) : Fin (8 * 8)).val < 64 := (finProdFinEquiv (a, b) : Fin (8 * 8)).isLt; omega⟩ := by
    refine idx_ext rfl ?_
    rw [src_one, hs]
    show _ = 256 * (b.val + 8 * a.val) + d.val % 256
    have := a.isLt
    have := b.isLt
    omega
  rw [hb, hu]
  push_cast
  ring

end Cert.CodesIdeal.Hand

end
-- ==== Proof.TransformRefRead.lean ====
/- The transform's reference at an index, over the reals: the normalised rows, the two sums of the transform,
   and the codes and scales of a row. -/
module

public import proofs.«01_k».proof.Proof.Gen.CodesRefIdeal.Run
public import proofs.«01_k».proof.Proof.TransformSum
public import Idealize.ShloMosaic.Lib.Pointwise

@[expose] public section

set_option maxRecDepth 16384

noncomputable section

namespace Cert.CodesRefIdeal.Hand

open Cert.CodesRefIdeal Cert.CodesRefIdeal.Gen Idealize.ShloMosaic Idealize.ShloMosaic.TcCoe Idealize.SL.Sem
open Cert.CodesIdeal.Hand (sgn parity)

variable {F : FTy → Type} [FloatOps F]

/-- The rows, normalised by their root mean square, times the gain. -/
def normed (x : Vec F S3072x16384 .bf16) (a : Vec F S16384 .f32) : Vec F S3072x16384 .f32 :=
  mulf (mulf (extf .f32 x bitsLt_bf16_f32) (broadcastInDim S3072x16384 ![0, 1] bcast_S3072x1_S3072x16384_0_1 (Host.rsqrt (addf (Host.divf (broadcastInDim S3072x1 ![0] bcast_S3072_S3072x1_0 (Host.reduceAdd (mulf (extf .f32 x bitsLt_bf16_f32) (extf .f32 x bitsLt_bf16_f32)) (constant S_ .f32 0x00000000#32) reducesTo_S3072x16384_S3072_d1 h_S_)) (broadcastInDim S3072x1 ![] bcast_S_S3072x1 (constant S_ .f32 0x46800000#32))) (broadcastInDim S3072x1 ![] bcast_S_S3072x1 (constant S_ .f32 0x3727C5AC#32)))))) (broadcastInDim S3072x16384 ![0, 1] bcast_S1x16384_S3072x16384_0_1 (broadcastInDim S1x16384 ![1] bcast_S16384_S1x16384_1 a))

/-- The transform within each group of 256 columns. -/
def inner (x : Vec F S3072x16384 .bf16) (a : Vec F S16384 .f32) (h : Vec F S256x256 .f32) : Vec F S3072x64x256 .f32 :=
  Host.dotGeneral dot_S3072x64x256_S256x256_S3072x64x256_2_0_01_1_n_n (some .fp32) (shapeCast _ (normed (F := F) x a) shapeCasts_S3072x16384_S3072x64x256) h

/-- The numbers in common of a row number and a column number, as words. -/
def common : IVec S64x64 32 :=
  andi (broadcastInDim S64x64 ![0, 1] bcast_S64x1_S64x64_0_1 (broadcastInDim S64x1 ![0] bcast_S64_S64x1_0 (iotaInDim S64 32 0))) (broadcastInDim S64x64 ![0, 1] bcast_S1x64_S64x64_0_1 (broadcastInDim S1x64 ![1] bcast_S64_S1x64_1 (iotaInDim S64 32 0)))

/-- A word shifted one place. -/
def half (v : IVec S64x64 32) : IVec S64x64 32 := Host.shrsi v (broadcastInDim S64x64 ![] bcast_S_S64x64 (constantI S_ 32 1#32))

/-- A word's last bit. -/
def last (v : IVec S64x64 32) : IVec S64x64 32 := andi v (broadcastInDim S64x64 ![] bcast_S_S64x64 (constantI S_ 32 1#32))

/-- The Hadamard matrix of the reference. -/
def matrix : Vec F S64x64 .f32 :=
  sitofp .f32 (subi (broadcastInDim S64x64 ![] bcast_S_S64x64 (constantI S_ 32 1#32)) (muli (broadcastInDim S64x64 ![] bcast_S_S64x64 (constantI S_ 32 2#32)) (xori (xori (xori (xori (xori (xori (broadcastInDim S64x64 ![] bcast_S_S64x64 (constantI S_ 32 0#32)) (last common)) (last (half common))) (last (half (half common)))) (last (half (half (half common))))) (last (half (half (half (half common)))))) (last (half (half (half (half (half common)))))))))

/-- The transformed rows, scaled. -/
def transformed (x : Vec F S3072x16384 .bf16) (a : Vec F S16384 .f32) (h : Vec F S256x256 .f32) : Vec F S3072x16384 .f32 :=
  mulf (shapeCast _ (transpose S3072x64x256 [0, 2, 1] (Host.dotGeneral dot_S3072x64x256_S64x64_S3072x256x64_1_1_02_0_n_n (some .fp32) (inner (F := F) x a h) (matrix (F := F))) transposes_S3072x256x64_S3072x64x256_0_2_1) shapeCasts_S3072x64x256_S3072x16384) (broadcastInDim S3072x16384 ![] bcast_S_S3072x16384 (constant S_ .f32 0x3C000000#32))

/-- The largest absolute value of each row. -/
def largest (v : Vec F S3072x16384 .f32) : Vec F S3072 .f32 :=
  Host.reduce FloatOps.maximumf (Host.absf v) (constant S_ .f32 0xFF800000#32) reducesTo_S3072x16384_S3072_d1 h_S_

/-- The scale of each row, from its largest absolute value. -/
def scaleOf (a : Vec F S3072 .f32) : Vec F S3072 .f32 :=
  select (cmpf .oeq a (broadcastInDim S3072 ![] bcast_S_S3072 (constant S_ .f32 0x00000000#32))) (broadcastInDim S3072 ![] bcast_S_S3072 (constant S_ .f32 0x3F800000#32)) (Host.divf a (broadcastInDim S3072 ![] bcast_S_S3072 (constant S_ .f32 0x40E00000#32)))

/-- The codes, from the rows' scales. -/
def codesOf (v : Vec F S3072x16384 .f32) (a : Vec F S3072 .f32) : IVec S3072x16384 8 :=
  trunci 8 (fptosi 32 (minimumf (broadcastInDim S3072x16384 ![] bcast_S_S3072x16384 (id (constant S_ .f32 0x40E00000#32))) (maximumf (broadcastInDim S3072x16384 ![] bcast_S_S3072x16384 (id (constant S_ .f32 0xC0E00000#32))) (Host.roundeven (Host.divf v (broadcastInDim S3072x16384 ![0, 1] bcast_S3072x1_S3072x16384_0_1 (broadcastInDim S3072x1 ![0] bcast_S3072_S3072x1_0 a))))))) natLt_8_32

section

variable (m : (ℓ : Loc nD τ sig) → Buf (Elt F) ℓ)

theorem res_codes (c : Dev nD) : Value.res_main_v76 (F := F) m c
    = codesOf (F := F) (transformed (F := F) (m ((c.tc : Thread nD τ).loc main_arg0)) (m ((c.tc : Thread nD τ).loc main_arg1)) (m ((c.tc : Thread nD τ).loc main_arg2))) (scaleOf (F := F) (largest (F := F) (transformed (F := F) (m ((c.tc : Thread nD τ).loc main_arg0)) (m ((c.tc : Thread nD τ).loc main_arg1)) (m ((c.tc : Thread nD τ).loc main_arg2))))) := rfl

theorem res_scales (c : Dev nD) : Value.res_main_v77 (F := F) m c
    = shapeCast _ (scaleOf (F := F) (largest (F := F) (transformed (F := F) (m ((c.tc : Thread nD τ).loc main_arg0)) (m ((c.tc : Thread nD τ).loc main_arg1)) (m ((c.tc : Thread nD τ).loc main_arg2))))) shapeCasts_S3072_S3072x1 := rfl

end

/-- The reciprocal root mean square of a row. -/
def rms (x : Vec Ideal S3072x16384 .bf16) (s : Fin 3072) : EReal :=
  Ideal.rsqrt (Ideal.div (∑ d : Fin 16384, (x (ix2 s d) : EReal) * x (ix2 s d)) (Ideal.ofBits .f32 0x46800000#32) + Ideal.ofBits .f32 0x3727C5AC#32)

theorem normed_apply (x : Vec Ideal S3072x16384 .bf16) (a : Vec Ideal S16384 .f32) (s : Fin 3072) (d : Fin 16384) :
    (normed (F := Ideal) x a (ix2 s d) : EReal) = x (ix2 s d) * rms x s * a (ix1 d) := by
  unfold normed rms
  simp only [pointwise]
  rw [zero_add]
  rfl

theorem inner_apply (x : Vec Ideal S3072x16384 .bf16) (a : Vec Ideal S16384 .f32) (h : Vec Ideal S256x256 .f32) (s : Fin 3072) (j : Fin 64) (l : Fin 256) :
    (inner (F := Ideal) x a h (ix3 s j l) : EReal) = ∑ q : Fin 256, (x (ix2 s (⟨j.val * 256 + q.val, by omega⟩ : Fin 16384)) * rms x s * a (ix1 (⟨j.val * 256 + q.val, by omega⟩ : Fin 16384)) : EReal) * h (ix2 q l) := by
  unfold inner
  simp only [pointwise]
  rw [zero_add]
  refine Finset.sum_congr rfl fun q _ => ?_
  rw [← normed_apply]

theorem matrix_apply (i j : Fin 64) : (matrix (F := Ideal) (ix2 i j) : EReal) = ((sgn i j : ℝ) : EReal) := by
  unfold matrix last half common sgn parity
  simp only [pointwise]
  rfl

theorem transformed_apply (x : Vec Ideal S3072x16384 .bf16) (a : Vec Ideal S16384 .f32) (h : Vec Ideal S256x256 .f32) (s : Fin 3072) (d : Fin 16384) :
    (transformed (F := Ideal) x a h (ix2 s d) : EReal)
      = (∑ j : Fin 64, (inner (F := Ideal) x a h (ix3 s j (⟨d.val % 256, Nat.mod_lt _ (by decide)⟩ : Fin 256)) : EReal) * ((sgn ⟨d.val / 256, by omega⟩ j : ℝ) : EReal)) * Ideal.ofBits .f32 0x3C000000#32 := by
  unfold transformed
  simp only [pointwise]
  rw [zero_add]
  simp only [← matrix_apply]

theorem largest_apply (v : Vec Ideal S3072x16384 .f32) (s : Fin 3072) :
    (largest (F := Ideal) v (ix1 s) : EReal) = Finset.univ.fold max (Ideal.ofBits .f32 0xFF800000#32) fun d : Fin 16384 => (FloatOps.absf (F := Ideal) (φ := .f32) (v (ix2 s d)) : EReal) := by
  unfold largest
  simp only [pointwise]

theorem scaleOf_apply (a : Vec Ideal S3072 .f32) (s : Fin 3072) :
    (scaleOf (F := Ideal) a (ix1 s) : EReal) = if (a (ix1 s) : EReal) = 0 then 1 else Ideal.div (a (ix1 s)) (Ideal.ofBits .f32 0x40E00000#32) := by
  unfold scaleOf
  simp only [pointwise]

theorem codesOf_apply (v : Vec Ideal S3072x16384 .f32) (a : Vec Ideal S3072 .f32) (s : Fin 3072) (d : Fin 16384) :
    codesOf (F := Ideal) v a (ix2 s d) = BitVec.truncate 8 (Ideal.fptosi 32 (min (Ideal.ofBits .f32 0x40E00000#32) (max (Ideal.ofBits .f32 0xC0E00000#32) (FloatOps.roundeven (F := Ideal) (φ := .f32) (Ideal.div (v (ix2 s d)) (a (ix1 s))))))) := by
  unfold codesOf
  simp only [pointwise]
  rfl

theorem scales_apply (a : Vec Ideal S3072 .f32) (s : Fin 3072) :
    (shapeCast S3072x1 a shapeCasts_S3072_S3072x1 : Vec Ideal S3072x1 .f32) (ix2 s (0 : Fin 1)) = a (ix1 s) := by
  simp only [pointwise]

end Cert.CodesRefIdeal.Hand

end
-- ==== Proof.TransformEquation.lean ====
/- The transform's kernel and reference agree on a row, over the reals, for a finite folded weight that is, summed over its
   pieces, the product of gain and Hadamard factor.  A row with an infinite
   entry has an infinite sum of squares, so that both sides multiply it by zero; a finite row is real algebra. -/
module

public import proofs.«01_k».proof.Proof.TransformRows
public import proofs.«01_k».proof.Proof.TransformSum
public import proofs.«01_k».proof.Proof.TransformRefRead

@[expose] public section

set_option maxRecDepth 16384

noncomputable section

namespace Cert.Codes.Equation

open Idealize.ShloMosaic Idealize.ShloMosaic.TcCoe
open Cert.CodesIdeal Cert.CodesIdeal.Hand
open Cert.CodesRefIdeal.Hand (rms normed inner matrix transformed largest scaleOf codesOf)

/-! ## The constants -/

theorem const_mean : Ideal.ofBits .f32 0x38800000#32 = (((1 : ℝ) / 16384 : ℝ) : EReal) := by
  simp [Ideal.ofBits, Ideal.ieee, -EReal.coe_mul]; norm_num
theorem const_width : Ideal.ofBits .f32 0x46800000#32 = ((16384 : ℝ) : EReal) := by
  simp [Ideal.ofBits, Ideal.ieee, -EReal.coe_mul]; norm_num
theorem const_eps : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]
theorem const_scale : Ideal.ofBits .f32 0x3C000000#32 = (((1 : ℝ) / 128 : ℝ) : EReal) := by
  simp [Ideal.ofBits, Ideal.ieee, -EReal.coe_mul]; norm_num
theorem const_seven : Ideal.ofBits .f32 0x40E00000#32 = ((7 : ℝ) : EReal) := by
  simp [Ideal.ofBits, Ideal.ieee, -EReal.coe_mul]; norm_num
theorem const_minus_seven : Ideal.ofBits .f32 0xC0E00000#32 = ((-7 : ℝ) : EReal) := by
  simp [Ideal.ofBits, Ideal.ieee, -EReal.coe_mul]; norm_num

/-- A sum of reals, as extended reals. -/
theorem coe_sum {ι : Type} [Fintype ι] (f : ι → ℝ) : ((∑ i, f i : ℝ) : EReal) = ∑ i, ((f i : ℝ) : EReal) := by
  classical
  refine Finset.induction_on (Finset.univ : Finset ι) (by simp) fun a t ha ih => ?_
  rw [Finset.sum_insert ha, Finset.sum_insert ha, EReal.coe_add, ih]

/-! ## A row's factor -/

/-- The reciprocal root of a finite mean square. -/
theorem rsqrt_mean (S e : ℝ) (hS : 0 ≤ S) (he : 0 < e) :
    ∃ ρ : ℝ, 0 ≤ ρ ∧ Ideal.rsqrt (Ideal.div (S : EReal) ((16384 : ℝ) : EReal) + (e : EReal)) = (ρ : EReal) := by
  have hpos : 0 < S * (1 / 16384 : ℝ) + e := by positivity
  refine ⟨(Real.sqrt (S * (1 / 16384 : ℝ) + e))⁻¹, by positivity, ?_⟩
  rw [Ideal.div_coe (by norm_num), ← EReal.coe_mul, ← EReal.coe_add, Ideal.rsqrt_coe, if_neg (not_lt.mpr hpos.le), if_neg hpos.ne']

theorem square_nonneg (a : EReal) : 0 ≤ a * a := by
  rcases le_total 0 a with h | h
  · exact mul_nonneg h h
  · have : 0 ≤ -a := EReal.neg_nonneg.mpr h
    have h2 := mul_nonneg this this
    rwa [neg_mul_neg] at h2

/-- The squares of a row with an infinite entry sum to infinity. -/
theorem sum_squares_top (x : Vec Ideal Cert.CodesRefIdeal.S3072x16384 .bf16) (s : Fin 3072) (d : Fin 16384)
    (h : (x (ix2 s d) : EReal) = ⊤ ∨ (x (ix2 s d) : EReal) = ⊥) :
    (∑ d : Fin 16384, (x (ix2 s d) : EReal) * x (ix2 s d)) = ⊤ := by
  have h1 : (x (ix2 s d) : EReal) * x (ix2 s d) = ⊤ := by
    rcases h with h | h <;> rw [h]
    · exact EReal.top_mul_top
    · exact EReal.bot_mul_bot
  refine top_le_iff.mp ?_
  rw [← h1]
  exact Finset.single_le_sum (f := fun d : Fin 16384 => (x (ix2 s d) : EReal) * x (ix2 s d)) (fun _ _ => square_nonneg _) (Finset.mem_univ d)

/-- A row's reciprocal root mean square is zero if the row has an infinite entry, else a real that is not negative. -/
theorem rms_cases (x : Vec Ideal Cert.CodesRefIdeal.S3072x16384 .bf16) (s : Fin 3072) :
    rms x s = 0 ∨ ∃ (ρ : ℝ) (u : Fin 16384 → ℝ), 0 ≤ ρ ∧ rms x s = (ρ : EReal) ∧ ∀ d, (x (ix2 s d) : EReal) = (u d : EReal) := by
  obtain ⟨e, he, hec⟩ := const_eps
  by_cases h : ∃ d, (x (ix2 s d) : EReal) = ⊤ ∨ (x (ix2 s d) : EReal) = ⊥
  · obtain ⟨d, hd⟩ := h
    left
    unfold rms
    rw [sum_squares_top x s d hd, const_width, Ideal.div_coe (by norm_num), EReal.top_mul_coe_of_pos (by norm_num), hec, EReal.top_add_coe]
    rfl
  · right
    push Not at h
    have hu : ∀ d, ∃ u : ℝ, (x (ix2 s d) : EReal) = (u : EReal) := fun d => ⟨_, (EReal.coe_toReal (h d).1 (h d).2).symm⟩
    choose u hu using hu
    have hs : (∑ d : Fin 16384, (x (ix2 s d) : EReal) * x (ix2 s d)) = ((∑ d, u d * u d : ℝ) : EReal) := by
      rw [coe_sum]
      refine Finset.sum_congr rfl fun d _ => ?_
      rw [hu d, EReal.coe_mul]
    obtain ⟨ρ, h0, hρ⟩ := rsqrt_mean (∑ d, u d * u d) e (Finset.sum_nonneg fun d _ => mul_self_nonneg _) he
    refine ⟨ρ, u, h0, ?_, hu⟩
    unfold rms
    rw [hs, const_width, hec]
    exact hρ

/-- The kernel's factor of a row is the reference's reciprocal root mean square, scaled. -/
theorem fac_eq (x0 : Vec Ideal S128x16384 .bf16) (x : Vec Ideal Cert.CodesRefIdeal.S3072x16384 .bf16) (r : Fin 128) (s : Fin 3072)
    (hx : ∀ d : Fin 16384, x0 (ix2 r d) = x (ix2 s d)) : (fac (sumsq x0 r) : EReal) = rms x s * Ideal.ofBits .f32 0x3C000000#32 := by
  have hs : sumsq x0 r = ∑ d : Fin 16384, (x (ix2 s d) : EReal) * x (ix2 s d) := Finset.sum_congr rfl fun d _ => by rw [hx d]
  rw [hs]
  unfold fac rms
  show Ideal.rsqrt (_ * Ideal.ofBits .f32 0x38800000#32 + Ideal.ofBits .f32 0x3727C5AC#32) * Ideal.ofBits .f32 0x3C000000#32 = _
  rw [const_mean, const_width, Ideal.div_coe (by norm_num)]

theorem fac_nonneg (x0 : Vec Ideal S128x16384 .bf16) (x : Vec Ideal Cert.CodesRefIdeal.S3072x16384 .bf16) (r : Fin 128) (s : Fin 3072)
    (hx : ∀ d : Fin 16384, x0 (ix2 r d) = x (ix2 s d)) : (0 : EReal) ≤ fac (sumsq x0 r) := by
  rw [fac_eq x0 x r s hx, const_scale]
  rcases rms_cases x s with h | ⟨ρ, u, h0, h, _⟩
  · rw [h, zero_mul]
  · rw [h, ← EReal.coe_mul]
    exact_mod_cast mul_nonneg h0 (by norm_num)

/-! ## A row's transform -/

/-- The folded weight's pieces sum to the product of gain and Hadamard factor. -/
def Folds (a : Vec Ideal Cert.CodesRefIdeal.S16384 .f32) (h : Vec Ideal S256x256 .f32) (g : Vec Ideal S64x768x256 .bf16) : Prop :=
  ∀ (j : Fin 64) (q l : Fin 256), (∑ p : Fin 3, (g (ix3 j (⟨p.val * 256 + q.val, by omega⟩ : Fin 768) l) : EReal))
    = (a (ix1 (⟨j.val * 256 + q.val, by omega⟩ : Fin 16384)) : EReal) * h (ix2 q l)

/-- A sum over the 768 rows of a folded matrix, by pieces. -/
theorem sum_pieces (f : Fin 768 → ℝ) : (∑ q : Fin 768, f q) = ∑ q : Fin 256, ∑ p : Fin 3, f ⟨p.val * 256 + q.val, by omega⟩ := by
  rw [Finset.sum_comm, ← Equiv.sum_comp (finProdFinEquiv (m := 3) (n := 256)), Fintype.sum_prod_type]
  refine Finset.sum_congr rfl fun p _ => Finset.sum_congr rfl fun q _ => congrArg f (Fin.ext ?_)
  show q.val + 256 * p.val = p.val * 256 + q.val
  omega

/-- The signed sums of a row, with the row's factor taken in or left out. -/
theorem row_real (σ v : Fin 64 → ℝ) (G X : Fin 64 → Fin 256 → ℝ) (ρ h : ℝ) (hv : ∀ j, v j = ∑ q, X j q * G j q) :
    (∑ j, σ j * v j) * (ρ * h) = (∑ j, (∑ q, G j q * (X j q * ρ)) * σ j) * h := by
  rw [← mul_assoc, Finset.sum_mul]
  refine congrArg (· * h) (Finset.sum_congr rfl fun j _ => ?_)
  rw [hv, Finset.mul_sum, Finset.sum_mul, Finset.sum_mul]
  refine Finset.sum_congr rfl fun q _ => ?_
  ring

/-- **A row's transform.**  The kernel's entry, times its row's factor, is the reference's. -/
theorem entry_eq (x0 : Vec Ideal S128x16384 .bf16) (x : Vec Ideal Cert.CodesRefIdeal.S3072x16384 .bf16) (a : Vec Ideal Cert.CodesRefIdeal.S16384 .f32) (h : Vec Ideal S256x256 .f32) (g : Vec Ideal S64x768x256 .bf16)
    (hg : ∀ i, ∃ w : ℝ, (g i : EReal) = (w : EReal)) (hf : Folds a h g) (r : Fin 128) (s : Fin 3072)
    (hx : ∀ d : Fin 16384, x0 (ix2 r d) = x (ix2 s d)) (d : Fin 16384) :
    (twoStages x0 g (ix2 r d) : EReal) * fac (sumsq x0 r) = transformed (F := Ideal) x a h (ix2 s d) := by
  rw [fac_eq x0 x r s hx, Cert.CodesRefIdeal.Hand.transformed_apply]
  simp only [Cert.CodesRefIdeal.Hand.inner_apply]
  rcases rms_cases x s with hz | ⟨ρ, u, h0, hz, hu⟩
  · rw [hz]
    simp
  · choose w hw using hg
    have hfold : ∀ (j : Fin 64) (q l : Fin 256), (a (ix1 (⟨j.val * 256 + q.val, by omega⟩ : Fin 16384)) : EReal) * h (ix2 q l)
        = ((∑ p : Fin 3, w (ix3 j (⟨p.val * 256 + q.val, by omega⟩ : Fin 768) l) : ℝ) : EReal) := by
      intro j q l
      rw [← hf j q l, coe_sum]
      exact Finset.sum_congr rfl fun p _ => hw _
    let v : S128x16384.Idx → ℝ := fun y => ∑ q : Fin 768, u (⟨(y 1).val / 256 * 256 + q.val % 256, by have : (y 1).val < 16384 := (y 1).isLt; omega⟩ : Fin 16384)
      * w (ix3 (⟨(y 1).val / 256, by have : (y 1).val < 16384 := (y 1).isLt; omega⟩ : Fin 64) q (⟨(y 1).val % 256, by omega⟩ : Fin 256))
    have hprod : ∀ z : S128x16384.Idx, (z 0).val = r.val → prod x0 g z = ((v z : ℝ) : EReal) := by
      intro z hz
      have hz0 : z 0 = r := Fin.ext hz
      unfold prod
      rw [coe_sum]
      refine Finset.sum_congr rfl fun q _ => ?_
      rw [hz0, hx, hu, hw, EReal.coe_mul]
    have hZ : (twoStages x0 g (ix2 r d) : EReal)
        = ((∑ j : Fin 64, (sgn ⟨d.val / 256, by omega⟩ j : ℝ) * v (ix2 r ⟨256 * j.val + d.val % 256, by omega⟩) : ℝ) : EReal) := by
      rw [← stages_coe]
      unfold twoStages
      refine stage_congr 2048 _ _ _ fun z hz => stage_congr 256 _ _ _ fun z' hz' => ?_
      exact hprod z' (hz'.trans hz)
    have hv : ∀ j : Fin 64, v (ix2 r ⟨256 * j.val + d.val % 256, by omega⟩)
        = ∑ q : Fin 256, u ⟨j.val * 256 + q.val, by omega⟩ * ∑ p : Fin 3, w (ix3 j (⟨p.val * 256 + q.val, by omega⟩ : Fin 768) (⟨d.val % 256, Nat.mod_lt _ (by decide)⟩ : Fin 256)) := by
      intro j
      show (∑ q : Fin 768, _) = _
      rw [sum_pieces]
      refine Finset.sum_congr rfl fun q _ => ?_
      rw [Finset.mul_sum]
      refine Finset.sum_congr rfl fun p _ => ?_
      have h1 : (⟨(256 * j.val + d.val % 256) / 256 * 256 + (p.val * 256 + q.val) % 256, by omega⟩ : Fin 16384) = ⟨j.val * 256 + q.val, by omega⟩ := Fin.ext (by dsimp only; omega)
      have h2 : (⟨(256 * j.val + d.val % 256) / 256, by omega⟩ : Fin 64) = j := Fin.ext (by dsimp only; omega)
      have h3 : (⟨(256 * j.val + d.val % 256) % 256, by omega⟩ : Fin 256) = ⟨d.val % 256, Nat.mod_lt _ (by decide)⟩ := Fin.ext (by dsimp only; omega)
      exact congrArg₂ (fun a b : ℝ => a * b) (congrArg u h1) (congrArg₂ (fun a b => w (ix3 a (⟨p.val * 256 + q.val, by omega⟩ : Fin 768) b)) h2 h3)
    have hin : ∀ j : Fin 64, (∑ q : Fin 256, (x (ix2 s (⟨j.val * 256 + q.val, by omega⟩ : Fin 16384)) * (ρ : EReal) * a (ix1 (⟨j.val * 256 + q.val, by omega⟩ : Fin 16384)) : EReal) * h (ix2 q (⟨d.val % 256, Nat.mod_lt _ (by decide)⟩ : Fin 256))) * ((sgn ⟨d.val / 256, by omega⟩ j : ℝ) : EReal)
        = (((∑ q : Fin 256, (∑ p : Fin 3, w (ix3 j (⟨p.val * 256 + q.val, by omega⟩ : Fin 768) (⟨d.val % 256, Nat.mod_lt _ (by decide)⟩ : Fin 256))) * (u ⟨j.val * 256 + q.val, by omega⟩ * ρ)) * (sgn ⟨d.val / 256, by omega⟩ j : ℝ) : ℝ) : EReal) := by
      intro j
      rw [EReal.coe_mul, coe_sum]
      refine congrArg (· * ((sgn ⟨d.val / 256, by omega⟩ j : ℝ) : EReal)) (Finset.sum_congr rfl fun q _ => ?_)
      rw [mul_assoc, hfold, hu, mul_comm, EReal.coe_mul, EReal.coe_mul]
    rw [hZ, hz, const_scale, Finset.sum_congr rfl fun j _ => hin j, ← coe_sum, ← EReal.coe_mul, ← EReal.coe_mul, ← EReal.coe_mul]
    exact congrArg _ (row_real _ _ _ _ _ _ hv)

/-! ## Scale and codes -/

/-- An absolute value times a factor that is not negative. -/
theorem ab_mul (z r : EReal) (hr : 0 ≤ r) : ab z * r = ab (z * r : EReal) := by
  show max z (-z) * r = max (z * r) (-(z * r))
  rw [← neg_mul]
  exact Monotone.map_max (f := fun t : EReal => t * r) fun a b hab => mul_le_mul_of_nonneg_right hab hr

/-- The largest absolute value of a row, times the row's factor, is the reference's. -/
theorem largest_eq (x0 : Vec Ideal S128x16384 .bf16) (x : Vec Ideal Cert.CodesRefIdeal.S3072x16384 .bf16) (a : Vec Ideal Cert.CodesRefIdeal.S16384 .f32) (h : Vec Ideal S256x256 .f32) (g : Vec Ideal S64x768x256 .bf16)
    (hg : ∀ i, ∃ w : ℝ, (g i : EReal) = (w : EReal)) (hf : Folds a h g) (r : Fin 128) (s : Fin 3072)
    (hx : ∀ d : Fin 16384, x0 (ix2 r d) = x (ix2 s d)) :
    (rowMax (twoStages x0 g) r : EReal) * fac (sumsq x0 r) = largest (F := Ideal) (transformed (F := Ideal) x a h) (ix1 s) := by
  have hr := fac_nonneg x0 x r s hx
  have habs : ∀ d : Fin 16384, (FloatOps.absf (F := Ideal) (φ := .f32) (transformed (F := Ideal) x a h (ix2 s d)) : EReal) = ab (twoStages x0 g (ix2 r d)) * fac (sumsq x0 r) := by
    intro d
    rw [ab_mul _ _ hr]
    exact congrArg ab (entry_eq x0 x a h g hg hf r s hx d).symm
  rw [Cert.CodesRefIdeal.Hand.largest_apply]
  simp only [habs]
  refine eq_of_forall_ge_iff fun b => ?_
  rw [Finset.fold_max_le, ofBits_bot]
  obtain ⟨d0, _, hd0⟩ := Finset.exists_mem_eq_sup Finset.univ ⟨(0 : Fin 16384), Finset.mem_univ _⟩ fun d : Fin 16384 => ab (twoStages x0 g (ix2 r d))
  constructor
  · intro hb
    refine ⟨bot_le, fun d _ => le_trans (mul_le_mul_of_nonneg_right ?_ hr) hb⟩
    exact Finset.le_sup (f := fun d : Fin 16384 => ab (twoStages x0 g (ix2 r d))) (Finset.mem_univ d)
  · intro hb
    unfold rowMax
    rw [hd0]
    exact hb.2 d0 (Finset.mem_univ _)

/-- A code clipped to ±7 is the same whether rounded to eight bits or to 32 and cut to eight. -/
theorem clip_eq (e : EReal) :
    Ideal.fptosi 8 (min (Ideal.ofBits .f32 0x40E00000#32) (max (Ideal.ofBits .f32 0xC0E00000#32) e))
      = BitVec.truncate 8 (Ideal.fptosi 32 (min (Ideal.ofBits .f32 0x40E00000#32) (max (Ideal.ofBits .f32 0xC0E00000#32) e))) := by
  rw [const_seven, const_minus_seven]
  have h1 : (min ((7 : ℝ) : EReal) (max ((-7 : ℝ) : EReal) e)) ≤ ((7 : ℝ) : EReal) := min_le_left _ _
  have h2 : ((-7 : ℝ) : EReal) ≤ (min ((7 : ℝ) : EReal) (max ((-7 : ℝ) : EReal) e)) :=
    le_min (by exact_mod_cast (by norm_num : (-7 : ℝ) ≤ 7)) (le_max_left _ _)
  generalize (min ((7 : ℝ) : EReal) (max ((-7 : ℝ) : EReal) e)) = w at h1 h2
  induction w with
  | bot => exact absurd h2 (by simp)
  | top => exact absurd h1 (by simp)
  | coe ω =>
    have h1' : ω ≤ 7 := by exact_mod_cast h1
    have h2' : -7 ≤ ω := by exact_mod_cast h2
    unfold Ideal.fptosi
    rw [Ideal.toIntClamped_coe, Ideal.toIntClamped_coe]
    have hk : ∃ k : ℤ, -7 ≤ k ∧ k ≤ 7 ∧ (if 0 ≤ ω then ⌊ω⌋ else ⌈ω⌉) = k := by
      refine ⟨_, ?_, ?_, rfl⟩
      · split
        · exact Int.le_floor.mpr (by push_cast; linarith)
        · exact Int.le_ceil_iff.mpr (by push_cast; linarith)
      · split
        · exact Int.floor_le_iff.mpr (by push_cast; linarith)
        · exact Int.ceil_le.mpr (by push_cast; linarith)
    obtain ⟨k, hk1, hk2, hk⟩ := hk
    rw [hk]
    interval_cases k <;> decide

/-- **A row's scale**: the kernel's is the reference's. -/
theorem scale_eq (x0 : Vec Ideal S128x16384 .bf16) (x : Vec Ideal Cert.CodesRefIdeal.S3072x16384 .bf16) (a : Vec Ideal Cert.CodesRefIdeal.S16384 .f32) (h : Vec Ideal S256x256 .f32) (g : Vec Ideal S64x768x256 .bf16)
    (hg : ∀ i, ∃ w : ℝ, (g i : EReal) = (w : EReal)) (hf : Folds a h g) (r : Fin 128) (s : Fin 3072)
    (hx : ∀ d : Fin 16384, x0 (ix2 r d) = x (ix2 s d)) :
    (scl (rowMax (twoStages x0 g) r * fac (sumsq x0 r)) : EReal) = scaleOf (F := Ideal) (largest (F := Ideal) (transformed (F := Ideal) x a h)) (ix1 s) := by
  rw [Cert.CodesRefIdeal.Hand.scaleOf_apply, largest_eq x0 x a h g hg hf r s hx]
  rfl

/-- **A code**: the kernel's is the reference's. -/
theorem code_eq (x0 : Vec Ideal S128x16384 .bf16) (x : Vec Ideal Cert.CodesRefIdeal.S3072x16384 .bf16) (a : Vec Ideal Cert.CodesRefIdeal.S16384 .f32) (h : Vec Ideal S256x256 .f32) (g : Vec Ideal S64x768x256 .bf16)
    (hg : ∀ i, ∃ w : ℝ, (g i : EReal) = (w : EReal)) (hf : Folds a h g) (r : Fin 128) (s : Fin 3072)
    (hx : ∀ d : Fin 16384, x0 (ix2 r d) = x (ix2 s d)) (d : Fin 16384) :
    code (twoStages x0 g (ix2 r d)) (fac (sumsq x0 r)) (scl (rowMax (twoStages x0 g) r * fac (sumsq x0 r)))
      = codesOf (F := Ideal) (transformed (F := Ideal) x a h) (scaleOf (F := Ideal) (largest (F := Ideal) (transformed (F := Ideal) x a h))) (ix2 s d) := by
  rw [Cert.CodesRefIdeal.Hand.codesOf_apply, scale_eq x0 x a h g hg hf r s hx, ← entry_eq x0 x a h g hg hf r s hx d]
  exact clip_eq _

end Cert.Codes.Equation

end
-- ==== Proof.TransformFinite.lean ====
/- The transform's precondition, read over the reals: every product of a gain and an entry of the Hadamard factor is a
   real number. -/
module

public import proofs.«01_k».proof.Pre_folded_weight_is_finite
public import Idealize.ShloMosaic.PureOps.Ideal
public import Idealize.ShloMosaic.Lib.Pointwise

@[expose] public section

noncomputable section

namespace Cert.Pre_folded_weight_is_finite.Hand

open Cert.Pre_folded_weight_is_finite Idealize.ShloMosaic

/-- The side conditions of the precondition's operations. -/
theorem facts : Facts where
  shapeCasts_S16384_S64x256x1 := by decide
  bcast_S256x256_S1x256x256_1_2 := by decide
  bcast_S64x256x1_S64x256x256_0_1_2 := by decide
  bcast_S1x256x256_S64x256x256_0_1_2 := by decide
  bcast_S_S64x256x256 := by decide

theorem const_top : Ideal.ofBits .f32 0x7F800000#32 = (⊤ : EReal) := by
  simp [Ideal.ofBits, Ideal.ieee]

/-- An extended real whose magnitude is below the top is a real. -/
theorem real_of_abs_lt {a : EReal} (h : max a (-a) < ⊤) : ∃ w : ℝ, a = (w : EReal) := by
  induction a with
  | bot => simp at h
  | coe w => exact ⟨w, rfl⟩
  | top => simp at h

/-- Where the precondition holds every product of a gain and an entry of the Hadamard factor is a real. -/
theorem real (x : FVec Ideal S3072x16384 .bf16) (a : FVec Ideal S16384 .f32) (h : FVec Ideal S256x256 .f32)
    (hp : @Cert.Pre_folded_weight_is_finite.fn facts Ideal _ x a h = fun _ => 1#1) (j : Fin 64) (q l : Fin 256) :
    ∃ w : ℝ, (a (ix1 (⟨j.val * 256 + q.val, by omega⟩ : Fin 16384)) : EReal) * h (ix2 q l) = (w : EReal) := by
  have hi := congrFun hp (ix3 j q l)
  unfold fn at hi
  simp only [pointwise] at hi
  have h2 : Ideal.cmp .olt (max ((a (ix1 (⟨j.val * 256 + q.val, by omega⟩ : Fin 16384)) : EReal) * h (ix2 q l)) (-((a (ix1 (⟨j.val * 256 + q.val, by omega⟩ : Fin 16384)) : EReal) * h (ix2 q l)))) (Ideal.ofBits .f32 0x7F800000#32) = 1#1 := hi
  rw [const_top] at h2
  refine real_of_abs_lt ?_
  by_contra hn
  simp [Ideal.cmp, hn] at h2

end Cert.Pre_folded_weight_is_finite.Hand

end
-- ==== Proof.TransformClaims.lean ====
/- The claims on codes and scales: frames of the kernel and of the reference, and the equation of their two results, for a finite
   folded weight. -/
module

public import proofs.«01_k».proof.Defs
public import proofs.«01_k».proof.Proof.Gen.CodesRefIdeal.Run
public import proofs.«01_k».proof.Proof.TransformArray
public import proofs.«01_k».proof.Proof.GainHadamard
public import proofs.«01_k».proof.Proof.TransformEquation
public import proofs.«01_k».proof.Proof.TransformFinite
public import Idealize.ShloMosaic.Adequacy
public import Idealize.ShloMosaic.Init
public import Idealize.ShloMosaic.Lib.Quiescent

@[expose] public section

set_option maxRecDepth 16384

noncomputable section

namespace Cert.Codes.Claims

open Idealize.ShloMosaic Idealize.ShloMosaic.TcCoe Idealize.SL.Sem
open Cert.CodesRefIdeal.Hand (transformed largest scaleOf codesOf res_codes res_scales)

/-- The reference of codes and scales terminates with its arguments unchanged; it declares no semaphore. -/
theorem frame_reference : Cert.quiescent_CodesRefIdeal (hCodesRefIdeal := Cert.CodesRefIdeal.Gen.facts) := fun m ρ _ =>
  (θ_run Cert.CodesRefIdeal.defs _ _).mono (fun r h => ⟨fun c => (h c).2.2, sem_eq_zero_of_no_sems (by decide) r.2⟩)
    (Cert.CodesRefIdeal.Value.run (F := Ideal) m ρ)

/-- The grid point and the row of its block at which a row of the array lies. -/
theorem place (s : Fin 3072) : ∃ (t : Fin Cert.CodesIdeal.cfg1.N) (r : Fin 128), s.val = t.val * 128 + r.val :=
  ⟨⟨s.val / 128, lt_of_lt_of_eq (by omega : s.val / 128 < 24) Cert.CodesIdeal.Gen.N_1.symm⟩, ⟨s.val % 128, Nat.mod_lt _ (by norm_num)⟩,
    by show s.val = s.val / 128 * 128 + s.val % 128; omega⟩

section
variable (m : (ℓ : Loc Cert.CodesIdeal.nD Cert.CodesIdeal.τ Cert.CodesIdeal.sig) → Buf (Elt Ideal) ℓ) (ρ : Dev Cert.CodesIdeal.nD → PrngReg) (c : Dev Cert.CodesIdeal.nD)
  (x : Vec Ideal Cert.CodesRefIdeal.S3072x16384 .bf16) (a : Vec Ideal Cert.CodesRefIdeal.S16384 .f32) (h : Vec Ideal Cert.CodesIdeal.S256x256 .f32)
  (hx : m ((c : Thread Cert.CodesIdeal.nD Cert.CodesIdeal.τ).loc Cert.CodesIdeal.main_arg0) = x)
  (ha : m ((c : Thread Cert.CodesIdeal.nD Cert.CodesIdeal.τ).loc Cert.CodesIdeal.main_arg1) = a)
  (hh : m ((c : Thread Cert.CodesIdeal.nD Cert.CodesIdeal.τ).loc Cert.CodesIdeal.main_arg2) = h)
  (hr : ∀ (j : Fin 64) (q l : Fin 256), ∃ w : ℝ, (a (ix1 (⟨j.val * 256 + q.val, by omega⟩ : Fin 16384)) : EReal) * h (ix2 q l) = (w : EReal))
include ha hh

/-- The gain as the first call finds it. -/
theorem gain (j : Fin 64) (q : Fin 256) : (Cert.CodesIdeal.Hand.V1 m ρ c Cert.CodesIdeal.main_v0 : Vec Ideal Cert.CodesIdeal.S64x1x256 .f32) (ix3 j (0 : Fin 1) q)
    = a (ix1 (⟨j.val * 256 + q.val, by omega⟩ : Fin 16384)) := by
  rw [Cert.CodesIdeal.Hand.entry_gain, ha]
  simp only [pointwise]

/-- The Hadamard factor as the first call finds it. -/
theorem factor : (Cert.CodesIdeal.Hand.V1 m ρ c Cert.CodesIdeal.main_arg2 : Vec Ideal Cert.CodesIdeal.S256x256 .f32) = h :=
  (Cert.CodesIdeal.Hand.entry_factor m ρ c).trans hh

include hr

/-- A folded weight, as a place of a block of the first call's output. -/
theorem folded (j : Fin 64) : ∃ t : Fin Cert.CodesIdeal.cfg0.N, ∀ (q : Fin 768) (l : Fin 256),
    ((Cert.CodesIdeal.Hand.V2 m ρ c Cert.CodesIdeal.main_v1 : Vec Ideal Cert.CodesIdeal.S64x768x256 .bf16) (ix3 j q l) : EReal)
      = Cert.CodesIdeal.Hand.block (Cert.CodesIdeal.Hand.iblk0 (Cert.CodesIdeal.Hand.V1 m ρ) c 0 t) (Cert.CodesIdeal.Hand.iblk0 (Cert.CodesIdeal.Hand.V1 m ρ) c 1 t) (ix3 (0 : Fin 1) q l)
    ∧ ∀ q l : Fin 256, Cert.CodesIdeal.Hand.weight (Cert.CodesIdeal.Hand.iblk0 (Cert.CodesIdeal.Hand.V1 m ρ) c 0 t) (Cert.CodesIdeal.Hand.iblk0 (Cert.CodesIdeal.Hand.V1 m ρ) c 1 t) q l
      = (a (ix1 (⟨j.val * 256 + q.val, by omega⟩ : Fin 16384)) : EReal) * h (ix2 q l) := by
  refine ⟨⟨j.val, lt_of_lt_of_eq j.isLt Cert.CodesIdeal.Gen.N_0.symm⟩, fun q l => ⟨?_, fun q l => ?_⟩⟩
  · rw [Cert.CodesIdeal.Hand.entry_weight]
    refine Cert.CodesIdeal.Hand.weight_apply (Cert.CodesIdeal.Hand.V1 m ρ) c _ _ rfl (factor m ρ c a h ha hh) (fun j q l => ?_) _ j rfl q l
    rw [gain m ρ c a h ha hh j q]
    exact hr j q l
  · unfold Cert.CodesIdeal.Hand.weight
    rw [Cert.CodesIdeal.Hand.gain_blk (Cert.CodesIdeal.Hand.V1 m ρ) c ⟨j.val, lt_of_lt_of_eq j.isLt Cert.CodesIdeal.Gen.N_0.symm⟩ j rfl q, Cert.CodesIdeal.Hand.factor_blk, gain m ρ c a h ha hh j q, factor m ρ c a h ha hh]

/-- The folded weight the second call finds is real, -/
theorem folded_real (i : Cert.CodesIdeal.S64x768x256.Idx) : ∃ w : ℝ, ((Cert.CodesIdeal.Hand.V2 m ρ c Cert.CodesIdeal.main_v1 : Vec Ideal Cert.CodesIdeal.S64x768x256 .bf16) i : EReal) = (w : EReal) := by
  obtain ⟨j, q, l, rfl⟩ : ∃ (j : Fin 64) (q : Fin 768) (l : Fin 256), i = ix3 j q l := ⟨i 0, i 1, i 2, eq_ix3 i⟩
  obtain ⟨t, ht⟩ := folded m ρ c a h ha hh hr j
  rw [(ht q l).1]
  unfold Cert.CodesIdeal.Hand.block
  split
  · rw [(ht q l).2]
    exact hr _ _ _
  · exact ⟨0, EReal.coe_zero.symm⟩

/-- and sums over its pieces to the product of gain and Hadamard factor. -/
theorem folded_sum : Cert.Codes.Equation.Folds a h (Cert.CodesIdeal.Hand.V2 m ρ c Cert.CodesIdeal.main_v1) := by
  intro j q l
  obtain ⟨t, ht⟩ := folded m ρ c a h ha hh hr j
  rw [← (ht ⟨q.val, by omega⟩ l).2 q l, ← Cert.CodesIdeal.Hand.block_sum]
  exact Finset.sum_congr rfl fun p _ => (ht _ l).1

include hx

/-- The kernel's codes are the reference's. -/
theorem codes : ((Cert.CodesIdeal.Hand.dat1 (Cert.CodesIdeal.Hand.V2 m ρ) c).arrAt 2 Cert.CodesIdeal.cfg1.N : Vec Ideal Cert.CodesIdeal.S3072x16384 .i8)
    = codesOf (F := Ideal) (transformed (F := Ideal) x a h) (scaleOf (F := Ideal) (largest (F := Ideal) (transformed (F := Ideal) x a h))) := by
  funext i
  obtain ⟨s, d, rfl⟩ : ∃ (s : Fin 3072) (d : Fin 16384), i = ix2 s d := ⟨i 0, i 1, eq_ix2 i⟩
  obtain ⟨t, r, hs⟩ := place s
  refine (Cert.CodesIdeal.Hand.codes_apply (Cert.CodesIdeal.Hand.V2 m ρ) c t r d s hs).trans ?_
  exact Cert.Codes.Equation.code_eq _ x a h _ (folded_real m ρ c a h ha hh hr) (folded_sum m ρ c a h ha hh hr) r s (fun e => (Cert.CodesIdeal.Hand.blk0 (Cert.CodesIdeal.Hand.V2 m ρ) c t r e s hs).trans (congrFun ((Cert.CodesIdeal.Hand.entry_x m ρ c).trans hx) _)) d

/-- The kernel's scales are the reference's. -/
theorem scales : ((Cert.CodesIdeal.Hand.dat1 (Cert.CodesIdeal.Hand.V2 m ρ) c).arrAt 3 Cert.CodesIdeal.cfg1.N : Vec Ideal Cert.CodesIdeal.S3072x1 .f32)
    = shapeCast _ (scaleOf (F := Ideal) (largest (F := Ideal) (transformed (F := Ideal) x a h))) Cert.CodesRefIdeal.Gen.shapeCasts_S3072_S3072x1 := by
  funext i
  obtain ⟨s, z, rfl⟩ : ∃ (s : Fin 3072) (z : Fin 1), i = ix2 s z := ⟨i 0, i 1, eq_ix2 i⟩
  obtain rfl : z = 0 := Subsingleton.elim _ _
  obtain ⟨t, r, hs⟩ := place s
  refine (Cert.CodesIdeal.Hand.scales_apply (Cert.CodesIdeal.Hand.V2 m ρ) c t r s hs).trans ?_
  exact (Cert.Codes.Equation.scale_eq _ x a h _ (folded_real m ρ c a h ha hh hr) (folded_sum m ρ c a h ha hh hr) r s (fun e => (Cert.CodesIdeal.Hand.blk0 (Cert.CodesIdeal.Hand.V2 m ρ) c t r e s hs).trans (congrFun ((Cert.CodesIdeal.Hand.entry_x m ρ c).trans hx) _))).trans
    (Cert.CodesRefIdeal.Hand.scales_apply _ s).symm

end

/-- Kernel and reference end with the same codes and the same scales, whatever the activation, for a finite folded weight. -/
theorem algebraic : Cert.algebraic_CodesIdeal_CodesRefIdeal_pre_folded_weight_is_finite (hCodesIdeal := Cert.CodesIdeal.Gen.facts)
    (hCodesRefIdeal := Cert.CodesRefIdeal.Gen.facts) (hPre_folded_weight_is_finite := Cert.Pre_folded_weight_is_finite.Hand.facts) := by
  intro m ρ m' ρ' hpre hagree
  refine ⟨fun c => (Cert.CodesIdeal.Hand.dat1 (Cert.CodesIdeal.Hand.V2 m ρ) c).arrAt 2 Cert.CodesIdeal.cfg1.N,
    fun c => (Cert.CodesIdeal.Hand.dat1 (Cert.CodesIdeal.Hand.V2 m ρ) c).arrAt 3 Cert.CodesIdeal.cfg1.N, Cert.CodesIdeal.Hand.run_blocks (F := Ideal) m ρ, ?_⟩
  refine (θ_run Cert.CodesRefIdeal.defs _ _).mono (fun _ h c => ?_) (Cert.CodesRefIdeal.Value.run (F := Ideal) m' ρ')
  have hr := Cert.Pre_folded_weight_is_finite.Hand.real _ _ _ (hpre c)
  refine ⟨(h c).1.trans ?_, (h c).2.1.trans ?_, (h c).2.2⟩
  · refine (res_codes m' c).trans ?_
    rw [(hagree c).1, (hagree c).2.1, (hagree c).2.2]
    exact (codes m ρ c _ _ _ rfl rfl rfl hr).symm
  · refine (res_scales m' c).trans ?_
    rw [(hagree c).1, (hagree c).2.1, (hagree c).2.2]
    exact (scales m ρ c _ _ _ rfl rfl rfl hr).symm

end Cert.Codes.Claims

end
-- ==== Proof.Unpack.lean ====
/- The unpacking of one block of packed weights.  The kernel reads a block `x1` of 256 × 4096 packed bytes as 64 × 4096
   words, and writes 128 blocks of 256 × 128 codes: block `n` gathers one word for each lane, shifts it by two bits for
   each place of the lane in its group of four, keeps two bits of each byte, and subtracts one.  Here: one block of codes
   as a function of its first column (`blockAt`), and the theorem (`blockAt_eq`) that it holds, at row `r` and column `d`
   of the whole, two-bit field `d % 4` of byte `d / 4` of row `r`, less one (`codeAt`). -/
module

public import proofs.«01_k».proof.Proof.Gen.KernelIdeal.Skeleton
public import Idealize.ShloMosaic.Lib.BitcastFour
public import Idealize.ShloMosaic.Lib.Pipeline.Value
public import Idealize.ShloMosaic.Lib.ValueIdx

@[expose] public section

set_option maxRecDepth 16384

noncomputable section

namespace Cert.KernelIdeal.Hand

open Cert.KernelIdeal Cert.KernelIdeal.Gen Idealize.ShloMosaic Idealize.ShloMosaic.TcCoe Idealize.ShloMosaic.ValueIdx

variable {F : FTy → Type} [FloatOps F]

/-- Two-bit field `k` of a byte. -/
def field (b : BitVec 8) (k : Nat) : BitVec 8 := (b >>> (2 * k)) &&& 3#8

/-- The shift of each lane: twice its place in its group of four. -/
abbrev shiftVec : IVec S64x128 32 := k0_pay8 k0_pay5 k0_pay6 k0_pay7

theorem shiftVec_apply (r : Fin 64) (l : Fin 128) : shiftVec (ix2 r l) = BitVec.ofNat 32 (2 * (l.val % 4)) := by
  have h : ∀ l : Fin 128, shiftVec (ix2 (0 : Fin 64) l) = BitVec.ofNat 32 (2 * (l.val % 4)) := by decide +kernel
  exact (show shiftVec (ix2 r l) = shiftVec (ix2 0 l) from rfl).trans (h l)

/-- The lane each lane gathers from, with the starting lane `q` and the correction of a negative index. -/
def laneVec (q : BitVec 32) : IVec S64x128 32 :=
  select (cmpi .slt (addi k0_pay4 (broadcast S64x128 q)) (broadcast S64x128 0#32))
    (addi (addi k0_pay4 (broadcast S64x128 q)) (broadcast S64x128 128#32)) (addi k0_pay4 (broadcast S64x128 q))

theorem laneVec_apply (q : Fin 4) (r : Fin 64) (l : Fin 128) :
    laneVec (BitVec.ofNat 32 (32 * q.val)) (ix2 r l) = BitVec.ofNat 32 (32 * q.val + l.val / 4) := by
  have h : ∀ (q : Fin 4) (l : Fin 128), laneVec (BitVec.ofNat 32 (32 * q.val)) (ix2 (0 : Fin 64) l) = BitVec.ofNat 32 (32 * q.val + l.val / 4) := by
    decide +kernel
  exact (show laneVec (BitVec.ofNat 32 (32 * q.val)) (ix2 r l) = laneVec (BitVec.ofNat 32 (32 * q.val)) (ix2 0 l) from rfl).trans (h q l)

theorem slice_ok (c : Nat) (hc : c + 128 ≤ 16384) : S64x4096.Slices ![0, 128 * (c / 512)] S64x128 :=
  ⟨rfl, fun a => by
    match a with
    | ⟨0, _⟩ => show 0 + 64 ≤ 64; omega
    | ⟨1, _⟩ => show 128 * (c / 512) + 128 ≤ 4096; omega⟩

/-- The bytes of the block of codes whose first column is `c`, before they become numbers. -/
def bytesAt (c : Nat) (hc : c + 128 ≤ 16384) (x1 : Vec F S256x4096 .i8) : IVec S256x128 8 :=
  bitcast S256x128 8
    (andi
      (shrsi
        (dynamicGather 1
          (extractStridedSlice S64x128 ![0, 128 * (c / 512)] (k0_pay9 (F := F) x1) (slice_ok c hc))
          (shapeCast S64x128 (shapeCast S64x128x1 (laneVec (BitVec.ofNat 32 (32 * (c / 128 % 4)))) shapeCasts_S64x128_S64x128x1)
            shapeCasts_S64x128x1_S64x128))
        shiftVec)
      (broadcast S64x128 50529027#32))
    bitcasts_S64x128_w32_S256x128_w8

/-- The block of codes whose first column is `c`, as the kernel writes it. -/
def blockAt (c : Nat) (hc : c + 128 ≤ 16384) (x1 : Vec F S256x4096 .i8) : FVec F S256x128 .bf16 :=
  shapeCast S256x128
    (subf (sitofp .bf16 (bytesAt c hc x1)) (broadcast S256x128 (Scalar.ofBits .bf16 0x3F80#16)))
    shapeCasts_S256x128_S256x128

/-- The code at row `r`, column `d` of the whole block: field `d % 4` of byte `d / 4`, less one. -/
def codeAt (x1 : Vec F S256x4096 .i8) (y : S256x16384.Idx) : F .bf16 :=
  FloatOps.subf
    (FloatOps.sitofp .bf16 (field (x1 (ix2 (y 0 : Fin 256) (⟨(y 1).val / 4, by have : (y 1).val < 16384 := (y 1).isLt; omega⟩ : Fin 4096))) ((y 1).val % 4)))
    (Scalar.ofBits .bf16 0x3F80#16)

/-- The word mask keeps the two low bits of each byte. -/
theorem mask_getLsbD (q : Nat) (hq : q < 32) : (50529027#32 : BitVec 32).getLsbD q = decide (q % 8 < 2) := by
  have h : ∀ q : Fin 32, (50529027#32 : BitVec 32).getLsbD q.val = decide (q.val % 8 < 2) := by decide
  exact h ⟨q, hq⟩

theorem three_getLsbD (i : Nat) (hi : i < 8) : (3#8 : BitVec 8).getLsbD i = decide (i < 2) := by
  have h : ∀ i : Fin 8, (3#8 : BitVec 8).getLsbD i.val = decide (i.val < 2) := by decide
  exact h ⟨i, hi⟩

/-- The gathered word of row `a` and lane `l`: the word of that row at column `c / 4 + l / 4`. -/
theorem gathered_apply (c : Nat) (hc : c + 128 ≤ 16384) (h0 : c % 128 = 0) (x1 : Vec F S256x4096 .i8) (a : Fin 64) (l : Fin 128) :
    dynamicGather 1 (extractStridedSlice S64x128 ![0, 128 * (c / 512)] (k0_pay9 (F := F) x1) (slice_ok c hc))
        (shapeCast S64x128 (shapeCast S64x128x1 (laneVec (BitVec.ofNat 32 (32 * (c / 128 % 4)))) shapeCasts_S64x128_S64x128x1)
          shapeCasts_S64x128x1_S64x128) (ix2 a l)
      = k0_pay9 (F := F) x1 (ix2 a (⟨(c + l.val) / 4, by omega⟩ : Fin 4096)) := by
  rw [shapeCast_shapeCast]
  have hl := laneVec_apply ⟨c / 128 % 4, by omega⟩ a l
  dsimp only at hl
  unfold dynamicGather extractStridedSlice
  dsimp only
  congr 1
  funext b
  match b with
  | ⟨0, _⟩ => exact Fin.ext (by show 0 + a.val = a.val; omega)
  | ⟨1, _⟩ =>
    refine Fin.ext ?_
    show 128 * (c / 512) + (laneVec (BitVec.ofNat 32 (32 * (c / 128 % 4))) (ix2 a l)).toNat % 128 = (c + l.val) / 4
    rw [hl, BitVec.toNat_ofNat]
    omega

/-- The byte at row `r` and lane `l` of a block is a two-bit field of a packed byte of the same row. -/
theorem bytesAt_apply (c : Nat) (hc : c + 128 ≤ 16384) (h0 : c % 128 = 0) (x1 : Vec F S256x4096 .i8) (r : Fin 256) (l : Fin 128) :
    bytesAt c hc x1 (ix2 r l) = field (x1 (ix2 r (⟨(c + l.val) / 4, by omega⟩ : Fin 4096))) ((c + l.val) % 4) := by
  apply BitVec.eq_of_getLsbD_eq
  intro i hi
  unfold bytesAt
  rw [bitcast_getLsbD _ _ _ i hi (by decide)]
  have hrow : (S256x128.row (ix2 r l)) = r.val := rfl
  have hidx : ∀ hp, (bitcasts_S64x128_w32_S256x128_w8 : S64x128.Bitcasts 32 S256x128 8).srcIdx (ix2 r l) ((S256x128.row (ix2 r l) * 8 + i) / 32) hp
      = ix2 (⟨r.val / 4, by omega⟩ : Fin 64) l := by
    intro hp
    funext b
    match b with
    | ⟨0, _⟩ => exact Fin.ext ((Shape.Bitcasts.srcIdx_row _ _ _ _ ⟨0, Nat.zero_lt_two⟩ rfl).trans (by rw [hrow]; show _ = r.val / 4; omega))
    | ⟨1, _⟩ => exact Fin.ext (Shape.Bitcasts.srcIdx_other _ _ _ _ ⟨1, Nat.one_lt_two⟩ (by show ¬ 1 + 2 = 2; omega))
  rw [hidx, hrow]
  have hs : (r.val * 8 + i) % 32 = 8 * (r.val % 4) + i := by omega
  rw [hs]
  show (IntOp.andi (IntOp.shrsi .vector (dynamicGather 1 _ _ (ix2 (⟨r.val / 4, by omega⟩ : Fin 64) l)) (shiftVec (ix2 (⟨r.val / 4, by omega⟩ : Fin 64) l))) 50529027#32).getLsbD _ = _
  rw [gathered_apply c hc h0, shiftVec_apply]
  unfold IntOp.andi field
  rw [BitVec.getLsbD_and, BitVec.getLsbD_and, mask_getLsbD _ (by omega), three_getLsbD i hi]
  have hm : (8 * (r.val % 4) + i) % 8 = i := by omega
  rw [hm]
  by_cases h2 : i < 2
  · have hsh : (IntOp.shrsi .vector (k0_pay9 (F := F) x1 (ix2 (⟨r.val / 4, by omega⟩ : Fin 64) (⟨(c + l.val) / 4, by omega⟩ : Fin 4096))) (BitVec.ofNat 32 (2 * (l.val % 4))))
        = BitVec.sshiftRight (k0_pay9 (F := F) x1 (ix2 (⟨r.val / 4, by omega⟩ : Fin 64) (⟨(c + l.val) / 4, by omega⟩ : Fin 4096))) (2 * (l.val % 4)) := by
      have e : (BitVec.ofNat 32 (2 * (l.val % 4))).toNat = 2 * (l.val % 4) := by rw [BitVec.toNat_ofNat]; omega
      unfold IntOp.shrsi
      rw [if_pos (by rw [e]; omega), BitVec.sshiftRight_eq', e]
    rw [hsh, BitVec.getLsbD_sshiftRight, BitVec.getLsbD_ushiftRight]
    have hlt : 2 * (l.val % 4) + (8 * (r.val % 4) + i) < 32 := by omega
    simp only [h2, decide_true, Bool.and_true, hlt, if_true, show ¬ 32 ≤ 8 * (r.val % 4) + i by omega, decide_false, Bool.not_false, Bool.true_and]
    unfold k0_pay9
    rw [bitcast_8_32_getLsbD_ix2 x1 _ _ _ _ hlt r (by show r.val = 4 * (r.val / 4) + _; omega)]
    congr 1
    omega
  · simp [h2]

/-- A block of codes is the matching block of `codeAt`. -/
theorem blockAt_eq (c : Nat) (hc : c + 128 ≤ 16384) (h0 : c % 128 = 0) (x1 : Vec F S256x4096 .i8)
    (inb : ∀ a, (![0, c] : Fin 2 → Nat) a + S256x128.size a ≤ S256x16384.size a) (x : S256x128.Idx) :
    blockAt c hc x1 x = codeAt x1 ((Rect.unit (s := S256x16384) ![0, c] S256x128.size inb).emb x) := by
  obtain ⟨r, l, rfl⟩ : ∃ (r : Fin 256) (l : Fin 128), x = ix2 r l := ⟨x 0, x 1, eq_ix2 x⟩
  unfold blockAt
  rw [shapeCast_self]
  show FloatOps.subf (FloatOps.sitofp .bf16 (bytesAt c hc x1 (ix2 r l))) (Scalar.ofBits .bf16 0x3F80#16) = _
  rw [bytesAt_apply c hc h0]
  have e0 : ((Rect.unit (s := S256x16384) ![0, c] S256x128.size inb).emb (ix2 r l) 0).val = r.val := by
    show 0 + 1 * r.val = r.val; omega
  have e1 : ((Rect.unit (s := S256x16384) ![0, c] S256x128.size inb).emb (ix2 r l) 1).val = c + l.val := by
    show c + 1 * l.val = c + l.val; omega
  unfold codeAt
  congr 3
  · congr 1
    funext b
    match b with
    | ⟨0, _⟩ => exact Fin.ext e0.symm
    | ⟨1, _⟩ => exact Fin.ext (by show (c + l.val) / 4 = _; rw [← e1])
  · rw [e1]

end Cert.KernelIdeal.Hand
-- ==== Proof.Blocks.lean ====
/- What one grid point leaves.  A point of a row block's first column block (case A) first widens the row block's codes
   into the carried scratch; every point then unpacks its block of weights into the other scratch, multiplies, and scales.
   Here: the output block of each case and the carried scratch as plain functions of the blocks the point reads. -/
module

public import proofs.«01_k».proof.Proof.Unpack
public import proofs.«01_k».proof.Proof.Gen.KernelIdeal.Value
public import Idealize.ShloMosaic.Lib.Pipeline.ReadBack

@[expose] public section

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem

variable {F : FTy → Type} [FloatOps F]

/-- A list of stores whose first is the block of codes at column `c`, the rest being blocks of `codeAt` too. -/
theorem pieces_cons (c : Nat) (hc : c + 128 ≤ 16384) (h0 : c % 128 = 0) (x1 : Vec F S256x4096 .i8)
    (inb : ∀ a, (![0, c] : Fin 2 → Nat) a + S256x128.size a ≤ S256x16384.size a) (w : FVec F S256x128 .bf16) (hw : w = blockAt c hc x1)
    (L : List (View.Piece (Elt F) S256x16384 .bf16)) (hL : View.PiecesOf (codeAt x1) L) :
    View.PiecesOf (codeAt x1) ((⟨Rect.unit ![0, c] S256x128.size inb, w⟩ : View.Piece (Elt F) S256x16384 .bf16) :: L) :=
  ⟨fun x => (congrFun hw x).trans (blockAt_eq c hc h0 x1 inb x), hL⟩

theorem hz2 : (![0, 0] : Fin 2 → Nat) = fun _ => 0 := by funext a; match a with | ⟨0, _⟩ => rfl | ⟨1, _⟩ => rfl
theorem hz1 : (![0] : Fin 1 → Nat) = fun _ => 0 := by funext a; match a with | ⟨0, _⟩ => rfl

/-- The output block of a point of case B: the product of the carried codes and the unpacked weights, scaled. -/
theorem out_B (c : Dev nD) (i : grid0.Coords) (arg2 : Memref sig .tc .vmem S512x16384 .i8) (harg2 : arg2.IsWhole) (arg3 : Memref sig .tc .vmem S256x4096 .i8) (harg3 : arg3.IsWhole) (arg4 : Memref sig .tc .vmem S512x1 .f32) (harg4 : arg4.IsWhole) (arg5 : Memref sig .tc .smem S1 .f32) (harg5 : arg5.IsWhole) (arg6 : Memref sig .tc .vmem S512x256 .bf16) (harg6 : arg6.IsWhole) (arg7 : Memref sig .tc .vmem S512x16384 .bf16) (harg7 : arg7.IsWhole) (arg8 : Memref sig .tc .vmem S256x16384 .bf16) (harg8 : arg8.IsWhole) (hc0 : ¬cond0_0 i)
    (x0 : Vec F S512x16384 .i8) (x1 : Vec F S256x4096 .i8) (x2 : Vec F S512x1 .f32) (x3 : Vec F S1 .f32) (xs0 : Vec F S512x16384 .bf16) :
    out0_B_4 c i arg2 harg2 arg3 harg3 arg4 harg4 arg5 harg5 arg6 harg6 arg7 harg7 arg8 harg8 hc0 x0 x1 x2 x3 xs0
      = k0_pay2 xs0 (codeAt x1) x2 (x3 (ix1 (0 : Fin 1))) := by
  unfold out0_B_4
  rw [View.read_writes_eq_canon _ _ _ (cover0_B_4 c i arg2 harg2 arg3 harg3 arg4 harg4 arg5 harg5 arg6 harg6 arg7 harg7 arg8 harg8 hc0 x0 x1 x2 x3 xs0)]
  unfold kernelRun0_B
  dsimp only
  sl_unfold_words
  rw [View.canon_unit_zero hz2]
  simp only [View.readAt_eq_ld, harg3.read_unread, harg4.read_unread, harg5.read_unread, harg7.read_unread, View.ld_unit_zero (S := S256x4096) hz2,
    View.ld_unit_zero (S := S512x1) hz2, View.ld_unit_zero (S := S1) hz1, View.ld_unit_zero (S := S512x16384) hz2]
  congr 1
  · rw [View.readCov_eq_canon']
    funext y
    refine (View.canon_apply_of_pieces (codeAt x1) _ (View.PiecesOf.mem ?_) _ ?_).trans ?_
    · repeat refine pieces_cons _ (by decide) (by decide) x1 _ _ (by rfl) _ ?_
      exact trivial
    · exact View.cover_of_tiled _ ![256, 128] (by rfl) _
    · exact congrFun (View.ld_unit_zero (S := S256x16384) hz2 inb_S256x16384_S256x16384_0_0 (Val := Elt F) (e := .bf16) (codeAt x1)) y
  · exact (congrFun (View.ld_unit_zero (S := S1) hz1 inb_S1_S1_0 x3) _).trans (congrArg x3 (by funext a; match a with | ⟨0, _⟩ => rfl))

/-- Every store of one trip of the loop is a block of the widened codes. -/
theorem trip_pieces (c : Dev nD) (i : grid0.Coords) (arg2 : Memref sig .tc .vmem S512x16384 .i8) (harg2 : arg2.IsWhole) (arg3 : Memref sig .tc .vmem S256x4096 .i8) (harg3 : arg3.IsWhole) (arg4 : Memref sig .tc .vmem S512x1 .f32) (harg4 : arg4.IsWhole) (arg5 : Memref sig .tc .smem S1 .f32) (harg5 : arg5.IsWhole) (arg6 : Memref sig .tc .vmem S512x256 .bf16) (harg6 : arg6.IsWhole) (arg7 : Memref sig .tc .vmem S512x16384 .bf16) (harg7 : arg7.IsWhole) (arg8 : Memref sig .tc .vmem S256x16384 .bf16) (harg8 : arg8.IsWhole) (hc0 : cond0_0 i)
    (x0 : Vec F S512x16384 .i8) (k : Fin k0_t1_loop.trips) :
    ∀ p ∈ tripL_k0_t1 (F := F) Variants.none c none i arg2 harg2 arg3 harg3 arg4 harg4 arg5 harg5 arg6 harg6 arg7 harg7 arg8 harg8 hc0 (harg2.unread x0) k,
      ∀ x : p.1.shape.Idx, p.2 x = (sitofp .bf16 x0 : FVec F S512x16384 .bf16) (p.1.emb x) := by
  refine View.PiecesOf.mem ?_
  unfold tripL_k0_t1 trip_k0_t1
  dsimp only
  sl_unfold_words
  simp only [View.readAt_eq_ld, harg2.read_unread]
  refine ⟨fun x => ?_, trivial⟩
  dsimp only
  unfold k0_pay3
  rw [shapeCast_self]
  rfl

/-- Every store of the first `k` trips of the loop is a block of the widened codes. -/
theorem loop_pieces (c : Dev nD) (i : grid0.Coords) (arg2 : Memref sig .tc .vmem S512x16384 .i8) (harg2 : arg2.IsWhole) (arg3 : Memref sig .tc .vmem S256x4096 .i8) (harg3 : arg3.IsWhole) (arg4 : Memref sig .tc .vmem S512x1 .f32) (harg4 : arg4.IsWhole) (arg5 : Memref sig .tc .smem S1 .f32) (harg5 : arg5.IsWhole) (arg6 : Memref sig .tc .vmem S512x256 .bf16) (harg6 : arg6.IsWhole) (arg7 : Memref sig .tc .vmem S512x16384 .bf16) (harg7 : arg7.IsWhole) (arg8 : Memref sig .tc .vmem S256x16384 .bf16) (harg8 : arg8.IsWhole) (hc0 : cond0_0 i)
    (x0 : Vec F S512x16384 .i8) (k : Nat) :
    ∀ p ∈ pb_k0_t1 (F := F) Variants.none c none i arg2 harg2 arg3 harg3 arg4 harg4 arg5 harg5 arg6 harg6 arg7 harg7 arg8 harg8 hc0 (harg2.unread x0) k,
      ∀ x : p.1.shape.Idx, p.2 x = (sitofp .bf16 x0 : FVec F S512x16384 .bf16) (p.1.emb x) := by
  induction k with
  | zero => intro p hp; simp [pb_k0_t1] at hp
  | succ k ih =>
    rw [pb_k0_t1.eq_2]
    unfold pb_k0_t1Step
    split
    · rename_i h
      intro p hp
      rcases List.mem_append.mp hp with hp | hp
      · exact trip_pieces c i arg2 harg2 arg3 harg3 arg4 harg4 arg5 harg5 arg6 harg6 arg7 harg7 arg8 harg8 hc0 x0 ⟨k, h⟩ p hp
      · exact ih p hp
    · exact ih

/-- After a point of case A the carried scratch holds the row block's codes, widened. -/
theorem carried_A (c : Dev nD) (i : grid0.Coords) (arg2 : Memref sig .tc .vmem S512x16384 .i8) (harg2 : arg2.IsWhole) (arg3 : Memref sig .tc .vmem S256x4096 .i8) (harg3 : arg3.IsWhole) (arg4 : Memref sig .tc .vmem S512x1 .f32) (harg4 : arg4.IsWhole) (arg5 : Memref sig .tc .smem S1 .f32) (harg5 : arg5.IsWhole) (arg6 : Memref sig .tc .vmem S512x256 .bf16) (harg6 : arg6.IsWhole) (arg7 : Memref sig .tc .vmem S512x16384 .bf16) (harg7 : arg7.IsWhole) (arg8 : Memref sig .tc .vmem S256x16384 .bf16) (harg8 : arg8.IsWhole) (hc0 : cond0_0 i)
    (x0 : Vec F S512x16384 .i8) (x1 : Vec F S256x4096 .i8) (x2 : Vec F S512x1 .f32) (x3 : Vec F S1 .f32) :
    sout0_A_0 c i arg2 harg2 arg3 harg3 arg4 harg4 arg5 harg5 arg6 harg6 arg7 harg7 arg8 harg8 hc0 x0 x1 x2 x3
      = sitofp .bf16 x0 := by
  unfold sout0_A_0
  rw [View.read_writes_eq_canon _ _ _ (scover0_A_0 c i arg2 harg2 arg3 harg3 arg4 harg4 arg5 harg5 arg6 harg6 arg7 harg7 arg8 harg8 hc0 x0 x1 x2 x3)]
  funext y
  refine View.canon_apply_of_pieces (sitofp .bf16 x0 : FVec F S512x16384 .bf16) _ ?_ y
    (scover0_A_0 c i arg2 harg2 arg3 harg3 arg4 harg4 arg5 harg5 arg6 harg6 arg7 harg7 arg8 harg8 hc0 x0 x1 x2 x3 y)
  unfold kernelRun0_A
  dsimp only
  sl_unfold_words
  exact loop_pieces c i arg2 harg2 arg3 harg3 arg4 harg4 arg5 harg5 arg6 harg6 arg7 harg7 arg8 harg8 hc0 x0 _

/-- The output block of a point of case A: the product of the row block's widened codes and the unpacked weights, scaled. -/
theorem out_A (c : Dev nD) (i : grid0.Coords) (arg2 : Memref sig .tc .vmem S512x16384 .i8) (harg2 : arg2.IsWhole) (arg3 : Memref sig .tc .vmem S256x4096 .i8) (harg3 : arg3.IsWhole) (arg4 : Memref sig .tc .vmem S512x1 .f32) (harg4 : arg4.IsWhole) (arg5 : Memref sig .tc .smem S1 .f32) (harg5 : arg5.IsWhole) (arg6 : Memref sig .tc .vmem S512x256 .bf16) (harg6 : arg6.IsWhole) (arg7 : Memref sig .tc .vmem S512x16384 .bf16) (harg7 : arg7.IsWhole) (arg8 : Memref sig .tc .vmem S256x16384 .bf16) (harg8 : arg8.IsWhole) (hc0 : cond0_0 i)
    (x0 : Vec F S512x16384 .i8) (x1 : Vec F S256x4096 .i8) (x2 : Vec F S512x1 .f32) (x3 : Vec F S1 .f32) :
    out0_A_4 c i arg2 harg2 arg3 harg3 arg4 harg4 arg5 harg5 arg6 harg6 arg7 harg7 arg8 harg8 hc0 x0 x1 x2 x3
      = k0_pay2 (sitofp .bf16 x0) (codeAt x1) x2 (x3 (ix1 (0 : Fin 1))) := by
  unfold out0_A_4
  rw [View.read_writes_eq_canon _ _ _ (cover0_A_4 c i arg2 harg2 arg3 harg3 arg4 harg4 arg5 harg5 arg6 harg6 arg7 harg7 arg8 harg8 hc0 x0 x1 x2 x3)]
  unfold kernelRun0_A
  dsimp only
  sl_unfold_words
  rw [View.canon_unit_zero hz2]
  simp only [View.readAt_eq_ld, harg3.read_unread, harg4.read_unread, harg5.read_unread, View.ld_unit_zero (S := S256x4096) hz2,
    View.ld_unit_zero (S := S512x1) hz2, View.ld_unit_zero (S := S1) hz1]
  congr 1
  · rw [View.readCov_eq_canon']
    funext y
    refine (View.canon_apply_of_pieces (sitofp .bf16 x0 : FVec F S512x16384 .bf16) _
      (loop_pieces c i arg2 harg2 arg3 harg3 arg4 harg4 arg5 harg5 arg6 harg6 arg7 harg7 arg8 harg8 hc0 x0 _) _
      (scover0_A_0 c i arg2 harg2 arg3 harg3 arg4 harg4 arg5 harg5 arg6 harg6 arg7 harg7 arg8 harg8 hc0 x0 x1 x2 x3 _)).trans ?_
    exact congrFun (View.ld_unit_zero (S := S512x16384) hz2 inb_S512x16384_S512x16384_0_0 (Val := Elt F) (e := .bf16) (sitofp .bf16 x0)) y
  · rw [View.readCov_eq_canon']
    funext y
    refine (View.canon_apply_of_pieces (codeAt x1) _ (View.PiecesOf.mem ?_) _ ?_).trans ?_
    · repeat refine pieces_cons _ (by decide) (by decide) x1 _ _ (by rfl) _ ?_
      exact trivial
    · exact View.cover_of_tiled _ ![256, 128] (by rfl) _
    · exact congrFun (View.ld_unit_zero (S := S256x16384) hz2 inb_S256x16384_S256x16384_0_0 (Val := Elt F) (e := .bf16) (codeAt x1)) y
  · exact (congrFun (View.ld_unit_zero (S := S1) hz1 inb_S1_S1_0 x3) _).trans (congrArg x3 (by funext a; match a with | ⟨0, _⟩ => rfl))

end Cert.KernelIdeal.Hand
-- ==== Proof.Array.lean ====
/- The whole product as an array.  Here: the blocks each grid point reads, as places of the arguments; that the carried
   scratch always holds the current row block's codes; and the array the kernel leaves, at an index, over the reals. -/
module

public import proofs.«01_k».proof.Proof.Blocks
public import Idealize.ShloMosaic.Lib.Pointwise

@[expose] public section

set_option maxRecDepth 16384

noncomputable section

namespace Cert.KernelIdeal.Hand

open Cert.KernelIdeal Cert.KernelIdeal.Gen Idealize.ShloMosaic Idealize.ShloMosaic.TcCoe Idealize.SL.Sem

section Points

variable {F : FTy → Type} [FloatOps F]
variable (m : (ℓ : Loc nD τ sig) → Buf (Elt F) ℓ)

theorem idx0 : ∀ t : Fin cfg0.N, win0_0.index t (0 : Fin 2) = t.val / 28 ∧ win0_0.index t (1 : Fin 2) = 0 :=
  (by decide +kernel : ∀ t : Fin grid0.N, _)
theorem idx1 : ∀ t : Fin cfg0.N, win0_1.index t (0 : Fin 2) = t.val % 28 ∧ win0_1.index t (1 : Fin 2) = 0 :=
  (by decide +kernel : ∀ t : Fin grid0.N, _)
theorem idx2 : ∀ t : Fin cfg0.N, win0_2.index t (0 : Fin 2) = t.val / 28 ∧ win0_2.index t (1 : Fin 2) = 0 :=
  (by decide +kernel : ∀ t : Fin grid0.N, _)
theorem idx3 : ∀ t : Fin cfg0.N, win0_3.index t (0 : Fin 1) = 0 :=
  (by decide +kernel : ∀ t : Fin grid0.N, _)

/-- The codes' block at point `t` is row block `t / 28`. -/
theorem blk0 (c : Dev nD) (t : Fin cfg0.N) (r : Fin 512) (d : Fin 16384) (R : Fin 3072) (hR : R.val = t.val / 28 * 512 + r.val) :
    (iblk m c 0 t : Vec F S512x16384 .i8) (ix2 r d) = m ((c : Thread nD τ).loc main_arg0) (ix2 R d) := by
  obtain ⟨e0, e1⟩ := idx0 t
  show m ((c : Thread nD τ).loc main_arg0) (((cfg0.win 0).blk t).view.emb (ix2 r d)) = _
  congr 1
  funext a
  match a with
  | ⟨0, _⟩ => exact Fin.ext (by show win0_0.index t (0 : Fin 2) * 512 + 1 * r.val = R.val; rw [e0, hR]; omega)
  | ⟨1, _⟩ => exact Fin.ext (by show win0_0.index t (1 : Fin 2) * 16384 + 1 * d.val = d.val; rw [e1]; omega)

/-- The weights' block at point `t` is row block `t % 28`. -/
theorem blk1 (c : Dev nD) (t : Fin cfg0.N) (o : Fin 256) (k : Fin 4096) (O : Fin 7168) (hO : O.val = t.val % 28 * 256 + o.val) :
    (iblk m c 1 t : Vec F S256x4096 .i8) (ix2 o k) = m ((c : Thread nD τ).loc main_arg1) (ix2 O k) := by
  obtain ⟨e0, e1⟩ := idx1 t
  show m ((c : Thread nD τ).loc main_arg1) (((cfg0.win 1).blk t).view.emb (ix2 o k)) = _
  congr 1
  funext a
  match a with
  | ⟨0, _⟩ => exact Fin.ext (by show win0_1.index t (0 : Fin 2) * 256 + 1 * o.val = O.val; rw [e0, hO]; omega)
  | ⟨1, _⟩ => exact Fin.ext (by show win0_1.index t (1 : Fin 2) * 4096 + 1 * k.val = k.val; rw [e1]; omega)

/-- The row scales' block at point `t` is row block `t / 28`. -/
theorem blk2 (c : Dev nD) (t : Fin cfg0.N) (r : Fin 512) (R : Fin 3072) (hR : R.val = t.val / 28 * 512 + r.val) :
    (iblk m c 2 t : Vec F S512x1 .f32) (ix2 r (0 : Fin 1)) = m ((c : Thread nD τ).loc main_arg2) (ix2 R (0 : Fin 1)) := by
  obtain ⟨e0, e1⟩ := idx2 t
  show m ((c : Thread nD τ).loc main_arg2) (((cfg0.win 2).blk t).view.emb (ix2 r (0 : Fin 1))) = _
  congr 1
  funext a
  match a with
  | ⟨0, _⟩ => exact Fin.ext (by show win0_2.index t (0 : Fin 2) * 512 + 1 * r.val = R.val; rw [e0, hR]; omega)
  | ⟨1, _⟩ => exact Fin.ext (by show win0_2.index t (1 : Fin 2) * 1 + 1 * 0 = 0; rw [e1])

/-- The weight scale's block is the whole of it. -/
theorem blk3 (c : Dev nD) (t : Fin cfg0.N) :
    (iblk m c 3 t : Vec F S1 .f32) (ValueIdx.ix1 (0 : Fin 1)) = m ((c : Thread nD τ).loc main_arg3) (ix1 (0 : Fin 1)) := by
  have e0 := idx3 t
  show m ((c : Thread nD τ).loc main_arg3) (((cfg0.win 3).blk t).view.emb (ValueIdx.ix1 (0 : Fin 1))) = _
  congr 1
  funext a
  match a with
  | ⟨0, _⟩ => exact Fin.ext (by show win0_3.index t (0 : Fin 1) * 1 + 1 * 0 = 0; rw [e0])

/-- Two points of one row block read the same block of codes. -/
theorem blk0_congr (c : Dev nD) (t t' : Fin cfg0.N) (h : t.val / 28 = t'.val / 28) :
    (iblk m c 0 t : Vec F S512x16384 .i8) = iblk m c 0 t' := by
  have hN : t.val < 168 := lt_of_lt_of_eq t.isLt N_0
  funext x
  obtain ⟨r, d, rfl⟩ : ∃ (r : Fin 512) (d : Fin 16384), x = ix2 r d := ⟨x 0, x 1, eq_ix2 x⟩
  rw [blk0 m c t r d ⟨t.val / 28 * 512 + r.val, by omega⟩ rfl, blk0 m c t' r d ⟨t.val / 28 * 512 + r.val, by omega⟩ (by rw [← h])]

/-- After every point the carried scratch holds the codes of the point's row block, widened. -/
theorem carried (c : Dev nD) : ∀ (n : ℕ) (hn : n < cfg0.N), (outsAt0 m c n hn).2 = sitofp .bf16 (iblk m c 0 ⟨n, hn⟩ : Vec F S512x16384 .i8)
  | n, hn => by
    by_cases h0 : n % 28 = 0
    · have h := congrArg Prod.snd (outsAt0_A m c ⟨n, hn⟩ h0)
      refine h.trans ?_
      dsimp only
      exact carried_A ..
    · have h := congrArg Prod.snd (outsAt0_B m c ⟨n, hn⟩ h0)
      refine h.trans ?_
      dsimp only
      unfold sout0_B_0
      have hpos : 0 < n := Nat.pos_of_ne_zero fun h => h0 (by rw [h])
      rw [carried c (n - 1) (Nat.lt_of_le_of_lt (Nat.sub_le _ _) hn)]
      rw [blk0_congr m c ⟨n - 1, Nat.lt_of_le_of_lt (Nat.sub_le _ _) hn⟩ ⟨n, hn⟩ (by show (n - 1) / 28 = n / 28; omega)]
  termination_by n => n
  decreasing_by omega

/-- The output block every point leaves. -/
theorem left (c : Dev nD) (t : Fin cfg0.N) :
    (outsAt0 m c t.val t.isLt).1
      = k0_pay2 (sitofp .bf16 (iblk m c 0 t : Vec F S512x16384 .i8)) (codeAt (iblk m c 1 t : Vec F S256x4096 .i8)) (iblk m c 2 t : Vec F S512x1 .f32)
          ((iblk m c 3 t : Vec F S1 .f32) (ValueIdx.ix1 (0 : Fin 1))) := by
  by_cases h0 : t.val % 28 = 0
  · refine (congrArg Prod.fst (outsAt0_A m c t h0)).trans ?_
    dsimp only
    exact out_A ..
  · refine (congrArg Prod.fst (outsAt0_B m c t h0)).trans ?_
    dsimp only
    rw [out_B]
    have hpos : 0 < t.val := Nat.pos_of_ne_zero fun h => h0 (by rw [h])
    rw [carried m c (t.val - 1) (Nat.lt_of_le_of_lt (Nat.sub_le _ _) t.isLt),
      blk0_congr m c ⟨t.val - 1, Nat.lt_of_le_of_lt (Nat.sub_le _ _) t.isLt⟩ t (by show (t.val - 1) / 28 = t.val / 28; omega)]

end Points

section Ideal

variable (m : (ℓ : Loc nD τ sig) → Buf (Elt Ideal) ℓ)

/-- The scaled product block at an index, over the reals. -/
theorem pay2_apply (a : Vec Ideal S512x16384 .bf16) (b : Vec Ideal S256x16384 .bf16) (s : Vec Ideal S512x1 .f32) (w : EReal) (r : Fin 512) (o : Fin 256) :
    (k0_pay2 (F := Ideal) a b s w (ix2 r o) : EReal) = (∑ d : Fin 16384, a (ix2 r d) * b (ix2 o d)) * s (ix2 r (0 : Fin 1)) * w := by
  unfold k0_pay2
  simp only [pointwise]
  rw [zero_add]
  rfl

/-- The integer a two-bit field stands for: the field less one. -/
def code (b : BitVec 8) (k : Nat) : EReal := (((field b k).toInt : ℝ) : EReal) - 1

/-- A weight of the block, over the reals: field `d % 4` of byte `d / 4` of its row, less one. -/
theorem codeAt_apply (x1 : Vec Ideal S256x4096 .i8) (o : Fin 256) (d : Fin 16384) :
    (codeAt (F := Ideal) x1 (ix2 o d) : EReal) = code (x1 (ix2 o (⟨d.val / 4, by omega⟩ : Fin 4096))) (d.val % 4) := by
  unfold codeAt code
  rw [Ideal.subf_def, Ideal.ofBits_def]
  have h1 : Ideal.ofBits .bf16 0x3F80#16 = 1 := Ideal.ofBits_one_bf16
  rw [h1]
  rfl

/-- The scaled product of the codes with the unpacked weights, at an index, over the reals. -/
def product (x : Vec Ideal S3072x16384 .i8) (w : Vec Ideal S7168x4096 .i8) (s : Vec Ideal S3072x1 .f32) (u : Vec Ideal S1 .f32) (R : Fin 3072) (O : Fin 7168) : EReal :=
  (∑ d : Fin 16384, (((x (ix2 R d)).toInt : ℝ) : EReal) * code (w (ix2 O (⟨d.val / 4, by omega⟩ : Fin 4096))) (d.val % 4))
    * s (ix2 R (0 : Fin 1)) * u (ix1 (0 : Fin 1))

/-- The scaled product of a block of codes with a block of packed weights, at an index. -/
theorem pay2_codes (x0 : Vec Ideal S512x16384 .i8) (x1 : Vec Ideal S256x4096 .i8) (s : Vec Ideal S512x1 .f32) (w : EReal) (r : Fin 512) (o : Fin 256) :
    (k0_pay2 (F := Ideal) (sitofp (F := Ideal) .bf16 x0) (codeAt x1) s w (ix2 r o) : EReal)
      = (∑ d : Fin 16384, (((x0 (ix2 r d)).toInt : ℝ) : EReal) * code (x1 (ix2 o (⟨d.val / 4, by omega⟩ : Fin 4096))) (d.val % 4)) * s (ix2 r (0 : Fin 1)) * w := by
  rw [pay2_apply]
  refine congrArg (fun z : EReal => z * s (ix2 r (0 : Fin 1)) * w) (Finset.sum_congr rfl fun d _ => ?_)
  rw [codeAt_apply]
  rfl

/-- The block a grid point leaves, at an index. -/
theorem block_apply (c : Dev nD) (t : Fin cfg0.N) (r : Fin 512) (o : Fin 256) (R : Fin 3072) (O : Fin 7168)
    (hR : R.val = t.val / 28 * 512 + r.val) (hO : O.val = t.val % 28 * 256 + o.val) :
    ((outsAt0 m c t.val t.isLt).1 (ix2 r o) : EReal)
      = product (m ((c : Thread nD τ).loc main_arg0)) (m ((c : Thread nD τ).loc main_arg1)) (m ((c : Thread nD τ).loc main_arg2)) (m ((c : Thread nD τ).loc main_arg3)) R O := by
  rw [left m c t, pay2_codes, blk2 m c t r R hR, blk3]
  unfold product
  simp only [blk0 m c t r _ R hR, blk1 m c t o _ O hO]

/-- **What the kernel's product computes.**  Every place of the array it leaves is the scaled product. -/
theorem array_apply (c : Dev nD) (R : Fin 3072) (O : Fin 7168) :
    (Value.G4 m c (ix2 R O) : EReal)
      = product (m ((c : Thread nD τ).loc main_arg0)) (m ((c : Thread nD τ).loc main_arg1)) (m ((c : Thread nD τ).loc main_arg2)) (m ((c : Thread nD τ).loc main_arg3)) R O := by
  have hp : Value.pt4Of (ix2 R O) = 28 * (R.val / 512) + O.val / 256 := by
    show 28 * (R.val / 512 - 0) + 1 * (O.val / 256 - 0) = _; omega
  have hN : Value.pt4Of (ix2 R O) < cfg0.N := lt_of_lt_of_eq (by rw [hp]; omega) N_0.symm
  have hl : Value.loc4Of (ix2 R O) = ix2 (⟨R.val % 512, by omega⟩ : Fin 512) (⟨O.val % 256, by omega⟩ : Fin 256) := by
    funext a
    match a with
    | ⟨0, _⟩ => rfl
    | ⟨1, _⟩ => rfl
  unfold Value.G4
  rw [dif_pos hN, ← Value.outsAt0_sweep, hl]
  exact block_apply m c ⟨_, hN⟩ _ _ R O (by dsimp only; rw [hp]; omega) (by dsimp only; rw [hp]; omega)

end Ideal

end Cert.KernelIdeal.Hand
-- ==== Proof.RefRead.lean ====
/- The reference's result at an index, over the reals: a sum over the four fields and the bytes of a row. -/
module

public import proofs.«01_k».proof.Proof.Gen.ReferenceIdeal.Run
public import Idealize.ShloMosaic.Lib.Pointwise

@[expose] public section

set_option maxRecDepth 16384

noncomputable section

namespace Cert.ReferenceIdeal.Hand

open Cert.ReferenceIdeal Cert.ReferenceIdeal.Gen Idealize.ShloMosaic Idealize.ShloMosaic.TcCoe Idealize.SL.Sem

/-- A field of every byte, less one, as the reference unpacks it. -/
def unpacked {F : FTy → Type} [FloatOps F] (k : BitVec 32) (w : Vec F S7168x4096 .i8) : Vec F S7168x4096 .bf16 :=
  sitofp .bf16 (subi (andi (Host.shrsi (extui 32 w natLt_8_32) (broadcastInDim S7168x4096 ![] bcast_S_S7168x4096 (constantI S_ 32 k)))
    (broadcastInDim S7168x4096 ![] bcast_S_S7168x4096 (constantI S_ 32 3#32))) (broadcastInDim S7168x4096 ![] bcast_S_S7168x4096 (constantI S_ 32 1#32)))

/-- The four unpacked fields, stacked. -/
def stacked {F : FTy → Type} [FloatOps F] (w : Vec F S7168x4096 .i8) : Vec F S4x7168x4096 .bf16 :=
  Value.fn_main_v33 (F := F) (broadcastInDim S1x7168x4096 ![1, 2] bcast_S7168x4096_S1x7168x4096_1_2 (unpacked 0#32 w))
    (broadcastInDim S1x7168x4096 ![1, 2] bcast_S7168x4096_S1x7168x4096_1_2 (unpacked 2#32 w))
    (broadcastInDim S1x7168x4096 ![1, 2] bcast_S7168x4096_S1x7168x4096_1_2 (unpacked 4#32 w))
    (broadcastInDim S1x7168x4096 ![1, 2] bcast_S7168x4096_S1x7168x4096_1_2 (unpacked 6#32 w))

/-- The codes, split into the four fields. -/
def split {F : FTy → Type} [FloatOps F] (x : Vec F S3072x16384 .i8) : Vec F S3072x4x4096 .bf16 :=
  transpose S3072x4x4096 [0, 2, 1] (shapeCast _ (sitofp .bf16 (extsi 32 x natLt_8_32)) shapeCasts_S3072x16384_S3072x4096x4) transposes_S3072x4096x4_S3072x4x4096_0_2_1

/-- The reference's result as one term of its arguments. -/
def result {F : FTy → Type} [FloatOps F] (x : Vec F S3072x16384 .i8) (w : Vec F S7168x4096 .i8) (s : Vec F S3072x1 .f32) (u : Vec F S1 .f32) : Vec F S3072x7168 .bf16 :=
  truncf .bf16 (mulf (mulf (Host.dotGeneral dot_S3072x4x4096_S4x7168x4096_S3072x7168_12_02_0_1_n_n none (split x) (stacked w))
    (broadcastInDim S3072x7168 ![0, 1] bcast_S3072x1_S3072x7168_0_1 s)) (broadcastInDim S3072x7168 ![] bcast_S_S3072x7168 (shapeCast _ u shapeCasts_S1_S_))) bitsLt_bf16_f32

/-- A stacked weight is the unpacked field of its slab. -/
theorem stacked_apply (w : Vec Ideal S7168x4096 .i8) (f : Fin 4) (o : Fin 7168) (q : Fin 4096) :
    (stacked (F := Ideal) w (ix3 f o q) : EReal) = unpacked (F := Ideal) (BitVec.ofNat 32 (2 * f.val)) w (ix2 o q) := by
  unfold stacked Value.fn_main_v33
  simp only [pointwise]
  fin_cases f <;> rfl

/-- A code of field `f` and byte `q` is the row's code `4 q + f`, as an integer. -/
theorem split_apply (x : Vec Ideal S3072x16384 .i8) (r : Fin 3072) (f : Fin 4) (q : Fin 4096) :
    (split (F := Ideal) x (ix3 r f q) : EReal) = (((x (ix2 r (⟨q.val * 4 + f.val, by omega⟩ : Fin 16384))).toInt : ℝ) : EReal) := by
  unfold split
  simp only [pointwise]
  show (((BitVec.signExtend 32 (x (ix2 r _))).toInt : ℝ) : EReal) = _
  rw [BitVec.toInt_signExtend_of_le (by decide)]

/-- **What the reference computes.**  A place of its result: the products summed over the four fields and the bytes of
    a row, scaled. -/
theorem result_apply (x : Vec Ideal S3072x16384 .i8) (w : Vec Ideal S7168x4096 .i8) (s : Vec Ideal S3072x1 .f32) (u : Vec Ideal S1 .f32) (r : Fin 3072) (o : Fin 7168) :
    (result (F := Ideal) x w s u (ix2 r o) : EReal)
      = (∑ f : Fin 4, ∑ q : Fin 4096, split (F := Ideal) x (ix3 r f q) * stacked (F := Ideal) w (ix3 f o q)) * s (ix2 r (0 : Fin 1)) * u (ix1 (0 : Fin 1)) := by
  unfold result
  simp only [pointwise]
  rw [zero_add]
  rfl

end Cert.ReferenceIdeal.Hand
-- ==== Proof.Equation.lean ====
/- The kernel's product and the reference's result are one array: the sum over a row's places is the sum over fields and
   bytes, and the two spellings of a weight's field are one integer. -/
module

public import proofs.«01_k».proof.Proof.Array
public import proofs.«01_k».proof.Proof.RefRead

@[expose] public section

set_option maxRecDepth 16384

noncomputable section

namespace Cert.Hand

open Idealize.ShloMosaic Idealize.ShloMosaic.TcCoe
open Cert.KernelIdeal.Hand (field code product)
open Cert.ReferenceIdeal.Hand (result unpacked split stacked)

/-- Widening a byte, shifting and masking it is shifting and masking the byte. -/
theorem field_word : ∀ (f : Fin 4) (b : BitVec 8),
    (IntOp.subi (IntOp.andi (IntOp.shrsi .host (BitVec.setWidth 32 b) (BitVec.ofNat 32 (2 * f.val))) 3#32) 1#32).toInt = (field b f.val).toInt - 1 := by
  decide +kernel

/-- A weight, as the reference unpacks it, is the code of its field. -/
theorem unpacked_apply (f : Fin 4) (w : Vec Ideal Cert.ReferenceIdeal.S7168x4096 .i8) (o : Fin 7168) (q : Fin 4096) :
    (unpacked (F := Ideal) (BitVec.ofNat 32 (2 * f.val)) w (ix2 o q) : EReal) = code (w (ix2 o q)) f.val := by
  unfold unpacked code
  simp only [pointwise]
  refine (congrArg (fun z : ℤ => ((z : ℝ) : EReal)) (field_word f (w (ix2 o q)))).trans ?_
  simp

/-- A row's places are its bytes' fields. -/
theorem sum_fields (g : Fin 16384 → EReal) :
    ∑ d : Fin 16384, g d = ∑ f : Fin 4, ∑ q : Fin 4096, g (⟨q.val * 4 + f.val, by omega⟩ : Fin 16384) := by
  rw [Finset.sum_comm, ← Fintype.sum_prod_type' (f := fun (q : Fin 4096) (f : Fin 4) => g (⟨q.val * 4 + f.val, by omega⟩ : Fin 16384))]
  refine (Fintype.sum_equiv (finProdFinEquiv (m := 4096) (n := 4)) _ _ fun p => ?_).symm
  exact congrArg g (Fin.ext (by show p.1.val * 4 + p.2.val = p.2.val + 4 * p.1.val; omega))

/-- The kernel's product is the reference's result. -/
theorem equation (x : Vec Ideal Cert.ReferenceIdeal.S3072x16384 .i8) (w : Vec Ideal Cert.ReferenceIdeal.S7168x4096 .i8)
    (s : Vec Ideal Cert.ReferenceIdeal.S3072x1 .f32) (u : Vec Ideal Cert.ReferenceIdeal.S1 .f32) (r : Fin 3072) (o : Fin 7168) :
    product x w s u r o = result (F := Ideal) x w s u (ix2 r o) := by
  rw [Cert.ReferenceIdeal.Hand.result_apply]
  unfold product
  rw [sum_fields]
  refine congrArg (fun z : EReal => z * s (ix2 r (0 : Fin 1)) * u (ix1 (0 : Fin 1))) ?_
  refine Finset.sum_congr rfl fun f _ => Finset.sum_congr rfl fun q _ => ?_
  rw [Cert.ReferenceIdeal.Hand.split_apply, Cert.ReferenceIdeal.Hand.stacked_apply, unpacked_apply]
  have e1 : (⟨(q.val * 4 + f.val) / 4, by omega⟩ : Fin 4096) = q := Fin.ext (by show (q.val * 4 + f.val) / 4 = q.val; omega)
  have e2 : (q.val * 4 + f.val) % 4 = f.val := by omega
  dsimp only
  rw [e1, e2]

end Cert.Hand
-- ==== Proof.lean ====
/- The certificate of the ternary matrix product and of the two calls before it, which make the folded weight, the codes and
   the scales: their frames, the idealizations' `preserves`, and the two algebraic equations of a kernel with its reference.
   The matrix product: the frames are the generated runs; the kernel leaves the scaled product at every place
   (Proof/Array.lean), the reference's result is the same sum arranged by fields (Proof/RefRead.lean), and the two are
   equal (Proof/Equation.lean).
   Codes and scales: Proof/GainHadamard.lean reads the folded weight of the first call; the second call's loop and run are
   Proof/TransformLoop.lean and TransformRun.lean, the run of both is Proof/CodesFrame.lean (and the same over the bits
   under Proof/Bits/); the claims are assembled in Proof/TransformClaims.lean. -/
module

public import proofs.«01_k».proof.Defs
public import proofs.«01_k».proof.Proof.Gen.Kernel
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Codes
public import proofs.«01_k».proof.Proof.Bits.CodesFrame
public import proofs.«01_k».proof.Proof.TransformClaims
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The reference terminates with its arguments unchanged; it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference end with one array: the kernel's, shown equal to the reference's at every place. -/
theorem algebraic : Cert.algebraic_KernelIdeal_ReferenceIdeal (hKernelIdeal := Cert.KernelIdeal.Gen.facts) (hReferenceIdeal := Cert.ReferenceIdeal.Gen.facts) := by
  intro m ρ m' ρ' _ hagree
  refine ⟨fun c => Cert.KernelIdeal.Value.G4 m c, Cert.KernelIdeal.Value.run (F := Ideal) m ρ, ?_⟩
  refine (θ_run Cert.ReferenceIdeal.defs _ _).mono (fun _ h c => ⟨(h c).1.trans ?_, (h c).2⟩) (Cert.ReferenceIdeal.Value.run (F := Ideal) m' ρ')
  rw [(hagree c).1, (hagree c).2.1, (hagree c).2.2.1, (hagree c).2.2.2]
  funext i
  obtain ⟨r, o, rfl⟩ : ∃ (r : Fin 3072) (o : Fin 7168), i = ix2 r o := ⟨i 0, i 1, eq_ix2 i⟩
  exact ((Cert.KernelIdeal.Hand.array_apply m c r o).trans (Cert.Hand.equation _ _ _ _ r o)).symm

/-- The claims: the frames of the product and of codes and scales, then each one's `preserves` and equation. -/
theorem claim : Cert.Claim :=
  ⟨Cert.Kernel.Gen.facts, Cert.KernelIdeal.Gen.facts, Cert.ReferenceIdeal.Gen.facts,
    Cert.Codes.Gen.facts, Cert.CodesIdeal.Gen.facts, Cert.CodesRefIdeal.Gen.facts, Cert.Pre_folded_weight_is_finite.Hand.facts,
    fun m ρ _ => Cert.Kernel.Gen.frame m ρ, fun m ρ _ => Cert.KernelIdeal.Gen.frame m ρ, frame_reference,
    fun m ρ _ => Cert.Codes.Hand.frame m ρ, fun m ρ _ => Cert.CodesIdeal.Hand.frame m ρ, fun m ρ _ => Cert.CodesIdeal.Hand.frame m ρ,
    Cert.Codes.Claims.frame_reference, fun m ρ _ => Cert.Codes.Claims.frame_reference m ρ trivial,
    trivial, algebraic, trivial, Cert.Codes.Claims.algebraic⟩

end Cert.Proof

end
